-- ==== Defs.lean ====
def Pre_Kernel [hPre_ids_in_range : Cert.Pre_ids_in_range.Facts] (m : (ℓ : Loc Cert.Kernel.nD Cert.Kernel.τ Cert.Kernel.sig) → Buf (Elt Bits) ℓ) : Prop :=
  ∀ c : Dev Cert.Kernel.nD,
    (Cert.Pre_ids_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18))) = (fun _ => 1#1)

def Pre_KernelIdeal [hPre_ids_in_range : Cert.Pre_ids_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_ids_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_KernelIdeal_ids_in_range_and_finite [hPre_ids_in_range_and_finite : Cert.Pre_ids_in_range_and_finite.Facts] (m : (ℓ : Loc Cert.KernelIdeal.nD Cert.KernelIdeal.τ Cert.KernelIdeal.sig) → Buf (Elt Ideal) ℓ) : Prop :=
  ∀ c : Dev Cert.KernelIdeal.nD,
    (Cert.Pre_ids_in_range_and_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_ids_in_range_and_finite [hPre_ids_in_range_and_finite : Cert.Pre_ids_in_range_and_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_ids_in_range_and_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def quiescent_Kernel [hKernel : Cert.Kernel.Facts] [hPre_ids_in_range : Cert.Pre_ids_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))
      ∧ r.2.sem = fun _ => 0)

def quiescent_KernelIdeal [hKernelIdeal : Cert.KernelIdeal.Facts] [hPre_ids_in_range : Cert.Pre_ids_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ r.2.sem = fun _ => 0)

def quiescent_KernelIdeal_pre_ids_in_range_and_finite [hKernelIdeal : Cert.KernelIdeal.Facts] [hPre_ids_in_range_and_finite : Cert.Pre_ids_in_range_and_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_ids_in_range_and_finite m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))
      ∧ r.2.sem = fun _ => 0)

def quiescent_ReferenceIdeal_pre_ids_in_range_and_finite [hReferenceIdeal : Cert.ReferenceIdeal.Facts] [hPre_ids_in_range_and_finite : Cert.Pre_ids_in_range_and_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_ids_in_range_and_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))
      ∧ r.2.sem = fun _ => 0)

def preserves_Kernel_KernelIdeal : Prop :=
  True

def algebraic_KernelIdeal_ReferenceIdeal_pre_ids_in_range_and_finite [hKernelIdeal : Cert.KernelIdeal.Facts] [hReferenceIdeal : Cert.ReferenceIdeal.Facts] [hPre_ids_in_range_and_finite : Cert.Pre_ids_in_range_and_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_ids_in_range_and_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v72) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_ids_in_range : Cert.Pre_ids_in_range.Facts) (hPre_ids_in_range_and_finite : Cert.Pre_ids_in_range_and_finite.Facts),
    quiescent_Kernel (hKernel := hKernel) (hPre_ids_in_range := hPre_ids_in_range)
    ∧ quiescent_KernelIdeal (hKernelIdeal := hKernelIdeal) (hPre_ids_in_range := hPre_ids_in_range)
    ∧ quiescent_KernelIdeal_pre_ids_in_range_and_finite (hKernelIdeal := hKernelIdeal) (hPre_ids_in_range_and_finite := hPre_ids_in_range_and_finite)
    ∧ quiescent_ReferenceIdeal (hReferenceIdeal := hReferenceIdeal)
    ∧ quiescent_ReferenceIdeal_pre_ids_in_range_and_finite (hReferenceIdeal := hReferenceIdeal) (hPre_ids_in_range_and_finite := hPre_ids_in_range_and_finite)
    ∧ preserves_Kernel_KernelIdeal
    ∧ algebraic_KernelIdeal_ReferenceIdeal_pre_ids_in_range_and_finite (hKernelIdeal := hKernelIdeal) (hReferenceIdeal := hReferenceIdeal) (hPre_ids_in_range_and_finite := hPre_ids_in_range_and_finite)
-- ==== Pre_ids_in_range.lean ====
abbrev S16384x8 : Shape := ⟨2, ![16384, 8]⟩
abbrev S16384 : Shape := ⟨1, ![16384]⟩
abbrev S1500x64 : Shape := ⟨2, ![1500, 64]⟩
abbrev S8x128 : Shape := ⟨2, ![8, 128]⟩
abbrev S128 : Shape := ⟨1, ![128]⟩
abbrev S128x64 : Shape := ⟨2, ![128, 64]⟩
abbrev S64 : Shape := ⟨1, ![64]⟩
abbrev S128x128 : Shape := ⟨2, ![128, 128]⟩
abbrev S64x32 : Shape := ⟨2, ![64, 32]⟩
abbrev S32 : Shape := ⟨1, ![32]⟩
abbrev S32x1 : Shape := ⟨2, ![32, 1]⟩
abbrev S1 : Shape := ⟨1, ![1]⟩
abbrev S_ : Shape := ⟨0, ![]⟩

class Facts : Prop where
  bcast_S_S16384 : S_.BroadcastsInDim S16384 (![] : Fin 0 → Fin S16384.rank)
  reducesTo_S16384_S_d0 : S16384.ReducesTo [0] S_
  h_S_ : 0 < S_.numel

variable [Facts]

def fn {F : FTy → Type} [FloatOps F] (main_arg0 : FVec F S16384x8 .f32) (main_arg1 : IVec S16384 32) (main_arg2 : FVec F S1500x64 .f32) (main_arg3 : FVec F S8x128 .f32) (main_arg4 : FVec F S128 .f32) (main_arg5 : FVec F S128 .f32) (main_arg6 : FVec F S128 .f32) (main_arg7 : FVec F S128x64 .f32) (main_arg8 : FVec F S64 .f32) (main_arg9 : FVec F S128x128 .f32) (main_arg10 : FVec F S128 .f32) (main_arg11 : FVec F S128 .f32) (main_arg12 : FVec F S128 .f32) (main_arg13 : FVec F S128x64 .f32) (main_arg14 : FVec F S64 .f32) (main_arg15 : FVec F S64x32 .f32) (main_arg16 : FVec F S32 .f32) (main_arg17 : FVec F S32x1 .f32) (main_arg18 : FVec F S1 .f32) : IVec S_ 1 :=
  let main_c : IVec S_ 32 := constantI S_ 32 0#32
  let main_v0 : IVec S16384 32 := broadcastInDim S16384 ![] bcast_S_S16384 main_c
  let main_v1 : IVec S16384 1 := cmpi .sge main_arg1 main_v0
  let main_c_0 : IVec S_ 32 := constantI S_ 32 1500#32
  let main_v2 : IVec S16384 32 := broadcastInDim S16384 ![] bcast_S_S16384 main_c_0
  let main_v3 : IVec S16384 1 := cmpi .slt main_arg1 main_v2
  let main_v4 : IVec S16384 1 := andi main_v1 main_v3
  let main_c_1 : IVec S_ 1 := constantI S_ 1 1#1
  let main_v5 : IVec S_ 1 := (fun x v => Host.reduce IntOp.andi x v reducesTo_S16384_S_d0 h_S_) main_v4 main_c_1
  main_v5
-- ==== Pre_ids_in_range_and_finite.lean ====
abbrev S16384x8 : Shape := ⟨2, ![16384, 8]⟩
abbrev S16384 : Shape := ⟨1, ![16384]⟩
abbrev S1500x64 : Shape := ⟨2, ![1500, 64]⟩
abbrev S8x128 : Shape := ⟨2, ![8, 128]⟩
abbrev S128 : Shape := ⟨1, ![128]⟩
abbrev S128x64 : Shape := ⟨2, ![128, 64]⟩
abbrev S64 : Shape := ⟨1, ![64]⟩
abbrev S128x128 : Shape := ⟨2, ![128, 128]⟩
abbrev S64x32 : Shape := ⟨2, ![64, 32]⟩
abbrev S32 : Shape := ⟨1, ![32]⟩
abbrev S32x1 : Shape := ⟨2, ![32, 1]⟩
abbrev S1 : Shape := ⟨1, ![1]⟩
abbrev S_ : Shape := ⟨0, ![]⟩

class Facts : Prop where
  bcast_S_S16384 : S_.BroadcastsInDim S16384 (![] : Fin 0 → Fin S16384.rank)
  reducesTo_S16384_S_d0 : S16384.ReducesTo [0] S_
  h_S_ : 0 < S_.numel
  bcast_S_S16384x8 : S_.BroadcastsInDim S16384x8 (![] : Fin 0 → Fin S16384x8.rank)
  reducesTo_S16384x8_S_d0_1 : S16384x8.ReducesTo [0, 1] S_
  bcast_S_S1500x64 : S_.BroadcastsInDim S1500x64 (![] : Fin 0 → Fin S1500x64.rank)
  reducesTo_S1500x64_S_d0_1 : S1500x64.ReducesTo [0, 1] S_
  bcast_S_S8x128 : S_.BroadcastsInDim S8x128 (![] : Fin 0 → Fin S8x128.rank)
  reducesTo_S8x128_S_d0_1 : S8x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S128x128 : S_.BroadcastsInDim S128x128 (![] : Fin 0 → Fin S128x128.rank)
  reducesTo_S128x128_S_d0_1 : S128x128.ReducesTo [0, 1] S_

variable [Facts]

def fn_part3 {F : FTy → Type} [FloatOps F] (main_arg10 : FVec F S128 .f32) (main_arg11 : FVec F S128 .f32) (main_v50 : IVec S_ 1) : IVec S_ 1 :=
  let main_v51 : FVec F S128 .f32 := Host.absf main_arg10
  let main_cst_19 : FVec F S_ .f32 := constant S_ .f32 0x7F800000#32
  let main_v52 : FVec F S128 .f32 := broadcastInDim S128 ![] bcast_S_S128 main_cst_19
  let main_v53 : IVec S128 1 := cmpf .olt main_v51 main_v52
  let main_c_20 : IVec S_ 1 := constantI S_ 1 1#1
  let main_v54 : IVec S_ 1 := (fun x v => Host.reduce IntOp.andi x v reducesTo_S128_S_d0 h_S_) main_v53 main_c_20
  let main_v55 : IVec S_ 1 := andi main_v50 main_v54
  let main_v56 : FVec F S128 .f32 := Host.absf main_arg11
  let main_cst_21 : FVec F S_ .f32 := constant S_ .f32 0x7F800000#32
  let main_v57 : FVec F S128 .f32 := broadcastInDim S128 ![] bcast_S_S128 main_cst_21
  let main_v58 : IVec S128 1 := cmpf .olt main_v56 main_v57
  let main_c_22 : IVec S_ 1 := constantI S_ 1 1#1
  let main_v59 : IVec S_ 1 := (fun x v => Host.reduce IntOp.andi x v reducesTo_S128_S_d0 h_S_) main_v58 main_c_22
  let main_v60 : IVec S_ 1 := andi main_v55 main_v59
  main_v60

def fn_part2 {F : FTy → Type} [FloatOps F] (main_arg7 : FVec F S128x64 .f32) (main_arg8 : FVec F S64 .f32) (main_arg9 : FVec F S128x128 .f32) (main_arg10 : FVec F S128 .f32) (main_arg11 : FVec F S128 .f32) (main_v30 : IVec S_ 1) (main_v33 : IVec S128 1) : IVec S_ 1 :=
  let main_c_12 : IVec S_ 1 := constantI S_ 1 1#1
  let main_v34 : IVec S_ 1 := (fun x v => Host.reduce IntOp.andi x v reducesTo_S128_S_d0 h_S_) main_v33 main_c_12
  let main_v35 : IVec S_ 1 := andi main_v30 main_v34
  let main_v36 : FVec F S128x64 .f32 := Host.absf main_arg7
  let main_cst_13 : FVec F S_ .f32 := constant S_ .f32 0x7F800000#32
  let main_v37 : FVec F S128x64 .f32 := broadcastInDim S128x64 ![] bcast_S_S128x64 main_cst_13
  let main_v38 : IVec S128x64 1 := cmpf .olt main_v36 main_v37
  let main_c_14 : IVec S_ 1 := constantI S_ 1 1#1
  let main_v39 : IVec S_ 1 := (fun x v => Host.reduce IntOp.andi x v reducesTo_S128x64_S_d0_1 h_S_) main_v38 main_c_14
  let main_v40 : IVec S_ 1 := andi main_v35 main_v39
  let main_v41 : FVec F S64 .f32 := Host.absf main_arg8
  let main_cst_15 : FVec F S_ .f32 := constant S_ .f32 0x7F800000#32
  let main_v42 : FVec F S64 .f32 := broadcastInDim S64 ![] bcast_S_S64 main_cst_15
  let main_v43 : IVec S64 1 := cmpf .olt main_v41 main_v42
  let main_c_16 : IVec S_ 1 := constantI S_ 1 1#1
  let main_v44 : IVec S_ 1 := (fun x v => Host.reduce IntOp.andi x v reducesTo_S64_S_d0 h_S_) main_v43 main_c_16
  let main_v45 : IVec S_ 1 := andi main_v40 main_v44
  let main_v46 : FVec F S128x128 .f32 := Host.absf main_arg9
  let main_cst_17 : FVec F S_ .f32 := constant S_ .f32 0x7F800000#32
  let main_v47 : FVec F S128x128 .f32 := broadcastInDim S128x128 ![] bcast_S_S128x128 main_cst_17
  let main_v48 : IVec S128x128 1 := cmpf .olt main_v46 main_v47
  let main_c_18 : IVec S_ 1 := constantI S_ 1 1#1
  let main_v49 : IVec S_ 1 := (fun x v => Host.reduce IntOp.andi x v reducesTo_S128x128_S_d0_1 h_S_) main_v48 main_c_18
  let main_v50 : IVec S_ 1 := andi main_v45 main_v49
  fn_part3 (F := F) main_arg10 main_arg11 main_v50

def fn_part1 {F : FTy → Type} [FloatOps F] (main_arg4 : FVec F S128 .f32) (main_arg5 : FVec F S128 .f32) (main_arg6 : FVec F S128 .f32) (main_arg7 : FVec F S128x64 .f32) (main_arg8 : FVec F S64 .f32) (main_arg9 : FVec F S128x128 .f32) (main_arg10 : FVec F S128 .f32) (main_arg11 : FVec F S128 .f32) (main_v15 : IVec S_ 1) (main_v16 : FVec F S8x128 .f32) : IVec S_ 1 :=
  let main_cst_5 : FVec F S_ .f32 := constant S_ .f32 0x7F800000#32
  let main_v17 : FVec F S8x128 .f32 := broadcastInDim S8x128 ![] bcast_S_S8x128 main_cst_5
  let main_v18 : IVec S8x128 1 := cmpf .olt main_v16 main_v17
  let main_c_6 : IVec S_ 1 := constantI S_ 1 1#1
  let main_v19 : IVec S_ 1 := (fun x v => Host.reduce IntOp.andi x v reducesTo_S8x128_S_d0_1 h_S_) main_v18 main_c_6
  let main_v20 : IVec S_ 1 := andi main_v15 main_v19
  let main_v21 : FVec F S128 .f32 := Host.absf main_arg4
  let main_cst_7 : FVec F S_ .f32 := constant S_ .f32 0x7F800000#32
  let main_v22 : FVec F S128 .f32 := broadcastInDim S128 ![] bcast_S_S128 main_cst_7
  let main_v23 : IVec S128 1 := cmpf .olt main_v21 main_v22
  let main_c_8 : IVec S_ 1 := constantI S_ 1 1#1
  let main_v24 : IVec S_ 1 := (fun x v => Host.reduce IntOp.andi x v reducesTo_S128_S_d0 h_S_) main_v23 main_c_8
  let main_v25 : IVec S_ 1 := andi main_v20 main_v24
  let main_v26 : FVec F S128 .f32 := Host.absf main_arg5
  let main_cst_9 : FVec F S_ .f32 := constant S_ .f32 0x7F800000#32
  let main_v27 : FVec F S128 .f32 := broadcastInDim S128 ![] bcast_S_S128 main_cst_9
  let main_v28 : IVec S128 1 := cmpf .olt main_v26 main_v27
  let main_c_10 : IVec S_ 1 := constantI S_ 1 1#1
  let main_v29 : IVec S_ 1 := (fun x v => Host.reduce IntOp.andi x v reducesTo_S128_S_d0 h_S_) main_v28 main_c_10
  let main_v30 : IVec S_ 1 := andi main_v25 main_v29
  let main_v31 : FVec F S128 .f32 := Host.absf main_arg6
  let main_cst_11 : FVec F S_ .f32 := constant S_ .f32 0x7F800000#32
  let main_v32 : FVec F S128 .f32 := broadcastInDim S128 ![] bcast_S_S128 main_cst_11
  let main_v33 : IVec S128 1 := cmpf .olt main_v31 main_v32
  fn_part2 (F := F) main_arg7 main_arg8 main_arg9 main_arg10 main_arg11 main_v30 main_v33

def fn {F : FTy → Type} [FloatOps F] (main_arg0 : FVec F S16384x8 .f32) (main_arg1 : IVec S16384 32) (main_arg2 : FVec F S1500x64 .f32) (main_arg3 : FVec F S8x128 .f32) (main_arg4 : FVec F S128 .f32) (main_arg5 : FVec F S128 .f32) (main_arg6 : FVec F S128 .f32) (main_arg7 : FVec F S128x64 .f32) (main_arg8 : FVec F S64 .f32) (main_arg9 : FVec F S128x128 .f32) (main_arg10 : FVec F S128 .f32) (main_arg11 : FVec F S128 .f32) (main_arg12 : FVec F S128 .f32) (main_arg13 : FVec F S128x64 .f32) (main_arg14 : FVec F S64 .f32) (main_arg15 : FVec F S64x32 .f32) (main_arg16 : FVec F S32 .f32) (main_arg17 : FVec F S32x1 .f32) (main_arg18 : FVec F S1 .f32) : IVec S_ 1 :=
  let main_c : IVec S_ 32 := constantI S_ 32 0#32
  let main_v0 : IVec S16384 32 := broadcastInDim S16384 ![] bcast_S_S16384 main_c
  let main_v1 : IVec S16384 1 := cmpi .sge main_arg1 main_v0
  let main_c_0 : IVec S_ 32 := constantI S_ 32 1500#32
  let main_v2 : IVec S16384 32 := broadcastInDim S16384 ![] bcast_S_S16384 main_c_0
  let main_v3 : IVec S16384 1 := cmpi .slt main_arg1 main_v2
  let main_v4 : IVec S16384 1 := andi main_v1 main_v3
  let main_c_1 : IVec S_ 1 := constantI S_ 1 1#1
  let main_v5 : IVec S_ 1 := (fun x v => Host.reduce IntOp.andi x v reducesTo_S16384_S_d0 h_S_) main_v4 main_c_1
  let main_v6 : FVec F S16384x8 .f32 := Host.absf main_arg0
  let main_cst : FVec F S_ .f32 := constant S_ .f32 0x7F800000#32
  let main_v7 : FVec F S16384x8 .f32 := broadcastInDim S16384x8 ![] bcast_S_S16384x8 main_cst
  let main_v8 : IVec S16384x8 1 := cmpf .olt main_v6 main_v7
  let main_c_2 : IVec S_ 1 := constantI S_ 1 1#1
  let main_v9 : IVec S_ 1 := (fun x v => Host.reduce IntOp.andi x v reducesTo_S16384x8_S_d0_1 h_S_) main_v8 main_c_2
  let main_v10 : IVec S_ 1 := andi main_v5 main_v9
  let main_v11 : FVec F S1500x64 .f32 := Host.absf main_arg2
  let main_cst_3 : FVec F S_ .f32 := constant S_ .f32 0x7F800000#32
  let main_v12 : FVec F S1500x64 .f32 := broadcastInDim S1500x64 ![] bcast_S_S1500x64 main_cst_3
  let main_v13 : IVec S1500x64 1 := cmpf .olt main_v11 main_v12
  let main_c_4 : IVec S_ 1 := constantI S_ 1 1#1
  let main_v14 : IVec S_ 1 := (fun x v => Host.reduce IntOp.andi x v reducesTo_S1500x64_S_d0_1 h_S_) main_v13 main_c_4
  let main_v15 : IVec S_ 1 := andi main_v10 main_v14
  let main_v16 : FVec F S8x128 .f32 := Host.absf main_arg3
  fn_part1 (F := F) main_arg4 main_arg5 main_arg6 main_arg7 main_arg8 main_arg9 main_arg10 main_arg11 main_v15 main_v16
-- ==== Kernel.lean ====
abbrev S16384x8 : Shape := ⟨2, ![16384, 8]⟩
abbrev S16384 : Shape := ⟨1, ![16384]⟩
abbrev S1500x64 : Shape := ⟨2, ![1500, 64]⟩
abbrev S8x128 : Shape := ⟨2, ![8, 128]⟩
abbrev S128 : Shape := ⟨1, ![128]⟩
abbrev S128x64 : Shape := ⟨2, ![128, 64]⟩
abbrev S64 : Shape := ⟨1, ![64]⟩
abbrev S128x128 : Shape := ⟨2, ![128, 128]⟩
abbrev S64x32 : Shape := ⟨2, ![64, 32]⟩
abbrev S32 : Shape := ⟨1, ![32]⟩
abbrev S32x1 : Shape := ⟨2, ![32, 1]⟩
abbrev S1 : Shape := ⟨1, ![1]⟩
abbrev S_ : Shape := ⟨0, ![]⟩
abbrev S1500x128 : Shape := ⟨2, ![1500, 128]⟩
abbrev S16384x128 : Shape := ⟨2, ![16384, 128]⟩
abbrev S4x128 : Shape := ⟨2, ![4, 128]⟩
abbrev S512x128 : Shape := ⟨2, ![512, 128]⟩
abbrev S1x128 : Shape := ⟨2, ![1, 128]⟩
abbrev S64x128 : Shape := ⟨2, ![64, 128]⟩
abbrev S8x16384 : Shape := ⟨2, ![8, 16384]⟩
abbrev S2x128 : Shape := ⟨2, ![2, 128]⟩
abbrev S8x8192 : Shape := ⟨2, ![8, 8192]⟩
abbrev S8192x128 : Shape := ⟨2, ![8192, 128]⟩
abbrev S1x64 : Shape := ⟨2, ![1, 64]⟩
abbrev S1x32 : Shape := ⟨2, ![1, 32]⟩
abbrev S1x1 : Shape := ⟨2, ![1, 1]⟩
abbrev S1x16384 : Shape := ⟨2, ![1, 16384]⟩
abbrev S1x8192 : Shape := ⟨2, ![1, 8192]⟩
abbrev S8192x64 : Shape := ⟨2, ![8192, 64]⟩
abbrev S8192x32 : Shape := ⟨2, ![8192, 32]⟩
abbrev S16384x1 : Shape := ⟨2, ![16384, 1]⟩

abbrev nBuf : Table → Nat
  | .hbm => 44
  | .local .tc .vmem => 34
  | .local .scVector .vmem => 2
  | _ => 0

abbrev bufTy : (tb : Table) → Fin (nBuf tb) → BufTy
  | .hbm, ⟨0, _⟩ => ⟨S16384x8, .f32⟩
  | .hbm, ⟨1, _⟩ => ⟨S16384, .i32⟩
  | .hbm, ⟨2, _⟩ => ⟨S1500x64, .f32⟩
  | .hbm, ⟨3, _⟩ => ⟨S8x128, .f32⟩
  | .hbm, ⟨4, _⟩ => ⟨S128, .f32⟩
  | .hbm, ⟨5, _⟩ => ⟨S128, .f32⟩
  | .hbm, ⟨6, _⟩ => ⟨S128, .f32⟩
  | .hbm, ⟨7, _⟩ => ⟨S128x64, .f32⟩
  | .hbm, ⟨8, _⟩ => ⟨S64, .f32⟩
  | .hbm, ⟨9, _⟩ => ⟨S128x128, .f32⟩
  | .hbm, ⟨10, _⟩ => ⟨S128, .f32⟩
  | .hbm, ⟨11, _⟩ => ⟨S128, .f32⟩
  | .hbm, ⟨12, _⟩ => ⟨S128, .f32⟩
  | .hbm, ⟨13, _⟩ => ⟨S128x64, .f32⟩
  | .hbm, ⟨14, _⟩ => ⟨S64, .f32⟩
  | .hbm, ⟨15, _⟩ => ⟨S64x32, .f32⟩
  | .hbm, ⟨16, _⟩ => ⟨S32, .f32⟩
  | .hbm, ⟨17, _⟩ => ⟨S32x1, .f32⟩
  | .hbm, ⟨18, _⟩ => ⟨S1, .f32⟩
  | .hbm, ⟨19, _⟩ => ⟨S128x128, .i32⟩
  | .hbm, ⟨20, _⟩ => ⟨S_, .i32⟩
  | .hbm, ⟨21, _⟩ => ⟨S_, .f32⟩
  | .hbm, ⟨22, _⟩ => ⟨S1500x128, .f32⟩
  | .hbm, ⟨23, _⟩ => ⟨S16384x128, .f32⟩
  | .hbm, ⟨24, _⟩ => ⟨S64x128, .f32⟩
  | .hbm, ⟨25, _⟩ => ⟨S_, .i32⟩
  | .hbm, ⟨26, _⟩ => ⟨S_, .f32⟩
  | .hbm, ⟨27, _⟩ => ⟨S128x128, .f32⟩
  | .hbm, ⟨28, _⟩ => ⟨S8x16384, .f32⟩
  | .hbm, ⟨29, _⟩ => ⟨S1x128, .f32⟩
  | .hbm, ⟨30, _⟩ => ⟨S2x128, .f32⟩
  | .hbm, ⟨31, _⟩ => ⟨S1x128, .f32⟩
  | .hbm, ⟨32, _⟩ => ⟨S1x128, .f32⟩
  | .hbm, ⟨33, _⟩ => ⟨S1x128, .f32⟩
  | .hbm, ⟨34, _⟩ => ⟨S1x64, .f32⟩
  | .hbm, ⟨35, _⟩ => ⟨S64x128, .f32⟩
  | .hbm, ⟨36, _⟩ => ⟨S1x128, .f32⟩
  | .hbm, ⟨37, _⟩ => ⟨S1x128, .f32⟩
  | .hbm, ⟨38, _⟩ => ⟨S1x128, .f32⟩
  | .hbm, ⟨39, _⟩ => ⟨S1x64, .f32⟩
  | .hbm, ⟨40, _⟩ => ⟨S1x32, .f32⟩
  | .hbm, ⟨41, _⟩ => ⟨S1x1, .f32⟩
  | .hbm, ⟨42, _⟩ => ⟨S1x16384, .f32⟩
  | .hbm, ⟨43, _⟩ => ⟨S16384x1, .f32⟩
  | .local .tc .vmem, ⟨0, _⟩ => ⟨S8x8192, .f32⟩
  | .local .tc .vmem, ⟨1, _⟩ => ⟨S8x8192, .f32⟩
  | .local .tc .vmem, ⟨2, _⟩ => ⟨S8x128, .f32⟩
  | .local .tc .vmem, ⟨3, _⟩ => ⟨S1x128, .f32⟩
  | .local .tc .vmem, ⟨4, _⟩ => ⟨S2x128, .f32⟩
  | .local .tc .vmem, ⟨5, _⟩ => ⟨S1x128, .f32⟩
  | .local .tc .vmem, ⟨6, _⟩ => ⟨S1x128, .f32⟩
  | .local .tc .vmem, ⟨7, _⟩ => ⟨S8x8192, .f32⟩
  | .local .tc .vmem, ⟨8, _⟩ => ⟨S8x8192, .f32⟩
  | .local .tc .vmem, ⟨9, _⟩ => ⟨S8192x128, .f32⟩
  | .local .tc .vmem, ⟨10, _⟩ => ⟨S8192x128, .f32⟩
  | .local .tc .vmem, ⟨11, _⟩ => ⟨S2x128, .f32⟩
  | .local .tc .vmem, ⟨12, _⟩ => ⟨S8x128, .f32⟩
  | .local .tc .vmem, ⟨13, _⟩ => ⟨S1x128, .f32⟩
  | .local .tc .vmem, ⟨14, _⟩ => ⟨S1x128, .f32⟩
  | .local .tc .vmem, ⟨15, _⟩ => ⟨S1x128, .f32⟩
  | .local .tc .vmem, ⟨16, _⟩ => ⟨S128x64, .f32⟩
  | .local .tc .vmem, ⟨17, _⟩ => ⟨S1x64, .f32⟩
  | .local .tc .vmem, ⟨18, _⟩ => ⟨S64x128, .f32⟩
  | .local .tc .vmem, ⟨19, _⟩ => ⟨S128x128, .f32⟩
  | .local .tc .vmem, ⟨20, _⟩ => ⟨S1x128, .f32⟩
  | .local .tc .vmem, ⟨21, _⟩ => ⟨S1x128, .f32⟩
  | .local .tc .vmem, ⟨22, _⟩ => ⟨S1x128, .f32⟩
  | .local .tc .vmem, ⟨23, _⟩ => ⟨S128x64, .f32⟩
  | .local .tc .vmem, ⟨24, _⟩ => ⟨S1x64, .f32⟩
  | .local .tc .vmem, ⟨25, _⟩ => ⟨S64x32, .f32⟩
  | .local .tc .vmem, ⟨26, _⟩ => ⟨S1x32, .f32⟩
  | .local .tc .vmem, ⟨27, _⟩ => ⟨S32x1, .f32⟩
  | .local .tc .vmem, ⟨28, _⟩ => ⟨S1x1, .f32⟩
  | .local .tc .vmem, ⟨29, _⟩ => ⟨S1x8192, .f32⟩
  | .local .tc .vmem, ⟨30, _⟩ => ⟨S1x8192, .f32⟩
  | .local .tc .vmem, ⟨31, _⟩ => ⟨S16384x128, .f32⟩
  | .local .tc .vmem, ⟨32, _⟩ => ⟨S1x128, .f32⟩
  | .local .tc .vmem, ⟨33, _⟩ => ⟨S1x128, .f32⟩
  | .local .scVector .vmem, ⟨0, _⟩ => ⟨S4x128, .i32⟩
  | .local .scVector .vmem, ⟨1, _⟩ => ⟨S512x128, .f32⟩
  | _, _ => ⟨S16384x8, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 32 → Bool
  | ⟨0, _⟩ => false
  | ⟨1, _⟩ => false
  | ⟨2, _⟩ => false
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTables nBuf rfl bufTy 4 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_c : Ref sig .tc := ⟨.hbm, 20, rfl⟩
abbrev main_call0_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_c_0 : Ref sig .tc := ⟨.hbm, 25, rfl⟩
abbrev main_call1_v0 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v1_scv : Ref sig .scVector := ⟨.hbm, 22, rfl⟩
abbrev main_v0_scv : Ref sig .scVector := ⟨.hbm, 19, rfl⟩
abbrev main_v2_scv : Ref sig .scVector := ⟨.hbm, 23, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg2_0 : Ref sig .tc := ⟨.vmem, 3, rfl⟩
abbrev cc1_stg3_0 : Ref sig .tc := ⟨.vmem, 4, rfl⟩
abbrev cc1_scratch0 : Ref sig .tc := ⟨.vmem, 5, rfl⟩
abbrev cc1_scratch1 : Ref sig .tc := ⟨.vmem, 6, rfl⟩
abbrev cc2_stg0_0 : Ref sig .tc := ⟨.vmem, 7, rfl⟩
abbrev cc2_stg0_1 : Ref sig .tc := ⟨.vmem, 8, rfl⟩
abbrev cc2_stg1_0 : Ref sig .tc := ⟨.vmem, 9, rfl⟩
abbrev cc2_stg1_1 : Ref sig .tc := ⟨.vmem, 10, rfl⟩
abbrev cc2_stg2_0 : Ref sig .tc := ⟨.vmem, 11, rfl⟩
abbrev cc2_stg3_0 : Ref sig .tc := ⟨.vmem, 12, rfl⟩
abbrev cc2_stg4_0 : Ref sig .tc := ⟨.vmem, 13, rfl⟩
abbrev cc2_stg5_0 : Ref sig .tc := ⟨.vmem, 14, rfl⟩
abbrev cc2_stg6_0 : Ref sig .tc := ⟨.vmem, 15, rfl⟩
abbrev cc2_stg7_0 : Ref sig .tc := ⟨.vmem, 16, rfl⟩
abbrev cc2_stg8_0 : Ref sig .tc := ⟨.vmem, 17, rfl⟩
abbrev cc2_stg9_0 : Ref sig .tc := ⟨.vmem, 18, rfl⟩
abbrev cc2_stg10_0 : Ref sig .tc := ⟨.vmem, 19, rfl⟩
abbrev cc2_stg11_0 : Ref sig .tc := ⟨.vmem, 20, rfl⟩
abbrev cc2_stg12_0 : Ref sig .tc := ⟨.vmem, 21, rfl⟩
abbrev cc2_stg13_0 : Ref sig .tc := ⟨.vmem, 22, rfl⟩
abbrev cc2_stg14_0 : Ref sig .tc := ⟨.vmem, 23, rfl⟩
abbrev cc2_stg15_0 : Ref sig .tc := ⟨.vmem, 24, rfl⟩
abbrev cc2_stg16_0 : Ref sig .tc := ⟨.vmem, 25, rfl⟩
abbrev cc2_stg17_0 : Ref sig .tc := ⟨.vmem, 26, rfl⟩
abbrev cc2_stg18_0 : Ref sig .tc := ⟨.vmem, 27, rfl⟩
abbrev cc2_stg19_0 : Ref sig .tc := ⟨.vmem, 28, rfl⟩
abbrev cc2_stg20_0 : Ref sig .tc := ⟨.vmem, 29, rfl⟩
abbrev cc2_stg20_1 : Ref sig .tc := ⟨.vmem, 30, rfl⟩
abbrev cc2_scratch0 : Ref sig .tc := ⟨.vmem, 31, rfl⟩
abbrev cc2_scratch1 : Ref sig .tc := ⟨.vmem, 32, rfl⟩
abbrev cc2_scratch2 : Ref sig .tc := ⟨.vmem, 33, rfl⟩
abbrev cc0_scratch0 : Ref sig .scVector := ⟨.vmem, 0, rfl⟩
abbrev cc0_scratch1 : Ref sig .scVector := ⟨.vmem, 1, rfl⟩
abbrev cc1_sem0_0 : DmaSem sig := 3
abbrev cc1_sem0_1 : DmaSem sig := 4
abbrev cc1_sem1_0 : DmaSem sig := 5
abbrev cc1_sem2_0 : DmaSem sig := 6
abbrev cc1_sem3_0 : DmaSem sig := 7
abbrev cc2_sem0_0 : DmaSem sig := 8
abbrev cc2_sem0_1 : DmaSem sig := 9
abbrev cc2_sem1_0 : DmaSem sig := 10
abbrev cc2_sem1_1 : DmaSem sig := 11
abbrev cc2_sem2_0 : DmaSem sig := 12
abbrev cc2_sem3_0 : DmaSem sig := 13
abbrev cc2_sem4_0 : DmaSem sig := 14
abbrev cc2_sem5_0 : DmaSem sig := 15
abbrev cc2_sem6_0 : DmaSem sig := 16
abbrev cc2_sem7_0 : DmaSem sig := 17
abbrev cc2_sem8_0 : DmaSem sig := 18
abbrev cc2_sem9_0 : DmaSem sig := 19
abbrev cc2_sem10_0 : DmaSem sig := 20
abbrev cc2_sem11_0 : DmaSem sig := 21
abbrev cc2_sem12_0 : DmaSem sig := 22
abbrev cc2_sem13_0 : DmaSem sig := 23
abbrev cc2_sem14_0 : DmaSem sig := 24
abbrev cc2_sem15_0 : DmaSem sig := 25
abbrev cc2_sem16_0 : DmaSem sig := 26
abbrev cc2_sem17_0 : DmaSem sig := 27
abbrev cc2_sem18_0 : DmaSem sig := 28
abbrev cc2_sem19_0 : DmaSem sig := 29
abbrev cc2_sem20_0 : DmaSem sig := 30
abbrev cc2_sem20_1 : DmaSem sig := 31
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32 : BitVec 32 := 4#32
  let v2 : BitVec 32 := Scalar.muli v1 c4_i32
  let c0_i32_42_r0 : BitVec 32 := 0#32
  ![v2.toNat, 0]
def k0_off2 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v35 : BitVec 32 := Scalar.muli v1 c512_i32
  let c0_i32_42_r1 : BitVec 32 := 0#32
  ![v35.toNat, 0]
abbrev grid1 : Pipeline.Grid := ⟨1, ![2], ![false]⟩

def k1_cond2 (i : grid1.Coords) : BitVec 1 :=
  let arg0 : BitVec 32 := BitVec.ofNat 32 (i 0).val
  let c1_i32 : BitVec 32 := 1#32
  let v28 : BitVec 1 := Scalar.cmpi .eq arg0 c1_i32
  let v29 : BitVec 32 := Scalar.extui v28
  let c0_i32_17 : BitVec 32 := 0#32
  let v30 : BitVec 1 := Scalar.cmpi .ne v29 c0_i32_17
  v30

def cc1_transform_0 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S8x8192 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S8x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S2x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev grid2 : Pipeline.Grid := ⟨2, ![2, 2], ![false, false]⟩

def k2_cond1 (i : grid2.Coords) : BitVec 1 :=
  let arg0 : BitVec 32 := BitVec.ofNat 32 (i 0).val
  let c0_i32 : BitVec 32 := 0#32
  let v1 : BitVec 1 := Scalar.cmpi .eq arg0 c0_i32
  let v2 : BitVec 32 := Scalar.extui v1
  let c0_i32_0 : BitVec 32 := 0#32
  let v3 : BitVec 1 := Scalar.cmpi .ne v2 c0_i32_0
  v3

def k2_off1 (i : grid2.Coords) : Fin 2 → Nat :=
  let arg1 : BitVec 32 := BitVec.ofNat 32 (i 1).val
  let c8192_i32 : BitVec 32 := 8192#32
  let v0 : BitVec 32 := Scalar.muli arg1 c8192_i32
  let v73 : Index := Scalar.indexCast v0
  let c0_37 : Index := 0#32
  ![v73.toNat, 0]
def k2_cond3 (i : grid2.Coords) : BitVec 1 :=
  let arg0 : BitVec 32 := BitVec.ofNat 32 (i 0).val
  let c1_i32 : BitVec 32 := 1#32
  let v4 : BitVec 1 := Scalar.cmpi .eq arg0 c1_i32
  let v5 : BitVec 32 := Scalar.extui v4
  let c0_i32_1 : BitVec 32 := 0#32
  let v6 : BitVec 1 := Scalar.cmpi .ne v5 c0_i32_1
  v6

def k2_off2 (i : grid2.Coords) : Fin 2 → Nat :=
  let arg1 : BitVec 32 := BitVec.ofNat 32 (i 1).val
  let c8192_i32 : BitVec 32 := 8192#32
  let v0 : BitVec 32 := Scalar.muli arg1 c8192_i32
  let v25 : Index := Scalar.indexCast v0
  let c0_11 : Index := 0#32
  ![v25.toNat, 0]
def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  ![c0_i32_1.toNat, v1.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  ![v1.toNat, c0_i32_1.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_11 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_12 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_13 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_14 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_15 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_16 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_17 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_18 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_19 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_20 (i : grid2.Coords) : Fin 2 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  ![c0_i32_0.toNat, v1.toNat]

abbrev stage2_0 : Fin 2 → Memref sig .tc .vmem S8x8192 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S8192x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 1 → Memref sig .tc .vmem S2x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

abbrev stage2_3 : Fin 1 → Memref sig .tc .vmem S8x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false, false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false, false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false, false]

abbrev stage2_6 : Fin 1 → Memref sig .tc .vmem S1x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false, false]

abbrev stage2_7 : Fin 1 → Memref sig .tc .vmem S128x64 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false, false]

abbrev stage2_8 : Fin 1 → Memref sig .tc .vmem S1x64 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false, false]

abbrev stage2_9 : Fin 1 → Memref sig .tc .vmem S64x128 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false, false]

abbrev stage2_10 : Fin 1 → Memref sig .tc .vmem S128x128 .f32 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))
abbrev reads2_10 : Fin grid2.rank → Bool := ![false, false]

abbrev stage2_11 : Fin 1 → Memref sig .tc .vmem S1x128 .f32 := fun | 0 => Memref.whole cc2_stg11_0 | ⟨_ + 1, h⟩ => absurd h (Nat.not_lt.2 (Nat.le_add_left _ _))
abbrev sem2_11 : Fin 1 → DmaSem sig := fun | 0 => cc2_sem11_0 | ⟨_ + 1, h⟩ => absurd h (Nat.not_lt.2 (Nat.le_add_left _ _))
abbrev reads2_11 : Fin grid2.rank → Bool := ![false, false]

abbrev stage2_12 : Fin 1 → Memref sig .tc .vmem S1x128 .f32 := fun | 0 => Memref.whole cc2_stg12_0 | ⟨_ + 1, h⟩ => absurd h (Nat.not_lt.2 (Nat.le_add_left _ _))
abbrev sem2_12 : Fin 1 → DmaSem sig := fun | 0 => cc2_sem12_0 | ⟨_ + 1, h⟩ => absurd h (Nat.not_lt.2 (Nat.le_add_left _ _))
abbrev reads2_12 : Fin grid2.rank → Bool := ![false, false]

abbrev stage2_13 : Fin 1 → Memref sig .tc .vmem S1x128 .f32 := fun | 0 => Memref.whole cc2_stg13_0 | ⟨_ + 1, h⟩ => absurd h (Nat.not_lt.2 (Nat.le_add_left _ _))
abbrev sem2_13 : Fin 1 → DmaSem sig := fun | 0 => cc2_sem13_0 | ⟨_ + 1, h⟩ => absurd h (Nat.not_lt.2 (Nat.le_add_left _ _))
abbrev reads2_13 : Fin grid2.rank → Bool := ![false, false]

abbrev stage2_14 : Fin 1 → Memref sig .tc .vmem S128x64 .f32 := fun | 0 => Memref.whole cc2_stg14_0 | ⟨_ + 1, h⟩ => absurd h (Nat.not_lt.2 (Nat.le_add_left _ _))
abbrev sem2_14 : Fin 1 → DmaSem sig := fun | 0 => cc2_sem14_0 | ⟨_ + 1, h⟩ => absurd h (Nat.not_lt.2 (Nat.le_add_left _ _))
abbrev reads2_14 : Fin grid2.rank → Bool := ![false, false]

abbrev stage2_15 : Fin 1 → Memref sig .tc .vmem S1x64 .f32 := fun | 0 => Memref.whole cc2_stg15_0 | ⟨_ + 1, h⟩ => absurd h (Nat.not_lt.2 (Nat.le_add_left _ _))
abbrev sem2_15 : Fin 1 → DmaSem sig := fun | 0 => cc2_sem15_0 | ⟨_ + 1, h⟩ => absurd h (Nat.not_lt.2 (Nat.le_add_left _ _))
abbrev reads2_15 : Fin grid2.rank → Bool := ![false, false]

abbrev stage2_16 : Fin 1 → Memref sig .tc .vmem S64x32 .f32 := fun | 0 => Memref.whole cc2_stg16_0 | ⟨_ + 1, h⟩ => absurd h (Nat.not_lt.2 (Nat.le_add_left _ _))
abbrev sem2_16 : Fin 1 → DmaSem sig := fun | 0 => cc2_sem16_0 | ⟨_ + 1, h⟩ => absurd h (Nat.not_lt.2 (Nat.le_add_left _ _))
abbrev reads2_16 : Fin grid2.rank → Bool := ![false, false]

abbrev stage2_17 : Fin 1 → Memref sig .tc .vmem S1x32 .f32 := fun | 0 => Memref.whole cc2_stg17_0 | ⟨_ + 1, h⟩ => absurd h (Nat.not_lt.2 (Nat.le_add_left _ _))
abbrev sem2_17 : Fin 1 → DmaSem sig := fun | 0 => cc2_sem17_0 | ⟨_ + 1, h⟩ => absurd h (Nat.not_lt.2 (Nat.le_add_left _ _))
abbrev reads2_17 : Fin grid2.rank → Bool := ![false, false]

abbrev stage2_18 : Fin 1 → Memref sig .tc .vmem S32x1 .f32 := fun | 0 => Memref.whole cc2_stg18_0 | ⟨_ + 1, h⟩ => absurd h (Nat.not_lt.2 (Nat.le_add_left _ _))
abbrev sem2_18 : Fin 1 → DmaSem sig := fun | 0 => cc2_sem18_0 | ⟨_ + 1, h⟩ => absurd h (Nat.not_lt.2 (Nat.le_add_left _ _))
abbrev reads2_18 : Fin grid2.rank → Bool := ![false, false]

abbrev stage2_19 : Fin 1 → Memref sig .tc .vmem S1x1 .f32 := fun | 0 => Memref.whole cc2_stg19_0 | ⟨_ + 1, h⟩ => absurd h (Nat.not_lt.2 (Nat.le_add_left _ _))
abbrev sem2_19 : Fin 1 → DmaSem sig := fun | 0 => cc2_sem19_0 | ⟨_ + 1, h⟩ => absurd h (Nat.not_lt.2 (Nat.le_add_left _ _))
abbrev reads2_19 : Fin grid2.rank → Bool := ![false, false]

abbrev stage2_20 : Fin 2 → Memref sig .tc .vmem S1x8192 .f32 := fun | 0 => Memref.whole cc2_stg20_0 | 1 => Memref.whole cc2_stg20_1 | ⟨_ + 2, h⟩ => absurd h (Nat.not_lt.2 (Nat.le_add_left _ _))
abbrev sem2_20 : Fin 2 → DmaSem sig := fun | 0 => cc2_sem20_0 | 1 => cc2_sem20_1 | ⟨_ + 2, h⟩ => absurd h (Nat.not_lt.2 (Nat.le_add_left _ _))
abbrev reads2_20 : Fin grid2.rank → Bool := ![true, true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S16384x8 : Shape := ⟨2, ![16384, 8]⟩
abbrev S16384 : Shape := ⟨1, ![16384]⟩
abbrev S1500x64 : Shape := ⟨2, ![1500, 64]⟩
abbrev S8x128 : Shape := ⟨2, ![8, 128]⟩
abbrev S128 : Shape := ⟨1, ![128]⟩
abbrev S128x64 : Shape := ⟨2, ![128, 64]⟩
abbrev S64 : Shape := ⟨1, ![64]⟩
abbrev S128x128 : Shape := ⟨2, ![128, 128]⟩
abbrev S64x32 : Shape := ⟨2, ![64, 32]⟩
abbrev S32 : Shape := ⟨1, ![32]⟩
abbrev S32x1 : Shape := ⟨2, ![32, 1]⟩
abbrev S1 : Shape := ⟨1, ![1]⟩
abbrev S_ : Shape := ⟨0, ![]⟩
abbrev S16384x1 : Shape := ⟨2, ![16384, 1]⟩
abbrev S1x1 : Shape := ⟨2, ![1, 1]⟩
abbrev S16384x64 : Shape := ⟨2, ![16384, 64]⟩
abbrev S16384x128 : Shape := ⟨2, ![16384, 128]⟩
abbrev S1x128 : Shape := ⟨2, ![1, 128]⟩
abbrev S1x64 : Shape := ⟨2, ![1, 64]⟩
abbrev S16384x32 : Shape := ⟨2, ![16384, 32]⟩
abbrev S1x32 : Shape := ⟨2, ![1, 32]⟩

abbrev nBuf : Space → Nat
  | .hbm => 178
  | .vmem => 0
  | .smem => 0
  | _ => 0

abbrev hbmTy0_0 (i : Nat) : BufTy := match i % 128 with
  | 0 => ⟨S16384x8, .f32⟩
  | 1 => ⟨S16384, .i32⟩
  | 2 => ⟨S1500x64, .f32⟩
  | 3 => ⟨S8x128, .f32⟩
  | 4 => ⟨S128, .f32⟩
  | 5 => ⟨S128, .f32⟩
  | 6 => ⟨S128, .f32⟩
  | 7 => ⟨S128x64, .f32⟩
  | 8 => ⟨S64, .f32⟩
  | 9 => ⟨S128x128, .f32⟩
  | 10 => ⟨S128, .f32⟩
  | 11 => ⟨S128, .f32⟩
  | 12 => ⟨S128, .f32⟩
  | 13 => ⟨S128x64, .f32⟩
  | 14 => ⟨S64, .f32⟩
  | 15 => ⟨S64x32, .f32⟩
  | 16 => ⟨S32, .f32⟩
  | 17 => ⟨S32x1, .f32⟩
  | 18 => ⟨S1, .f32⟩
  | 19 => ⟨S_, .i32⟩
  | 20 => ⟨S16384, .i32⟩
  | 21 => ⟨S16384, .i1⟩
  | 22 => ⟨S_, .i32⟩
  | 23 => ⟨S16384, .i32⟩
  | 24 => ⟨S16384, .i32⟩
  | 25 => ⟨S16384, .i32⟩
  | 26 => ⟨S16384x1, .i32⟩
  | 27 => ⟨S1, .i32⟩
  | 28 => ⟨S_, .i32⟩
  | 29 => ⟨S16384x1, .i32⟩
  | 30 => ⟨S16384x1, .i1⟩
  | 31 => ⟨S1x1, .i32⟩
  | 32 => ⟨S16384x1, .i32⟩
  | 33 => ⟨S16384x1, .i1⟩
  | 34 => ⟨S16384x1, .i1⟩
  | 35 => ⟨S_, .i1⟩
  | 36 => ⟨S16384, .i1⟩
  | 37 => ⟨S16384x64, .f32⟩
  | 38 => ⟨S16384x64, .i1⟩
  | 39 => ⟨S_, .f32⟩
  | 40 => ⟨S16384x64, .f32⟩
  | 41 => ⟨S16384x64, .f32⟩
  | 42 => ⟨S16384x128, .f32⟩
  | 43 => ⟨S1x128, .f32⟩
  | 44 => ⟨S16384x128, .f32⟩
  | 45 => ⟨S16384x128, .f32⟩
  | 46 => ⟨S_, .f32⟩
  | 47 => ⟨S16384x128, .f32⟩
  | 48 => ⟨S16384x128, .f32⟩
  | 49 => ⟨S_, .f32⟩
  | 50 => ⟨S128, .f32⟩
  | 51 => ⟨S1x128, .f32⟩
  | 52 => ⟨S_, .f32⟩
  | 53 => ⟨S1x128, .f32⟩
  | 54 => ⟨S1x128, .f32⟩
  | 55 => ⟨S_, .i32⟩
  | 56 => ⟨S_, .f32⟩
  | 57 => ⟨S128, .f32⟩
  | 58 => ⟨S1x128, .f32⟩
  | 59 => ⟨S_, .f32⟩
  | 60 => ⟨S1x128, .f32⟩
  | 61 => ⟨S1x128, .f32⟩
  | 62 => ⟨S16384x128, .f32⟩
  | 63 => ⟨S16384x128, .f32⟩
  | 64 => ⟨S16384x128, .f32⟩
  | 65 => ⟨S_, .f32⟩
  | 66 => ⟨S_, .f32⟩
  | 67 => ⟨S_, .f32⟩
  | 68 => ⟨S_, .f32⟩
  | 69 => ⟨S128, .f32⟩
  | 70 => ⟨S1x128, .f32⟩
  | 71 => ⟨S1x128, .f32⟩
  | 72 => ⟨S1x128, .f32⟩
  | 73 => ⟨S_, .f32⟩
  | 74 => ⟨S_, .i1⟩
  | 75 => ⟨S_, .f32⟩
  | 76 => ⟨S_, .f32⟩
  | 77 => ⟨S1x128, .f32⟩
  | 78 => ⟨S1x128, .f32⟩
  | 79 => ⟨S16384x128, .f32⟩
  | 80 => ⟨S16384x128, .f32⟩
  | 81 => ⟨S_, .f32⟩
  | 82 => ⟨S1x128, .f32⟩
  | 83 => ⟨S1x128, .f32⟩
  | 84 => ⟨S1x128, .f32⟩
  | 85 => ⟨S16384x128, .f32⟩
  | 86 => ⟨S16384x128, .f32⟩
  | 87 => ⟨S1x128, .f32⟩
  | 88 => ⟨S16384x128, .f32⟩
  | 89 => ⟨S16384x128, .f32⟩
  | 90 => ⟨S1x128, .f32⟩
  | 91 => ⟨S16384x128, .f32⟩
  | 92 => ⟨S16384x128, .f32⟩
  | 93 => ⟨S16384x64, .f32⟩
  | 94 => ⟨S1x64, .f32⟩
  | 95 => ⟨S16384x64, .f32⟩
  | 96 => ⟨S16384x64, .f32⟩
  | 97 => ⟨S_, .f32⟩
  | 98 => ⟨S16384x64, .f32⟩
  | 99 => ⟨S16384x64, .f32⟩
  | 100 => ⟨S16384x128, .f32⟩
  | 101 => ⟨S16384x128, .f32⟩
  | 102 => ⟨S1x128, .f32⟩
  | 103 => ⟨S16384x128, .f32⟩
  | 104 => ⟨S16384x128, .f32⟩
  | 105 => ⟨S_, .f32⟩
  | 106 => ⟨S16384x128, .f32⟩
  | 107 => ⟨S16384x128, .f32⟩
  | 108 => ⟨S_, .f32⟩
  | 109 => ⟨S128, .f32⟩
  | 110 => ⟨S1x128, .f32⟩
  | 111 => ⟨S_, .f32⟩
  | 112 => ⟨S1x128, .f32⟩
  | 113 => ⟨S1x128, .f32⟩
  | 114 => ⟨S_, .i32⟩
  | 115 => ⟨S_, .f32⟩
  | 116 => ⟨S128, .f32⟩
  | 117 => ⟨S1x128, .f32⟩
  | 118 => ⟨S_, .f32⟩
  | 119 => ⟨S1x128, .f32⟩
  | 120 => ⟨S1x128, .f32⟩
  | 121 => ⟨S16384x128, .f32⟩
  | 122 => ⟨S16384x128, .f32⟩
  | 123 => ⟨S16384x128, .f32⟩
  | 124 => ⟨S_, .f32⟩
  | 125 => ⟨S_, .f32⟩
  | 126 => ⟨S_, .f32⟩
  | 127 => ⟨S_, .f32⟩
  | _ => ⟨S16384x8, .f32⟩

abbrev hbmTy0_1 (i : Nat) : BufTy := match i % 128 with
  | 0 => ⟨S128, .f32⟩
  | 1 => ⟨S1x128, .f32⟩
  | 2 => ⟨S1x128, .f32⟩
  | 3 => ⟨S1x128, .f32⟩
  | 4 => ⟨S_, .f32⟩
  | 5 => ⟨S_, .i1⟩
  | 6 => ⟨S_, .f32⟩
  | 7 => ⟨S_, .f32⟩
  | 8 => ⟨S1x128, .f32⟩
  | 9 => ⟨S1x128, .f32⟩
  | 10 => ⟨S16384x128, .f32⟩
  | 11 => ⟨S16384x128, .f32⟩
  | 12 => ⟨S_, .f32⟩
  | 13 => ⟨S1x128, .f32⟩
  | 14 => ⟨S1x128, .f32⟩
  | 15 => ⟨S1x128, .f32⟩
  | 16 => ⟨S16384x128, .f32⟩
  | 17 => ⟨S16384x128, .f32⟩
  | 18 => ⟨S1x128, .f32⟩
  | 19 => ⟨S16384x128, .f32⟩
  | 20 => ⟨S16384x128, .f32⟩
  | 21 => ⟨S1x128, .f32⟩
  | 22 => ⟨S16384x128, .f32⟩
  | 23 => ⟨S16384x128, .f32⟩
  | 24 => ⟨S16384x64, .f32⟩
  | 25 => ⟨S1x64, .f32⟩
  | 26 => ⟨S16384x64, .f32⟩
  | 27 => ⟨S16384x64, .f32⟩
  | 28 => ⟨S_, .f32⟩
  | 29 => ⟨S16384x64, .f32⟩
  | 30 => ⟨S16384x64, .f32⟩
  | 31 => ⟨S16384x32, .f32⟩
  | 32 => ⟨S1x32, .f32⟩
  | 33 => ⟨S16384x32, .f32⟩
  | 34 => ⟨S16384x32, .f32⟩
  | 35 => ⟨S_, .f32⟩
  | 36 => ⟨S16384x32, .f32⟩
  | 37 => ⟨S16384x32, .f32⟩
  | 38 => ⟨S16384x1, .f32⟩
  | 39 => ⟨S1x1, .f32⟩
  | 40 => ⟨S16384x1, .f32⟩
  | 41 => ⟨S16384x1, .f32⟩
  | 42 => ⟨S16384x1, .f32⟩
  | 43 => ⟨S16384x1, .f32⟩
  | 44 => ⟨S_, .f32⟩
  | 45 => ⟨S16384x1, .f32⟩
  | 46 => ⟨S16384x1, .f32⟩
  | 47 => ⟨S_, .f32⟩
  | 48 => ⟨S16384x1, .f32⟩
  | 49 => ⟨S16384x1, .f32⟩
  | _ => ⟨S16384x8, .f32⟩

abbrev hbmTy (i : Nat) : BufTy := match i / 128 with
  | 0 => hbmTy0_0 i
  | 1 => hbmTy0_1 i
  | _ => ⟨S16384x8, .f32⟩

abbrev bufTy : (tb : Table) → Fin (tcTables nBuf tb) → BufTy
  | .hbm, ⟨i, _⟩ => hbmTy i
  | _, _ => ⟨S16384x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_call0_c : Ref sig .tc := ⟨.hbm, 19, rfl⟩
abbrev main_call0_v0 : Ref sig .tc := ⟨.hbm, 20, rfl⟩
abbrev main_call0_v1 : Ref sig .tc := ⟨.hbm, 21, rfl⟩
abbrev main_call0_c_0 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_call0_v5 : Ref sig .tc := ⟨.hbm, 26, rfl⟩
abbrev main_call0_c_1 : Ref sig .tc := ⟨.hbm, 27, rfl⟩
abbrev main_call0_c_2 : Ref sig .tc := ⟨.hbm, 28, rfl⟩
abbrev main_call0_v6 : Ref sig .tc := ⟨.hbm, 29, rfl⟩
abbrev main_call0_v7 : Ref sig .tc := ⟨.hbm, 30, rfl⟩
abbrev main_call0_v8 : Ref sig .tc := ⟨.hbm, 31, rfl⟩
abbrev main_call0_v9 : Ref sig .tc := ⟨.hbm, 32, rfl⟩
abbrev main_call0_v10 : Ref sig .tc := ⟨.hbm, 33, rfl⟩
abbrev main_call0_v11 : Ref sig .tc := ⟨.hbm, 34, rfl⟩
abbrev main_call0_c_3 : Ref sig .tc := ⟨.hbm, 35, rfl⟩
abbrev main_call0_v12 : Ref sig .tc := ⟨.hbm, 36, rfl⟩
abbrev main_call0_v13 : Ref sig .tc := ⟨.hbm, 37, rfl⟩
abbrev main_call0_v14 : Ref sig .tc := ⟨.hbm, 38, rfl⟩
abbrev main_call0_cst : Ref sig .tc := ⟨.hbm, 39, rfl⟩
abbrev main_call0_v15 : Ref sig .tc := ⟨.hbm, 40, rfl⟩
abbrev main_v0 : Ref sig .tc := ⟨.hbm, 41, rfl⟩
abbrev main_v1 : Ref sig .tc := ⟨.hbm, 42, rfl⟩
abbrev main_v2 : Ref sig .tc := ⟨.hbm, 43, rfl⟩
abbrev main_v3 : Ref sig .tc := ⟨.hbm, 44, rfl⟩
abbrev main_v4 : Ref sig .tc := ⟨.hbm, 45, rfl⟩
abbrev main_call1_cst : Ref sig .tc := ⟨.hbm, 46, rfl⟩
abbrev main_call1_v0 : Ref sig .tc := ⟨.hbm, 47, rfl⟩
abbrev main_v5 : Ref sig .tc := ⟨.hbm, 48, rfl⟩
abbrev main_cst : Ref sig .tc := ⟨.hbm, 49, rfl⟩
abbrev main_v6 : Ref sig .tc := ⟨.hbm, 50, rfl⟩
abbrev main_v7 : Ref sig .tc := ⟨.hbm, 51, rfl⟩
abbrev main_cst_0 : Ref sig .tc := ⟨.hbm, 52, rfl⟩
abbrev main_v8 : Ref sig .tc := ⟨.hbm, 53, rfl⟩
abbrev main_v9 : Ref sig .tc := ⟨.hbm, 54, rfl⟩
abbrev main_c : Ref sig .tc := ⟨.hbm, 55, rfl⟩
abbrev main_call2_cst : Ref sig .tc := ⟨.hbm, 56, rfl⟩
abbrev main_call2_v0 : Ref sig .tc := ⟨.hbm, 57, rfl⟩
abbrev main_call2_v1 : Ref sig .tc := ⟨.hbm, 58, rfl⟩
abbrev main_call2_cst_0 : Ref sig .tc := ⟨.hbm, 59, rfl⟩
abbrev main_call2_v2 : Ref sig .tc := ⟨.hbm, 60, rfl⟩
abbrev main_call2_v3 : Ref sig .tc := ⟨.hbm, 61, rfl⟩
abbrev main_call2_v4 : Ref sig .tc := ⟨.hbm, 62, rfl⟩
abbrev main_call2_v5 : Ref sig .tc := ⟨.hbm, 63, rfl⟩
abbrev main_call2_v6 : Ref sig .tc := ⟨.hbm, 64, rfl⟩
abbrev main_call2_v7 : Ref sig .tc := ⟨.hbm, 65, rfl⟩
abbrev main_call2_cst_1 : Ref sig .tc := ⟨.hbm, 66, rfl⟩
abbrev main_call2_v8 : Ref sig .tc := ⟨.hbm, 67, rfl⟩
abbrev main_call2_cst_2 : Ref sig .tc := ⟨.hbm, 68, rfl⟩
abbrev main_call2_v9 : Ref sig .tc := ⟨.hbm, 69, rfl⟩
abbrev main_call2_v10 : Ref sig .tc := ⟨.hbm, 70, rfl⟩
abbrev main_call2_v11 : Ref sig .tc := ⟨.hbm, 71, rfl⟩
abbrev main_call2_v12 : Ref sig .tc := ⟨.hbm, 72, rfl⟩
abbrev main_call2_cst_3 : Ref sig .tc := ⟨.hbm, 73, rfl⟩
abbrev main_call2_v13 : Ref sig .tc := ⟨.hbm, 74, rfl⟩
abbrev main_call2_cst_4 : Ref sig .tc := ⟨.hbm, 75, rfl⟩
abbrev main_call2_call0_v0 : Ref sig .tc := ⟨.hbm, 76, rfl⟩
abbrev main_call2_call0_v1 : Ref sig .tc := ⟨.hbm, 77, rfl⟩
abbrev main_v10 : Ref sig .tc := ⟨.hbm, 78, rfl⟩
abbrev main_v11 : Ref sig .tc := ⟨.hbm, 79, rfl⟩
abbrev main_v12 : Ref sig .tc := ⟨.hbm, 80, rfl⟩
abbrev main_cst_1 : Ref sig .tc := ⟨.hbm, 81, rfl⟩
abbrev main_v13 : Ref sig .tc := ⟨.hbm, 82, rfl⟩
abbrev main_v14 : Ref sig .tc := ⟨.hbm, 83, rfl⟩
abbrev main_v15 : Ref sig .tc := ⟨.hbm, 84, rfl⟩
abbrev main_v16 : Ref sig .tc := ⟨.hbm, 85, rfl⟩
abbrev main_v17 : Ref sig .tc := ⟨.hbm, 86, rfl⟩
abbrev main_v18 : Ref sig .tc := ⟨.hbm, 87, rfl⟩
abbrev main_v19 : Ref sig .tc := ⟨.hbm, 88, rfl⟩
abbrev main_v20 : Ref sig .tc := ⟨.hbm, 89, rfl⟩
abbrev main_v21 : Ref sig .tc := ⟨.hbm, 90, rfl⟩
abbrev main_v22 : Ref sig .tc := ⟨.hbm, 91, rfl⟩
abbrev main_v23 : Ref sig .tc := ⟨.hbm, 92, rfl⟩
abbrev main_v24 : Ref sig .tc := ⟨.hbm, 93, rfl⟩
abbrev main_v25 : Ref sig .tc := ⟨.hbm, 94, rfl⟩
abbrev main_v26 : Ref sig .tc := ⟨.hbm, 95, rfl⟩
abbrev main_v27 : Ref sig .tc := ⟨.hbm, 96, rfl⟩
abbrev main_call3_cst : Ref sig .tc := ⟨.hbm, 97, rfl⟩
abbrev main_call3_v0 : Ref sig .tc := ⟨.hbm, 98, rfl⟩
abbrev main_v28 : Ref sig .tc := ⟨.hbm, 99, rfl⟩
abbrev main_v29 : Ref sig .tc := ⟨.hbm, 100, rfl⟩
abbrev main_v30 : Ref sig .tc := ⟨.hbm, 101, rfl⟩
abbrev main_v31 : Ref sig .tc := ⟨.hbm, 102, rfl⟩
abbrev main_v32 : Ref sig .tc := ⟨.hbm, 103, rfl⟩
abbrev main_v33 : Ref sig .tc := ⟨.hbm, 104, rfl⟩
abbrev main_call4_cst : Ref sig .tc := ⟨.hbm, 105, rfl⟩
abbrev main_call4_v0 : Ref sig .tc := ⟨.hbm, 106, rfl⟩
abbrev main_v34 : Ref sig .tc := ⟨.hbm, 107, rfl⟩
abbrev main_cst_2 : Ref sig .tc := ⟨.hbm, 108, rfl⟩
abbrev main_v35 : Ref sig .tc := ⟨.hbm, 109, rfl⟩
abbrev main_v36 : Ref sig .tc := ⟨.hbm, 110, rfl⟩
abbrev main_cst_3 : Ref sig .tc := ⟨.hbm, 111, rfl⟩
abbrev main_v37 : Ref sig .tc := ⟨.hbm, 112, rfl⟩
abbrev main_v38 : Ref sig .tc := ⟨.hbm, 113, rfl⟩
abbrev main_c_4 : Ref sig .tc := ⟨.hbm, 114, rfl⟩
abbrev main_call5_cst : Ref sig .tc := ⟨.hbm, 115, rfl⟩
abbrev main_call5_v0 : Ref sig .tc := ⟨.hbm, 116, rfl⟩
abbrev main_call5_v1 : Ref sig .tc := ⟨.hbm, 117, rfl⟩
abbrev main_call5_cst_0 : Ref sig .tc := ⟨.hbm, 118, rfl⟩
abbrev main_call5_v2 : Ref sig .tc := ⟨.hbm, 119, rfl⟩
abbrev main_call5_v3 : Ref sig .tc := ⟨.hbm, 120, rfl⟩
abbrev main_call5_v4 : Ref sig .tc := ⟨.hbm, 121, rfl⟩
abbrev main_call5_v5 : Ref sig .tc := ⟨.hbm, 122, rfl⟩
abbrev main_call5_v6 : Ref sig .tc := ⟨.hbm, 123, rfl⟩
abbrev main_call5_v7 : Ref sig .tc := ⟨.hbm, 124, rfl⟩
abbrev main_call5_cst_1 : Ref sig .tc := ⟨.hbm, 125, rfl⟩
abbrev main_call5_v8 : Ref sig .tc := ⟨.hbm, 126, rfl⟩
abbrev main_call5_cst_2 : Ref sig .tc := ⟨.hbm, 127, rfl⟩
abbrev main_call5_v9 : Ref sig .tc := ⟨.hbm, 128, rfl⟩
abbrev main_call5_v10 : Ref sig .tc := ⟨.hbm, 129, rfl⟩
abbrev main_call5_v11 : Ref sig .tc := ⟨.hbm, 130, rfl⟩
abbrev main_call5_v12 : Ref sig .tc := ⟨.hbm, 131, rfl⟩
abbrev main_call5_cst_3 : Ref sig .tc := ⟨.hbm, 132, rfl⟩
abbrev main_call5_v13 : Ref sig .tc := ⟨.hbm, 133, rfl⟩
abbrev main_call5_cst_4 : Ref sig .tc := ⟨.hbm, 134, rfl⟩
abbrev main_call5_call0_v0 : Ref sig .tc := ⟨.hbm, 135, rfl⟩
abbrev main_call5_call0_v1 : Ref sig .tc := ⟨.hbm, 136, rfl⟩
abbrev main_v39 : Ref sig .tc := ⟨.hbm, 137, rfl⟩
abbrev main_v40 : Ref sig .tc := ⟨.hbm, 138, rfl⟩
abbrev main_v41 : Ref sig .tc := ⟨.hbm, 139, rfl⟩
abbrev main_cst_5 : Ref sig .tc := ⟨.hbm, 140, rfl⟩
abbrev main_v42 : Ref sig .tc := ⟨.hbm, 141, rfl⟩
abbrev main_v43 : Ref sig .tc := ⟨.hbm, 142, rfl⟩
abbrev main_v44 : Ref sig .tc := ⟨.hbm, 143, rfl⟩
abbrev main_v45 : Ref sig .tc := ⟨.hbm, 144, rfl⟩
abbrev main_v46 : Ref sig .tc := ⟨.hbm, 145, rfl⟩
abbrev main_v47 : Ref sig .tc := ⟨.hbm, 146, rfl⟩
abbrev main_v48 : Ref sig .tc := ⟨.hbm, 147, rfl⟩
abbrev main_v49 : Ref sig .tc := ⟨.hbm, 148, rfl⟩
abbrev main_v50 : Ref sig .tc := ⟨.hbm, 149, rfl⟩
abbrev main_v51 : Ref sig .tc := ⟨.hbm, 150, rfl⟩
abbrev main_v52 : Ref sig .tc := ⟨.hbm, 151, rfl⟩
abbrev main_v53 : Ref sig .tc := ⟨.hbm, 152, rfl⟩
abbrev main_v54 : Ref sig .tc := ⟨.hbm, 153, rfl⟩
abbrev main_v55 : Ref sig .tc := ⟨.hbm, 154, rfl⟩
abbrev main_v56 : Ref sig .tc := ⟨.hbm, 155, rfl⟩
abbrev main_call6_cst : Ref sig .tc := ⟨.hbm, 156, rfl⟩
abbrev main_call6_v0 : Ref sig .tc := ⟨.hbm, 157, rfl⟩
abbrev main_v57 : Ref sig .tc := ⟨.hbm, 158, rfl⟩
abbrev main_v58 : Ref sig .tc := ⟨.hbm, 159, rfl⟩
abbrev main_v59 : Ref sig .tc := ⟨.hbm, 160, rfl⟩
abbrev main_v60 : Ref sig .tc := ⟨.hbm, 161, rfl⟩
abbrev main_v61 : Ref sig .tc := ⟨.hbm, 162, rfl⟩
abbrev main_call7_cst : Ref sig .tc := ⟨.hbm, 163, rfl⟩
abbrev main_call7_v0 : Ref sig .tc := ⟨.hbm, 164, rfl⟩
abbrev main_v62 : Ref sig .tc := ⟨.hbm, 165, rfl⟩
abbrev main_v63 : Ref sig .tc := ⟨.hbm, 166, rfl⟩
abbrev main_v64 : Ref sig .tc := ⟨.hbm, 167, rfl⟩
abbrev main_v65 : Ref sig .tc := ⟨.hbm, 168, rfl⟩
abbrev main_v66 : Ref sig .tc := ⟨.hbm, 169, rfl⟩
abbrev main_v67 : Ref sig .tc := ⟨.hbm, 170, rfl⟩
abbrev main_v68 : Ref sig .tc := ⟨.hbm, 171, rfl⟩
abbrev main_cst_6 : Ref sig .tc := ⟨.hbm, 172, rfl⟩
abbrev main_v69 : Ref sig .tc := ⟨.hbm, 173, rfl⟩
abbrev main_v70 : Ref sig .tc := ⟨.hbm, 174, rfl⟩
abbrev main_cst_7 : Ref sig .tc := ⟨.hbm, 175, rfl⟩
abbrev main_v71 : Ref sig .tc := ⟨.hbm, 176, rfl⟩
abbrev main_v72 : Ref sig .tc := ⟨.hbm, 177, rfl⟩

abbrev nD : Nat := 1
abbrev τ : Topo := Topo.v7x

variable {F : FTy → Type} [FloatOps F]
-- ==== Proof.InRange.lean ====
/-
  What the precondition on the row numbers says of them: each, as a natural number, is below 1500.
-/
module

public import proofs.«01_k».proof.Pre_ids_in_range
public import proofs.«01_k».proof.Proof.Gen.Pre_ids_in_range
public import Idealize.ShloMosaic.Lib.ReduceAll
public import Idealize.ShloMosaic.Lib.WordCmp

@[expose] public section

namespace Cert.Proof.InRange

open Idealize.ShloMosaic

/-- A word at least zero and below 1500 as a signed number is below 1500 as a natural number. -/
theorem word (v : BitVec 32) (h : IntOp.andi (IntOp.cmpi .sge v 0#32) (IntOp.cmpi .slt v 1500#32) = 1#1) : v.toNat < 1500 := by
  have e := WordCmp.andi_sge_zero_slt_ofNat (w := 32) (k := 1500) (by decide) v
  rw [e] at h
  revert h
  by_cases hk : v.toNat < 1500 <;> simp [hk]

/-- Where the conjunction over all elements of "at least zero and below 1500" is 1, every element is below 1500. -/
theorem all {s t u : Shape} {axes : List (Fin s.rank)} [Subsingleton t.Idx] (x : IVec s 32) (a b : IVec s 32) (ha : ∀ i, a i = 0#32)
    (hb : ∀ i, b i = 1500#32) (init : IVec u 1) (h : s.ReducesTo axes t) (hu : 0 < u.numel) (j : t.Idx)
    (e : Host.reduce IntOp.andi (andi (cmpi .sge x a) (cmpi .slt x b)) init h hu j = 1#1) (i : s.Idx) : (x i).toNat < 1500 := by
  have h1 := Host.reduce_andi_all _ init h hu j e i
  refine word (x i) ?_
  rw [← ha i, ← hb i]; exact h1

/-- The precondition of the frames. -/
theorem of_pre {F : FTy → Type} [FloatOps F] [Cert.Pre_ids_in_range.Facts] (a0 a1 a2 a3 a4 a5 a6 a7 a8 a9 a10 a11 a12 a13 a14 a15 a16 a17 a18)
    (h : Cert.Pre_ids_in_range.fn (F := F) a0 a1 a2 a3 a4 a5 a6 a7 a8 a9 a10 a11 a12 a13 a14 a15 a16 a17 a18 = fun _ => 1#1)
    (i : Cert.Pre_ids_in_range.S16384.Idx) : (a1 i).toNat < 1500 := by
  unfold Cert.Pre_ids_in_range.fn at h
  have e := congrFun h (fun k => k.elim0)
  haveI : Subsingleton Cert.Pre_ids_in_range.S_.Idx := ⟨fun x y => funext fun k => k.elim0⟩
  exact all a1 _ _ (fun _ => rfl) (fun _ => rfl) _ _ _ _ e i

end Cert.Proof.InRange

end
-- ==== Proof.GatherBatch.lean ====
/-
  Several indirect gathers outstanding on one semaphore.

  A tile issues a number of indirect gathers on one DMA semaphore, one after another, and only then waits, once per
  gather. The waits say nothing about WHICH gather has landed until the last: the counter of the semaphore is lowered by
  the credit of one gather each time, whoever paid it. So the rows of all the gathers together are counted as ONE batch
  of transfers of equal credit (`Transfers.Batch`): each gather issues its rows as the next so many transfers of the
  batch, each wait but the last consumes the units of one gather's rows and hands back nothing, and the last hands back
  every row of every gather, each written with the row of the source that its list entry names.
-/
module

public import Idealize.ShloMosaic.Lib.Batch
public import Idealize.ShloMosaic.Lib.SparseCore.Ops
public import Idealize.ShloMosaic.Lib.SparseCore.Stream

@[expose] public section

noncomputable section

namespace Cert.Proof.GatherBatch

open Idealize.ShloMosaic Idealize.ShloMosaic.SparseCore
open Idealize.ShloMosaic.Transfers
open Idealize.SL
open Idealize.SL.BI (sProp Storable bigSep)
open scoped Idealize.SL.BI
open Idealize.SL.BI.BIBase Idealize.SL.BI.Laws Idealize.SL.Sem Idealize.SL.ProofMode
open Idealize.SL.RA

variable {nD : Nat} {τ : Topo} {sig : RefSig} {Ix : Type} [DecidableEq Ix]
variable {F : FTy → Type} {Name : Type} [DecidableEq Name]
variable {U : Type} [URA U] {Lvl : Type}

local notation "𝕄" => MT nD τ sig Ix (Elt F) Name U Lvl

variable (EC : UEmb Counters (MT nD τ sig Ix (Elt F) Name U Lvl)) (c : Thread nD τ)
variable {sp : Space} {s₀ s si : Shape} {e : EltTy} {a : Nat}

/-- The transfers of a batch from the `j`-th on are the next `o` and those from the `j + o`-th on. -/
theorem pending_split {n : ℕ} (Φ : Fin n → sProp 𝕄) {j o : ℕ} (h : j + o ≤ n) :
    bigSep (pending j) Φ
      = iprop((bigSep Finset.univ fun i : Fin o => Φ ⟨j + i.val, by omega⟩) ∗ bigSep (pending (j + o)) Φ) := by
  classical
  let em : Fin o ↪ Fin n := ⟨fun i => ⟨j + i.val, by omega⟩, fun x y hxy => Fin.ext (by have := congrArg Fin.val hxy; simp at this; exact this)⟩
  have hset : pending (n := n) j = Finset.univ.map em ∪ pending (j + o) := by
    ext t
    simp only [pending, Finset.mem_union, Finset.mem_map, Finset.mem_filter, Finset.mem_univ, true_and]
    constructor
    · intro ht
      by_cases h' : j + o ≤ t.val
      · exact .inr h'
      · exact .inl ⟨⟨t.val - j, by omega⟩, Fin.ext (by change j + (t.val - j) = t.val; omega)⟩
    · rintro (⟨i, rfl⟩ | h')
      · change j ≤ j + i.val; omega
      · omega
  have hdis : Disjoint (Finset.univ.map em) (pending (n := n) (j + o)) := by
    refine Finset.disjoint_left.mpr fun t ht ht' => ?_
    obtain ⟨i, -, rfl⟩ := Finset.mem_map.mp ht
    have h1 : j + o ≤ j + i.val := (Finset.mem_filter.mp ht').2
    have := i.isLt
    omega
  rw [hset, BI.bigSep_union hdis, BI.bigSep_map]
  rfl

/-- What row `j` of a gather delivers: the row of the destination written with the row of the source its list entry
    names, the entry's share of the list, and the row's piece of the source's share. -/
def rowDelivered (src : Memref sig c.2.kind sp s₀ e) (dst : Memref sig c.2.kind .vmem s e) (hg : s₀.Gathers a s)
    (offs : Memref sig c.2.kind .vmem si .i32) (hn : si.numel = s.size hg.axis') (ho : 0 < s.size hg.axis')
    (q qo : PosShare TreeShare) (fs : Buf (Elt F) (src.view.loc c)) (fd : Buf (Elt F) (dst.view.loc c)) (fo : Buf (Elt F) (offs.view.loc c))
    (hin : ∀ x, (offs.view.read (Elt F) fo x).toNat < s₀.size hg.axis) (j : Fin (s.size hg.axis')) : sProp 𝕄 :=
  iprop(((dst.view.loc c ↦[(dst.view.slice (s.rowRect hg.axis' j)).set]{fullShare}
            ((dst.view.slice (s.rowRect hg.axis' j)).write (Elt F) fd
              (fun i : (s.rowShape hg.axis').Idx => src.view.read (Elt F) fs (hg.rowIdx (rows (offs.view.read (Elt F) fo) hn hin j) i)) Finset.univ))
        ∗ (offs.view.loc c ↦[{offs.view.emb (si.rowMajor.symm (j.cast hn.symm))}]{qo} fo))
      ∗ (src.view.loc c ↦[src.view.set]{pieceOf q _ ho j} fs))

instance rowDelivered_storable (src : Memref sig c.2.kind sp s₀ e) (dst : Memref sig c.2.kind .vmem s e) (hg : s₀.Gathers a s)
    (offs : Memref sig c.2.kind .vmem si .i32) (hn : si.numel = s.size hg.axis') (ho : 0 < s.size hg.axis')
    (q qo : PosShare TreeShare) (fs : Buf (Elt F) (src.view.loc c)) (fd : Buf (Elt F) (dst.view.loc c)) (fo : Buf (Elt F) (offs.view.loc c))
    (hin : ∀ x, (offs.view.read (Elt F) fo x).toNat < s₀.size hg.axis) (j : Fin (s.size hg.axis')) :
    Storable (upEmb : UEmb _ 𝕄) (rowDelivered c src dst hg offs hn ho q qo fs fd fo hin j) := by
  unfold rowDelivered; infer_instance

/-- Every row of a gather delivered: the destination written with the gather's payload, the source's share whole and the
    list's share whole. -/
theorem rowDelivered_join {src : Memref sig c.2.kind sp s₀ e} {dst : Memref sig c.2.kind .vmem s e} {hg : s₀.Gathers a s}
    {offs : Memref sig c.2.kind .vmem si .i32} {hn : si.numel = s.size hg.axis'} {ho : 0 < s.size hg.axis'}
    {q qo : PosShare TreeShare} {fs : Buf (Elt F) (src.view.loc c)} {fd : Buf (Elt F) (dst.view.loc c)} {fo : Buf (Elt F) (offs.view.loc c)}
    {hin : ∀ x, (offs.view.read (Elt F) fo x).toNat < s₀.size hg.axis} :
    bigSep Finset.univ (rowDelivered c src dst hg offs hn ho q qo fs fd fo hin)
      ⊢ (iprop((dst.view.loc c ↦[dst.view.set]{fullShare}
              (dst.view.write (Elt F) fd (gatherPayload hg (src.view.read (Elt F) fs) (rows (offs.view.read (Elt F) fo) hn hin)) Finset.univ))
          ∗ (src.view.loc c ↦[src.view.set]{q} fs) ∗ (offs.view.loc c ↦[offs.view.set]{qo} fo)) : sProp 𝕄) := by
  have hen : Function.Bijective (fun j : Fin (s.size hg.axis') => si.rowMajor.symm (j.cast hn.symm)) :=
    si.rowMajor.symm.bijective.comp (finCongr hn.symm).bijective
  have hW : ∀ (j : Fin (s.size hg.axis')) (i : (s.rowShape hg.axis').Idx),
      src.view.read (Elt F) fs (hg.rowIdx (rows (offs.view.read (Elt F) fo) hn hin j) i)
        = gatherPayload hg (src.view.read (Elt F) fs) (rows (offs.view.read (Elt F) fo) hn hin) ((s.rowRect hg.axis' j).emb i) := fun j i => by
    unfold gatherPayload; rw [Shape.Gathers.idx_rowRect_emb]
  unfold rowDelivered
  iintro HD
  ihave H1 := Transfers.bigSep_sep_out _ _ _ $$ HD
  icases H1 with ⟨H2, Hsrc⟩
  ihave H3 := Transfers.bigSep_sep_out _ _ _ $$ H2
  icases H3 with ⟨Hrows, Hoffs⟩
  isplitl [Hrows]
  · iapply (pointsTo_rows_write c dst.view hg.axis' fd _ _ hW) $$ Hrows
  isplitl [Hsrc]; · iapply (Entails.of_eq (pointsTo_piecesOf (src.view.set) fs ho q).symm) $$ Hsrc
  iapply (Entails.of_eq (pointsTo_entries c offs.view (fun j => si.rowMajor.symm (j.cast hn.symm)) hen qo fo).symm) $$ Hoffs

variable [Preorder Lvl] {Λ : Labels} {defs : Defs nD τ sig (Elt F) Λ} (𝒱 : Variants) (bd : Option 𝒱.V)
variable {α : Type} {Q : α → sProp (MT nD τ sig Ix (Elt F) Name U Lvl)}

/-- A gather whose `o` rows are the next `o` transfers of a batch (`j` issued before it): holding a share of its source,
    its destination outright, a share of its list — whose words are all rows of the source — and the batch, each row's
    credit being the batch's and each row's delivery being what the batch delivers for it, the tile issues the gather and
    continues holding the batch with `o` more transfers issued. -/
theorem wp_gatherBatch [Infinite Name] [EC.LandsIn (upEmb : UEmb _ 𝕄)] {n : ℕ}
    {src : Memref sig c.2.kind sp s₀ e} {dst : Memref sig c.2.kind .vmem s e} {hg : s₀.Gathers a s}
    {offs : Memref sig c.2.kind .vmem si .i32} {hn : si.numel = s.size hg.axis'} {sem : DmaSem sig}
    {hp : c.2.kind = .scVector} {hsrc : src.view.WordExact} {he : e.bits = 32} {hsp : sp = .hbm ∨ sp = .shared} {hr : s₀.StreamRows a}
    {k : PUnit → Prog (TpuEff nD τ sig (Elt F) Λ c.2) α}
    {q qo : PosShare TreeShare} {fs : Buf (Elt F) (src.view.loc c)} {fd : Buf (Elt F) (dst.view.loc c)} {fo : Buf (Elt F) (offs.view.loc c)}
    (ι : Ix) {N : ℕ} (hN : ∀ i, (dst.slice (s.rowRect hg.axis' i) (s.stride_rowRect hg.axis' i)).view.dmaCredit = N)
    (ho : 0 < s.size hg.axis') (hin : ∀ x, (offs.view.read (Elt F) fo x).toNat < s₀.size hg.axis)
    {D : Fin n → sProp 𝕄} {j u : ℕ} (hj : j + s.size hg.axis' ≤ n) (hu : u ≤ j * N)
    (hD : ∀ i : Fin (s.size hg.axis'), rowDelivered c src dst hg offs hn ho q qo fs fd fo hin i ⊢ D ⟨j + i.val, by omega⟩) :
    iprop((src.view.loc c ↦[src.view.set]{q} fs) ∗ (dst.view.loc c ↦[dst.view.set]{fullShare} fd)
        ∗ (offs.view.loc c ↦[offs.view.set]{qo} fo) ∗ Batch EC c (.dma sem) ι N D j u)
      ⊢ iprop((Batch EC c (.dma sem) ι N D (j + s.size hg.axis') u -∗ wp frame (wpE defs 𝒱 c bd) Set.univ (k ⟨⟩) Q)
          -∗ wp frame (wpE defs 𝒱 c bd) Set.univ (enqueueIndirectGather hp src dst hg offs hn sem hsrc he hsp hr >>= k) Q) := by
  rw [enqueueIndirectGather_bind]
  let S : Stream nD τ sig (Elt F) :=
    Stream.issued c offs.view hn sem (fun j w => (rowOf (s₀.size hg.axis) w).map (gatherRow c src dst hg sem hsrc he hsp hr j)) 0
  let r : Fin (s.size hg.axis') → Fin (s₀.size hg.axis) := rows (offs.view.read (Elt F) fo) hn hin
  let rd : Fin (s.size hg.axis') → RowDma τ sig (Elt F) c.2 sem := fun j => gatherRow c src dst hg sem hsrc he hsp hr j (r j)
  let qk : Fin (s.size hg.axis') → PosShare TreeShare := pieceOf q _ ho
  have hA : S.RowsAgree := by
    intro j x x' ρ ρ' h h'
    obtain ⟨_, _, rfl⟩ := Option.map_eq_some_iff.mp h
    obtain ⟨_, _, rfl⟩ := Option.map_eq_some_iff.mp h'
    rfl
  have hrd : ∀ j, S.row j (S.word fo j) = some (rd j) := fun j => by
    change (rowOf (s₀.size hg.axis) (offs.view.read (Elt F) fo (S.entry j))).map _ = _
    rw [rowOf_of_lt (hin _)]; rfl
  have hen : Function.Bijective S.entry := si.rowMajor.symm.bijective.comp (finCongr hn.symm).bijective
  have hsum : ∑ k, (rd k).dst.view.dmaCredit = s.size hg.axis' * N := by
    rw [Finset.sum_congr rfl fun i _ => hN i, Finset.sum_const, Finset.card_univ, Fintype.card_fin, smul_eq_mul]
  unfold Batch
  iintro ⟨Hs, Hd, Ho, ⟨%γ, %γ₀, %κ, #Hinv, HI, H0, Hcred⟩⟩ Hk
  ihave HI' := (Entails.of_eq (pending_split (fun t => count EC (γ t) 0) hj)) $$ HI
  icases HI' with ⟨Hγ, HI⟩
  ihave Hd' := (Entails.of_eq (pointsTo_rows c dst.view hg.axis' fullShare fd)) $$ Hd
  ihave Ho' := (Entails.of_eq (pointsTo_entries c offs.view S.entry hen qo fo)) $$ Ho
  ihave Hs' := (Entails.of_eq (pointsTo_piecesOf (src.view.set) fs ho q)) $$ Hs
  iapply (wp_enqueueIndirectDma 𝒱 c bd Set.univ (qo := qo) (fo := fo) (rd := rd) ι _ hA hrd hsum) $$ [Hd' Ho' Hs' Hγ]
  · have hrow : ∀ i : Fin (s.size hg.axis'), iprop(inv κ (batchBody EC (c, SemLoc.dma sem) N D γ γ₀)
          ∗ ((((dst.view.loc c ↦[(dst.view.slice (s.rowRect hg.axis' i)).set]{fullShare} fd) ∗ S.heldEntry qo fo i)
          ∗ (src.view.loc c ↦[src.view.set]{qk i} fs)) ∗ count EC (γ ⟨j + i.val, by omega⟩) 0))
        ⊢ iprop(S.heldEntry qo fo i ∗ (S.heldEntry qo fo i -∗ rowRes c (rd i))) := fun i => by
      iintro ⟨#Hinv, ⟨⟨Hr, He⟩, Hsq⟩, Hγi⟩
      isplitl [He]; · iexact He
      iintro He
      unfold rowRes
      iexists qk i, fs, iprop((dst.view.loc c ↦[(dst.view.slice (s.rowRect hg.axis' i)).set]{fullShare}
        ((dst.view.slice (s.rowRect hg.axis' i)).write (Elt F) fd (fun x : (s.rowShape hg.axis').Idx => src.view.read (Elt F) fs (hg.rowIdx (r i) x)) Finset.univ)) ∗ S.heldEntry qo fo i)
      isplitl [Hsq]; · iexact Hsq
      isplitl [Hr He]
      · iapply writeUpdate_frame
        isplitl [Hr]
        · iapply (pointsTo_writeUpdate c (v := dst.view.slice (s.rowRect hg.axis' i)) subset_rfl) $$ Hr
        · iexact He
      · rw [show (rd i).dst.view.amount (SemLoc.dma sem) = N from hN i]
        iapply (batch_creditUpdate EC (D := D) ⟨j + i.val, by omega⟩ (hD i))
        isplitr; · iexact Hinv
        iexact Hγi
    unfold Stream.res
    ihave H1 := Transfers.bigSep_sep_in _ _ _ $$ [Hd' Ho']; · isplitl [Hd'] <;> iassumption
    ihave H2 := Transfers.bigSep_sep_in _ _ _ $$ [H1 Hs']; · isplitl [H1] <;> iassumption
    ihave H3 := Transfers.bigSep_sep_in _ _ _ $$ [H2 Hγ]; · isplitl [H2] <;> iassumption
    iapply (Transfers.bigSep_mono_pers Finset.univ _ _ _ fun i _ => hrow i)
    isplitr; · iexact Hinv
    iexact H3
  iintro Hcred'
  iapply Hk
  iexists γ, γ₀, κ
  isplitr; · iexact Hinv
  isplitl [HI]; · iexact HI
  isplitl [H0]; · iexact H0
  rw [show (j + s.size hg.axis') * N - u = (j * N - u) + s.size hg.axis' * N by rw [Nat.add_mul]; omega, ← tallyAt_add]
  icombine Hcred Hcred' as H
  iexact H

end Cert.Proof.GatherBatch

end
-- ==== Proof.KernelHost.lean ====
/-
  The StableHLO lines of @main as lists of operations, and the contents of the unscoped buffers between its calls.

  @main is four straight lines with three calls between them: the gather on the SparseCores, and two TensorCore kernels.
  `W0 … WD` are the contents of a device's unscoped buffers from the launch to the end, each a function of the launch's
  memory alone.
-/
module

public import proofs.«01_k».proof.Proof.KernelTile
public import proofs.«01_k».proof.Proof.KernelStats
public import proofs.«01_k».proof.Proof.KernelMlp

@[expose] public section

noncomputable section

namespace Cert.Proof.KernelHost

open Cert.Kernel Cert.Kernel.Gen

open Idealize.ShloMosaic
open Idealize.ShloMosaic.TcCoe
open Idealize.SL Idealize.SL.Sem
open Idealize.ShloMosaic.StableHlo (after)
open Idealize.ShloMosaic.SparseCore (T)
open Cert.Proof.KernelTile (tLoc iLoc oLoc ΛP)

variable {F : FTy → Type} [FloatOps F]

/-! ## The straight lines -/

/-- The lines before the SparseCore call: the row numbers as a 128 × 128 array, the table widened to 128 columns. -/
def opsA : List (HloOp τ sig (Elt F)) :=
  [StableHlo.reshape main_arg1 main_v0 (rfl : (.i32 : EltTy) = .i32) shapeCasts_S16384_S128x128,
   StableHlo.nullary main_c (constantI S_ 32 0#32),
   StableHlo.TRef.unary (.of main_c : StableHlo.TRef sig ⟨S_, .i32⟩) main_call0.v0 (sitofp .f32),
   StableHlo.TRef.binary (.of main_arg2 : StableHlo.TRef sig ⟨S1500x64, .f32⟩) main_call0.v0 main_call0.v1 (fun x v => pad S1500x128 ![0, 0] ![0, 64] ![0, 0] x v pads_S1500x64_S1500x128_000_0640 h_S_)]

/-- The lines before the first TensorCore call: the lower half of the third weight, padded; the features transposed. -/
def opsB : List (HloOp τ sig (Elt F)) :=
  [StableHlo.unary main_arg9 main_v3 ((extractStridedSlice S64x128 ![64, 0] · slices_S128x128_S64x128_64_0) : (⟨S128x128, .f32⟩ : BufTy).Contents (Elt F) → (⟨S64x128, .f32⟩ : BufTy).Contents (Elt F)),
   StableHlo.nullary main_c_0 (constantI S_ 32 0#32),
   StableHlo.TRef.unary (.of main_c_0 : StableHlo.TRef sig ⟨S_, .i32⟩) main_call1.v0 (sitofp .f32),
   StableHlo.TRef.binary (.of main_v3 : StableHlo.TRef sig ⟨S64x128, .f32⟩) main_call1.v0 main_call1.v1 (fun x v => pad S128x128 ![0, 0] ![64, 0] ![0, 0] x v pads_S64x128_S128x128_0640_000 h_S_),
   StableHlo.unary main_arg0 main_v5 ((transpose S8x16384 [1, 0] · transposes_S16384x8_S8x16384_1_0) : (⟨S16384x8, .f32⟩ : BufTy).Contents (Elt F) → (⟨S8x16384, .f32⟩ : BufTy).Contents (Elt F)),
   StableHlo.reshape main_arg4 main_v6 (rfl : (.f32 : EltTy) = .f32) shapeCasts_S128_S1x128]

/-- The lines before the second TensorCore call: the vectors as one-row arrays, the upper half of the third weight. -/
def opsC : List (HloOp τ sig (Elt F)) :=
  [StableHlo.reshape main_arg4 main_v8 (rfl : (.f32 : EltTy) = .f32) shapeCasts_S128_S1x128,
   StableHlo.reshape main_arg5 main_v9 (rfl : (.f32 : EltTy) = .f32) shapeCasts_S128_S1x128,
   StableHlo.reshape main_arg6 main_v10 (rfl : (.f32 : EltTy) = .f32) shapeCasts_S128_S1x128,
   StableHlo.reshape main_arg8 main_v11 (rfl : (.f32 : EltTy) = .f32) shapeCasts_S64_S1x64,
   StableHlo.unary main_arg9 main_v12 ((extractStridedSlice S64x128 ![0, 0] · slices_S128x128_S64x128_0_0) : (⟨S128x128, .f32⟩ : BufTy).Contents (Elt F) → (⟨S64x128, .f32⟩ : BufTy).Contents (Elt F)),
   StableHlo.reshape main_arg10 main_v13 (rfl : (.f32 : EltTy) = .f32) shapeCasts_S128_S1x128,
   StableHlo.reshape main_arg11 main_v14 (rfl : (.f32 : EltTy) = .f32) shapeCasts_S128_S1x128,
   StableHlo.reshape main_arg12 main_v15 (rfl : (.f32 : EltTy) = .f32) shapeCasts_S128_S1x128,
   StableHlo.reshape main_arg14 main_v16 (rfl : (.f32 : EltTy) = .f32) shapeCasts_S64_S1x64,
   StableHlo.reshape main_arg16 main_v17 (rfl : (.f32 : EltTy) = .f32) shapeCasts_S32_S1x32,
   StableHlo.reshape main_arg18 main_v18 (rfl : (.f32 : EltTy) = .f32) shapeCasts_S1_S1x1]

/-- The line after the calls: the result row as a column. -/
def opsD : List (HloOp τ sig (Elt F)) :=
  [StableHlo.reshape main_v19 main_v20 (rfl : (.f32 : EltTy) = .f32) shapeCasts_S1x16384_S16384x1]

/-- @main is its straight lines with the three calls between them. -/
theorem main_eq (d : Dev nD) : main (F := F) d =
    (StableHlo.seq opsA >>= fun _ => sc.run d 0 >>= fun _ => StableHlo.seq opsB >>= fun _ =>
      Prog.lift (.customCall (SparseCore.inner (Pipeline.entry 0)) ()) >>= fun _ => StableHlo.seq opsC >>= fun _ =>
      Prog.lift (.customCall (SparseCore.inner (Pipeline.entry 1)) ()) >>= fun _ => StableHlo.seq opsD >>= fun _ => pure ⟨⟩) := by
  rfl

theorem sub_opsA : ∀ op ∈ (opsA : List (HloOp τ sig (Elt F))), op.bufs ⊆ Pipeline.ucRefs τ sig := fun op h =>
  Pipeline.sub_ucRefs op (List.forall_iff_forall_mem.mp
    (show List.Forall (fun op : HloOp τ sig (Elt F) => op.bufs ⊆ StableHlo.tcRefs τ sig) opsA from ⟨StableHlo.reshape_bufs_sub .., StableHlo.nullary_bufs_sub .., StableHlo.unary_bufs_sub .., StableHlo.binary_bufs_sub ..⟩) op h)
theorem sub_opsB : ∀ op ∈ (opsB : List (HloOp τ sig (Elt F))), op.bufs ⊆ Pipeline.ucRefs τ sig := fun op h =>
  Pipeline.sub_ucRefs op (List.forall_iff_forall_mem.mp
    (show List.Forall (fun op : HloOp τ sig (Elt F) => op.bufs ⊆ StableHlo.tcRefs τ sig) opsB from ⟨StableHlo.unary_bufs_sub .., StableHlo.nullary_bufs_sub .., StableHlo.unary_bufs_sub .., StableHlo.binary_bufs_sub .., StableHlo.unary_bufs_sub .., StableHlo.reshape_bufs_sub ..⟩) op h)
theorem sub_opsC : ∀ op ∈ (opsC : List (HloOp τ sig (Elt F))), op.bufs ⊆ Pipeline.ucRefs τ sig := fun op h =>
  Pipeline.sub_ucRefs op (List.forall_iff_forall_mem.mp
    (show List.Forall (fun op : HloOp τ sig (Elt F) => op.bufs ⊆ StableHlo.tcRefs τ sig) opsC from ⟨StableHlo.reshape_bufs_sub .., StableHlo.reshape_bufs_sub .., StableHlo.reshape_bufs_sub .., StableHlo.reshape_bufs_sub .., StableHlo.unary_bufs_sub .., StableHlo.reshape_bufs_sub .., StableHlo.reshape_bufs_sub .., StableHlo.reshape_bufs_sub .., StableHlo.reshape_bufs_sub .., StableHlo.reshape_bufs_sub .., StableHlo.reshape_bufs_sub ..⟩) op h)
theorem sub_opsD : ∀ op ∈ (opsD : List (HloOp τ sig (Elt F))), op.bufs ⊆ Pipeline.ucRefs τ sig := fun op h =>
  Pipeline.sub_ucRefs op (List.forall_iff_forall_mem.mp
    (show List.Forall (fun op : HloOp τ sig (Elt F) => op.bufs ⊆ StableHlo.tcRefs τ sig) opsD from StableHlo.reshape_bufs_sub ..) op h)
theorem fresh_opsA : ∀ op ∈ (opsA : List (HloOp τ sig (Elt F))), op.fresh = ∅ :=
  List.forall_iff_forall_mem.mp (show List.Forall (fun op : HloOp τ sig (Elt F) => op.fresh = ∅) opsA from ⟨rfl, rfl, rfl, rfl⟩)
theorem fresh_opsB : ∀ op ∈ (opsB : List (HloOp τ sig (Elt F))), op.fresh = ∅ :=
  List.forall_iff_forall_mem.mp (show List.Forall (fun op : HloOp τ sig (Elt F) => op.fresh = ∅) opsB from ⟨rfl, rfl, rfl, rfl, rfl, rfl⟩)
theorem fresh_opsC : ∀ op ∈ (opsC : List (HloOp τ sig (Elt F))), op.fresh = ∅ :=
  List.forall_iff_forall_mem.mp (show List.Forall (fun op : HloOp τ sig (Elt F) => op.fresh = ∅) opsC from ⟨rfl, rfl, rfl, rfl, rfl, rfl, rfl, rfl, rfl, rfl, rfl⟩)
theorem fresh_opsD : ∀ op ∈ (opsD : List (HloOp τ sig (Elt F))), op.fresh = ∅ :=
  List.forall_iff_forall_mem.mp (show List.Forall (fun op : HloOp τ sig (Elt F) => op.fresh = ∅) opsD from rfl)

/-! ## The contents between the calls -/

/-- Contents `W` with the buffer `b` at `f`. -/
def upd (W : Valuation τ sig (Elt F)) (b : Ref sig .tc) (f : b.ty.Contents (Elt F)) : Valuation τ sig (Elt F) :=
  Function.update W (Proc.devRef (τ := τ) .tc b) f

theorem upd_self (W : Valuation τ sig (Elt F)) (b : Ref sig .tc) (f : b.ty.Contents (Elt F)) :
    upd W b f (Proc.devRef (τ := τ) .tc b) = f := Function.update_self ..
theorem upd_ne (W : Valuation τ sig (Elt F)) {b b' : Ref sig .tc} (f : b.ty.Contents (Elt F)) (h : b' ≠ b) :
    upd W b f (Proc.devRef (τ := τ) .tc b') = W (Proc.devRef (τ := τ) .tc b') :=
  Function.update_of_ne (fun e => h (Proc.devRef_injective .tc e)) ..

/-- Contents of a device's buffers as the TensorCore names them. -/
abbrev tcv (W : Dev nD → Valuation τ sig (Elt F)) : (c : Dev nD) → (b : Ref sig .tc) → Buf (Elt F) ((c : Thread nD τ).loc b) :=
  fun c b => W c (Proc.devRef (τ := τ) .tc b)

variable (m : (ℓ : Loc nD τ sig) → Buf (Elt F) ℓ)

/-- At the launch. -/
def W0 (d : Dev nD) : Valuation τ sig (Elt F) := fun b => m (d, b)
/-- At the SparseCore call. -/
def WA (d : Dev nD) : Valuation τ sig (Elt F) := after opsA (W0 m d)
/-- The table the gather reads, its row numbers, and what its output array holds before it. -/
def tab (d : Dev nD) : Buf (Elt F) (tLoc d) := WA m d (Proc.devRef (τ := τ) .tc main_v1)
def ids (d : Dev nD) : Buf (Elt F) (iLoc d) := WA m d (Proc.devRef (τ := τ) .tc main_v0)
def o0 (d : Dev nD) : Buf (Elt F) (oLoc d) := WA m d (Proc.devRef (τ := τ) .tc main_v2)
/-- After the SparseCore call. -/
def WA' (d : Dev nD) : Valuation τ sig (Elt F) := upd (WA m d) main_v2 (KernelTile.out (tab m) (ids m) d)
/-- At the first TensorCore call. -/
def WB (d : Dev nD) : Valuation τ sig (Elt F) := after opsB (WA' m d)
/-- After it. -/
def WB' (d : Dev nD) : Valuation τ sig (Elt F) :=
  upd (WB m d) main_v7 (KernelStatsRun.rows2 (KernelStats.sumB (tcv (WB m)) d) (KernelStats.sqB (tcv (WB m)) d))
/-- At the second TensorCore call. -/
def WC (d : Dev nD) : Valuation τ sig (Elt F) := after opsC (WB' m d)
/-- After it. -/
def WC' (d : Dev nD) : Valuation τ sig (Elt F) := upd (WC m d) main_v19 (KernelMlp.result (tcv (WC m)) d)
/-- At the end. -/
def WD (d : Dev nD) : Valuation τ sig (Elt F) := after opsD (WC' m d)

end Cert.Proof.KernelHost

end
-- ==== Proof.IdealTile.lean ====
/-
  The SparseCore part of the program: thirty-two tiles gather rows of a table.

  Tile `2 s + c` (subcore `s` of SparseCore `c`) fetches its four lists of 128 row numbers, issues four indirect gathers of
  128 rows each on one DMA semaphore, waits four times, and copies the 512 gathered rows out to its block of the output.
  What is proved of it is its VALUE: the output block holds, row by row, the rows of the table that the row numbers name
  (`gath`), whatever the table and the row numbers are, provided every row number is a row of the table.
-/
module

public import proofs.«01_k».proof.Proof.GatherBatch
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton

@[expose] public section

noncomputable section

namespace Cert.Proof.IdealTile

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.GatherBatch

variable {F : FTy → Type}

/-! ## The program as the launch theorem sees it -/

abbrev ΛP : Labels := Pipeline.Sig Λ₀ (Fin 2) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the pipelines' rounds, the transfers' counters -/

abbrev UH : Type := URounds (GSem nD τ sig) ℕ
abbrev UP : Type := URounds (GSem nD τ sig) Unit
abbrev UU : Type := UH × (UP × Counters)

local notation "𝕄" => MT nD τ sig (HIx 1) (Elt F) ℕ UU ℕ

abbrev EH : Emb UH (MT nD τ sig (HIx 1) (Elt F) ℕ UU ℕ) := embL

/-- The pipelines' rounds in the algebra. -/
def EP : Emb UP (MT nD τ sig (HIx 1) (Elt F) ℕ UU ℕ) :=
  ((Emb.inl : Emb UP (UP × Counters)).trans (Emb.inr : Emb (UP × Counters) UU)).trans
    (uEmb (nD := nD) (sig := sig) (Ix := HIx 1) (Val := Elt F) (Name := ℕ) (U := UU) (Lvl := ℕ)).toEmb

/-! ## The buffers -/

abbrev tLoc (d : Dev nD) : Loc nD τ sig := (SparseCore.T d).loc main_v1
abbrev iLoc (d : Dev nD) : Loc nD τ sig := (SparseCore.T d).loc main_v0
abbrev oLoc (d : Dev nD) : Loc nD τ sig := (SparseCore.T d).loc main_v2

abbrev tV : Memref sig Kind.scVector Space.hbm S1500x128 EltTy.f32 := Memref.whole main_v1_scv
abbrev iV : Memref sig Kind.scVector Space.hbm S128x128 EltTy.i32 := Memref.whole main_v0_scv
abbrev oV : Memref sig Kind.scVector Space.hbm S16384x128 EltTy.f32 := Memref.whole main_v2_scv
abbrev sV : Memref sig Kind.scVector Space.vmem S4x128 EltTy.i32 := Memref.whole cc0_scratch0
abbrev rV : Memref sig Kind.scVector Space.vmem S512x128 EltTy.f32 := Memref.whole cc0_scratch1

theorem odiv : 32 ∣ S16384x128.size 0 := ⟨512, rfl⟩
theorem rdiv : 4 ∣ S512x128.size 0 := ⟨128, rfl⟩
/-- Block `w` of the output: 512 rows. -/
abbrev orow (w : Fin 32) : Rect S16384x128 := Rect.part (s := S16384x128) (a₀ := 0) odiv w
abbrev oRowSet (w : Fin 32) : Finset S16384x128.Idx := ((oV).view.slice (orow w)).set

/-- The tile's number: `2 s + c`. -/
abbrev wid (c : Fin 2) (i : Fin 16) : Fin 32 := ⟨2 * i.val + c.val, by omega⟩

/-! ## Shares: every tile reads all of the table and all of the row numbers -/

/-- Tile `(c, i)`'s share: a sixteenth of a half. -/
abbrev qT (c : Fin 2) (i : Fin 16) : PosShare TreeShare := pieceOf (pieceOf fullShare 2 (by omega) c) 16 (by omega) i
/-- The share a tile's gather `m` reads with: a quarter of what the tile holds. -/
abbrev qG (q : PosShare TreeShare) (m : Fin 4) : PosShare TreeShare := pieceOf q 4 (by omega) m

/-! ## The value -/

/-- The entry of the table an entry of the output is: on the row that the output row's row number names. (Row numbers are
    taken modulo the number of rows so that the index is defined of any words; those of the program are below it.) -/
def srcIdx (ids : S128x128.Idx → BitVec 32) (x : S16384x128.Idx) : S1500x128.Idx
  | 0 => ⟨(ids (fun | 0 => ⟨(x 0).val / 128, Nat.div_lt_of_lt_mul (show (x 0).val < 128 * 128 from (x 0).isLt)⟩
                    | 1 => ⟨(x 0).val % 128, Nat.mod_lt _ (by decide)⟩)).toNat % 1500, Nat.mod_lt _ (by decide)⟩
  | 1 => ⟨(x 1).val, (x 1).isLt⟩

/-- What the thirty-two tiles leave in the output. -/
def gath (tab : S1500x128.Idx → Elt F .f32) (ids : S128x128.Idx → BitVec 32) : S16384x128.Idx → Elt F .f32 := fun x => tab (srcIdx ids x)

variable (tab : (d : Dev nD) → Buf (Elt F) (tLoc d)) (ids : (d : Dev nD) → Buf (Elt F) (iLoc d)) (o0 : (d : Dev nD) → Buf (Elt F) (oLoc d))

/-- The output as the tiles leave it. -/
abbrev out (d : Dev nD) : Buf (Elt F) (oLoc d) := gath (F := F) (tab d) (ids d)

/-- Every row number is a row of the table. -/
def PreOK : Prop := ∀ (d : Dev nD) (j : S128x128.Idx), (show BitVec 32 from ids d j).toNat < 1500

variable [FloatOps F]

/-! ## What the handshakes carry -/

abbrev tSh (d : Dev nD) (c : Fin 2) (i : Fin 16) : sProp 𝕄 := tLoc d ↦{qT c i} tab d
abbrev iSh (d : Dev nD) (c : Fin 2) (i : Fin 16) : sProp 𝕄 := iLoc d ↦{qT c i} ids d
abbrev oRowPts (d : Dev nD) (c : Fin 2) (i : Fin 16) (f : Buf (Elt F) (oLoc d)) : sProp 𝕄 := oLoc d ↦[oRowSet (wid c i)]{fullShare} f

/-- What a tile is given: its shares of the row numbers and the table, its block of the output. -/
abbrev goP (d : Dev nD) (c : Fin 2) (i : Fin 16) : sProp 𝕄 := iprop(iSh ids d c i ∗ tSh tab d c i ∗ oRowPts d c i (o0 d))
/-- What it gives back: the same, the block holding the gathered rows. -/
abbrev tdP (d : Dev nD) (c : Fin 2) (i : Fin 16) : sProp 𝕄 := iprop(iSh ids d c i ∗ tSh tab d c i ∗ oRowPts d c i (out tab ids d))

/-- A SparseCore is given what its tiles are, and gives back what they do. -/
def P : (K (F := F)).Pay (nD := nD) (Val := Elt F) (Name := ℕ) (U := UU) where
  st := fun q d c => match q with | 0 => bigSep Finset.univ fun i : Fin 16 => goP tab ids o0 d (Fin.cast nCore_zero c) i
  dn := fun q d c => match q with | 0 => bigSep Finset.univ fun i : Fin 16 => tdP tab ids d (Fin.cast nCore_zero c) i
  go := fun q d c i => match q with | 0 => goP tab ids o0 d (Fin.cast nCore_zero c) (Fin.cast nSub_zero i)
  td := fun q d c i => match q with | 0 => tdP tab ids d (Fin.cast nCore_zero c) (Fin.cast nSub_zero i)
  x := fun _ _ => iprop(emp)

instance P_storable : (P (F := F) tab ids o0).IsStorable where
  st q d c := match q with
    | 0 => (inferInstance : BI.Storable (upEmb : UEmb _ 𝕄) (bigSep Finset.univ fun i : Fin 16 => goP tab ids o0 d (Fin.cast nCore_zero c) i))
  dn q d c := match q with
    | 0 => (inferInstance : BI.Storable (upEmb : UEmb _ 𝕄) (bigSep Finset.univ fun i : Fin 16 => tdP tab ids d (Fin.cast nCore_zero c) i))
  go q d c i := match q with
    | 0 => (inferInstance : BI.Storable (upEmb : UEmb _ 𝕄) (goP tab ids o0 d (Fin.cast nCore_zero c) (Fin.cast nSub_zero i)))
  td q d c i := match q with
    | 0 => (inferInstance : BI.Storable (upEmb : UEmb _ 𝕄) (tdP tab ids d (Fin.cast nCore_zero c) (Fin.cast nSub_zero i)))

/-! ## The tile -/

section Tile

variable (d : Dev nD) (L : grid0.Coords)

abbrev cV (L : grid0.Coords) : Fin τ.nSC := (L 0).castLE hcore0
abbrev jV (L : grid0.Coords) : Fin τ.nSub := (L 1).castLE hsub0
abbrev cL (L : grid0.Coords) : Fin 2 := Fin.cast (show grid0.bound 0 = 2 from rfl) (L 0)
abbrev jL (L : grid0.Coords) : Fin 16 := Fin.cast (show grid0.bound 1 = 16 from rfl) (L 1)
abbrev thr (d : Dev nD) (L : grid0.Coords) : Thread nD τ := V d (cV L) (jV L)

/-- The tile's block of the row numbers and its block of the output, as the tile addresses them; the whole table; rows
    `128 m …` of the row buffer; list `m` of the fetched row numbers. -/
abbrev iRowK (L : grid0.Coords) : Memref sig .scVector .hbm S4x128 .i32 := (iV).slice (Rect.unit (s := S128x128) (k0_off1 L) S4x128.size (k0_off1_inb L)) (fun _ => rfl)
abbrev oRowK (L : grid0.Coords) : Memref sig .scVector .hbm S512x128 .f32 := (oV).slice (Rect.unit (s := S16384x128) (k0_off2 L) S512x128.size (k0_off2_inb L)) (fun _ => rfl)
abbrev tAllK : Memref sig .scVector .hbm S1500x128 .f32 := (tV).slice (Rect.unit (s := S1500x128) ![0, 0] S1500x128.size inb_S1500x128_S1500x128_0_0) (fun _ => rfl)

omit [FloatOps F] in
theorem dst_inb (m : Fin 4) : ∀ a, (![128 * m.val, 0] : Fin 2 → ℕ) a + S128x128.size a ≤ S512x128.size a
  | 0 => by show 128 * m.val + 128 ≤ 512; omega
  | 1 => by show 0 + 128 ≤ 128; omega
omit [FloatOps F] in
theorem off_inb (m : Fin 4) : ∀ a, (![m.val, 0] : Fin 2 → ℕ) a + S1x128.size a ≤ S4x128.size a
  | 0 => by show m.val + 1 ≤ 4; omega
  | 1 => by show 0 + 128 ≤ 128; omega
abbrev dstM (m : Fin 4) : Memref sig .scVector .vmem S128x128 .f32 := (rV).slice (Rect.unit (s := S512x128) ![128 * m.val, 0] S128x128.size (dst_inb m)) (fun _ => rfl)
abbrev offM (m : Fin 4) : Memref sig .scVector .vmem S128 .i32 :=
  ((sV).slice (Rect.unit (s := S4x128) ![m.val, 0] S1x128.size (off_inb m)) (fun _ => rfl)).squeeze S128 squeezes_S1x128_S128

/-- The tile's gather `m`, and its wait. -/
abbrev gathOp (L : grid0.Coords) (m : Fin 4) : Prog (TpuEff nD τ sig (Elt F) Λ₀ (.scVector (cV L) (jV L))) PUnit :=
  SparseCore.enqueueIndirectGather rfl tAllK (dstM m) gathers_S1500x128_S128x128 (offM m) rfl cc0_scratch2.sem (View.wordExact_bits rfl) rfl (Or.inl rfl)
abbrev waitOp (L : grid0.Coords) (m : Fin 4) : Prog (TpuEff nD τ sig (Elt F) Λ₀ (.scVector (cV L) (jV L))) PUnit :=
  SparseCore.waitIndirectGather cc0_scratch2.sem tAllK (dstM m) (View.wordExact_bits rfl) (View.wordExact_bits rfl)

/-- The tile's program, its gathers and waits numbered. -/
def tileProg (L : grid0.Coords) : Prog (TpuEff nD τ sig (Elt F) Λ₀ (.scVector (cV L) (jV L))) PUnit := do
  Prog.lift (.enqueueDma (iRowK L) (.here sV) (.dma cc0_scoped0.sem) (View.wordExact_bits rfl) (Memref.isWhole_whole _).wordExact ⟨Or.inl rfl, trivial⟩)
  Prog.lift (.waitDma2 cc0_scoped0.sem (iRowK L) sV (View.wordExact_bits rfl) (Memref.isWhole_whole _).wordExact)
  gathOp L 0
  gathOp L 1
  gathOp L 2
  gathOp L 3
  waitOp L 0
  waitOp L 1
  waitOp L 2
  waitOp L 3
  Prog.lift (.enqueueDma rV (.here (oRowK L)) (.dma cc0_scoped1.sem) (Memref.isWhole_whole _).wordExact (View.wordExact_bits rfl) ⟨Or.inl rfl, trivial⟩)
  Prog.lift (.waitDma2 cc0_scoped1.sem rV (oRowK L) (Memref.isWhole_whole _).wordExact (View.wordExact_bits rfl))
  pure ⟨⟩

set_option maxRecDepth 65536 in
theorem cc0_k_eq_tileProg : cc0_k (F := F) L tV (Memref.isWhole_whole _) iV (Memref.isWhole_whole _) oV (Memref.isWhole_whole _)
      sV (Memref.isWhole_whole _) rV (Memref.isWhole_whole _) cc0_scratch2 cc0_scoped0 cc0_scoped1 = tileProg L := rfl

/-! ### Where the tile's views lie -/

omit [FloatOps F] in
theorem emb_iRowK (x : S4x128.Idx) : ((iRowK L).view.emb x 0).val = 8 * (L 1).val + 4 * (L 0).val + (x 0).val ∧ ((iRowK L).view.emb x 1).val = (x 1).val := by
  have h0 : ((iRowK L).view.emb x 0).val = k0_off1 L 0 + 1 * (x 0).val := rfl
  have h1 : ((iRowK L).view.emb x 1).val = k0_off1 L 1 + 1 * (x 1).val := rfl
  rw [k0_off1_eq] at h0 h1
  exact ⟨h0.trans (by simp), h1.trans (by simp)⟩
omit [FloatOps F] in
theorem emb_oRowK (x : S512x128.Idx) : ((oRowK L).view.emb x 0).val = 1024 * (L 1).val + 512 * (L 0).val + (x 0).val ∧ ((oRowK L).view.emb x 1).val = (x 1).val := by
  have h0 : ((oRowK L).view.emb x 0).val = k0_off2 L 0 + 1 * (x 0).val := rfl
  have h1 : ((oRowK L).view.emb x 1).val = k0_off2 L 1 + 1 * (x 1).val := rfl
  rw [k0_off2_eq] at h0 h1
  exact ⟨h0.trans (by simp), h1.trans (by simp)⟩
omit [FloatOps F] in
theorem emb_tAllK (x : S1500x128.Idx) : (tAllK).view.emb x = x :=
  funext fun a => Fin.ext (by
    match a with
    | 0 => change 0 + 1 * (x 0).val = (x 0).val; omega
    | 1 => change 0 + 1 * (x 1).val = (x 1).val; omega)
omit [FloatOps F] in
theorem emb_dstM (m : Fin 4) (x : S128x128.Idx) : ((dstM m).view.emb x 0).val = 128 * m.val + (x 0).val ∧ ((dstM m).view.emb x 1).val = (x 1).val := by
  have h0 : ((dstM m).view.emb x 0).val = 128 * m.val + 1 * (x 0).val := rfl
  have h1 : ((dstM m).view.emb x 1).val = 0 + 1 * (x 1).val := rfl
  omega
omit [FloatOps F] in
theorem emb_offM (m : Fin 4) (x : S128.Idx) : ((offM m).view.emb x 0).val = m.val ∧ ((offM m).view.emb x 1).val = (x 0).val := by
  let y : S1x128.Idx := Shape.reshapeEquiv squeezes_S1x128_S128.numel_eq x
  have hy : (S1x128.rowMajor y).val = (S128.rowMajor x).val := Shape.rowMajor_reshapeEquiv _ x
  rw [show (S1x128.rowMajor y).val = _ from Shape.rowMajor_val_two y, show (S128.rowMajor x).val = _ from Shape.rowMajor_val_one x] at hy
  have hy0 : (y 0).val < 1 := (y 0).isLt
  have hy' : (y 0).val * 128 + (y 1).val = (x 0).val := hy
  have h0 : ((offM m).view.emb x 0).val = m.val + 1 * (y 0).val := rfl
  have h1 : ((offM m).view.emb x 1).val = 0 + 1 * (y 1).val := rfl
  omega

/-- The fetched row numbers. -/
abbrev fetched (d : Dev nD) (L : grid0.Coords) : S4x128.Idx → Elt F .i32 := (iRowK L).view.read (Elt F) (ids d)
/-- What the row buffer holds once every gather has landed: the rows of the output's block. -/
abbrev rowsG (d : Dev nD) (L : grid0.Coords) : S512x128.Idx → Elt F .f32 := (oRowK L).view.read (Elt F) (out tab ids d)

omit [FloatOps F] in
theorem fetched_apply (x : S4x128.Idx) : fetched ids d L x = ids d ((iRowK L).view.emb x) := (View.read_apply _ _).trans (cast_eq _ _)
omit [FloatOps F] in
theorem offs_read (fo : Buf (Elt F) ((thr d L).loc cc0_scratch0)) (m : Fin 4) (x : S128.Idx) : (offM m).view.read (Elt F) fo x = fo ((offM m).view.emb x) :=
  (View.read_apply _ _).trans (cast_eq _ _)

omit [FloatOps F] in
/-- Every word of a fetched list is a row of the table. -/
theorem inb_of_pre (hpre : PreOK ids) (m : Fin 4) :
    ∀ x, ((offM m).view.read (Elt F) (fetched ids d L) x).toNat < S1500x128.size gathers_S1500x128_S128x128.axis := by
  intro x
  rw [offs_read d L (fetched ids d L) m x, fetched_apply]
  exact hpre d _

omit [FloatOps F] in
/-- Gather `m` writes its rows of the row buffer with the rows of the output's block. -/
theorem gathered (hpre : PreOK ids) (fr : Buf (Elt F) ((thr d L).loc cc0_scratch1)) (m : Fin 4) (z : S512x128.Idx) (hz : z ∈ (dstM m).view.set) :
    (dstM m).view.write (Elt F) fr (SparseCore.gatherPayload gathers_S1500x128_S128x128 ((tAllK).view.read (Elt F) (tab d))
      (SparseCore.rows ((offM m).view.read (Elt F) (fetched ids d L)) rfl (inb_of_pre ids d L hpre m))) Finset.univ z = rowsG tab ids d L z := by
  obtain ⟨y, -, rfl⟩ := Finset.mem_map.mp hz
  rw [View.write_emb_of_mem _ _ (Finset.mem_univ y)]
  refine (cast_eq _ _).trans ?_
  unfold SparseCore.gatherPayload
  rw [show ∀ j, (tAllK).view.read (Elt F) (tab d) j = tab d j from fun j => ((View.read_apply _ _).trans (cast_eq _ _)).trans (congrArg (tab d) (emb_tAllK j)),
    show ∀ j, rowsG tab ids d L j = out tab ids d ((oRowK L).view.emb j) from fun j => (View.read_apply _ _).trans (cast_eq _ _)]
  refine congrArg (tab d) ?_
  obtain ⟨hd0, hd1⟩ := emb_dstM m y
  obtain ⟨ho0, ho1⟩ := emb_oRowK L ((dstM m).view.emb y)
  funext b
  match b with
  | 0 =>
    have h1 := Shape.Gathers.idx_axis gathers_S1500x128_S128x128 (SparseCore.rows ((offM m).view.read (Elt F) (fetched ids d L)) rfl (inb_of_pre ids d L hpre m)) y
    refine Eq.trans h1 (Fin.ext ?_)
    change ((offM m).view.read (Elt F) (fetched ids d L) _).toNat = (_ : BitVec 32).toNat % 1500
    rw [offs_read d L (fetched ids d L) m _, fetched_apply]
    set x := S128.rowMajor.symm _ with hx
    have hx0 : (x 0).val = (y 0).val := by
      have := Shape.rowMajor_val_one x
      rw [hx, Equiv.apply_symm_apply] at this
      exact this.symm
    obtain ⟨he0, he1⟩ := emb_offM m x
    obtain ⟨hi0, hi1⟩ := emb_iRowK L ((offM m).view.emb x)
    have hy : (y 0).val < 128 := (y 0).isLt
    rw [Nat.mod_eq_of_lt (hpre d _)]
    congr 1
    refine congrArg (ids d) ?_
    funext a
    match a with
    | 0 =>
      refine Fin.ext ?_
      change _ = ((oRowK L).view.emb ((dstM m).view.emb y) 0).val / 128
      refine hi0.trans ?_
      rw [ho0, hd0, he0]; omega
    | 1 =>
      refine Fin.ext ?_
      change _ = ((oRowK L).view.emb ((dstM m).view.emb y) 0).val % 128
      refine hi1.trans ?_
      rw [ho0, hd0, he1, hx0]; omega
  | 1 =>
    refine Fin.ext ((Shape.Gathers.idx_of_ne gathers_S1500x128_S128x128 _ y 1 (by decide)).trans ?_)
    exact hd1.symm.trans ho1.symm

/-! ### The four gathers as one batch of 512 row transfers -/

theorem axis_size : S128x128.size gathers_S1500x128_S128x128.axis' = 128 := rfl
/-- The credit of one row. -/
abbrev rowN : ℕ := (rV).view.ref.dmaCredit (S128x128.rowShape gathers_S1500x128_S128x128.axis') .f32
theorem rowN_eq (m : Fin 4) (i) : ((dstM m).slice (S128x128.rowRect gathers_S1500x128_S128x128.axis' i) (S128x128.stride_rowRect gathers_S1500x128_S128x128.axis' i)).view.dmaCredit = rowN := rfl
theorem rowN_pos : 0 < rowN := by decide
theorem dst_credit (m : Fin 4) : (dstM m).view.dmaCredit = 128 * rowN := by
  show (rV).view.ref.dmaCredit S128x128 .f32 = _
  decide

section Batch

variable (hpre : PreOK ids) (fr : Buf (Elt F) ((thr d L).loc cc0_scratch1))

/-- What row `j` of gather `m` delivers. -/
abbrev RD (m : Fin 4) (j : Fin 128) : sProp 𝕄 :=
  rowDelivered (thr d L) tAllK (dstM m) gathers_S1500x128_S128x128 (offM m) rfl (by decide) (qG (qT (cL L) (jL L)) m) (qG fullShare m)
    (tab d) fr (fetched ids d L) (inb_of_pre ids d L hpre m) j
/-- The batch's deliveries: transfer `t` is row `t % 128` of gather `t / 128`. -/
def DB (t : Fin 512) : sProp 𝕄 := RD tab ids d L hpre fr ⟨t.val / 128, by omega⟩ ⟨t.val % 128, by omega⟩

instance DB_storable (t : Fin 512) : BI.Storable (upEmb : UEmb _ 𝕄) (DB tab ids d L hpre fr t) :=
  rowDelivered_storable (thr d L) tAllK (dstM _) gathers_S1500x128_S128x128 (offM _) rfl (by decide) _ _ _ _ _ _ _

omit [FloatOps F] in
theorem DB_at (m : Fin 4) (j : Fin 128) (h : 128 * m.val + j.val < 512) : DB tab ids d L hpre fr ⟨128 * m.val + j.val, h⟩ = RD tab ids d L hpre fr m j := by
  unfold DB
  have h1 : (⟨(128 * m.val + j.val) / 128, by omega⟩ : Fin 4) = m := Fin.ext (by change (128 * m.val + j.val) / 128 = m.val; omega)
  have h2 : (⟨(128 * m.val + j.val) % 128, by omega⟩ : Fin 128) = j := Fin.ext (by change (128 * m.val + j.val) % 128 = j.val; omega)
  change RD tab ids d L hpre fr ⟨(128 * m.val + j.val) / 128, _⟩ ⟨(128 * m.val + j.val) % 128, _⟩ = _
  rw [h1, h2]

omit [FloatOps F] in
/-- All the deliveries are each gather's. -/
theorem DB_all : bigSep Finset.univ (DB tab ids d L hpre fr) = bigSep Finset.univ fun m : Fin 4 => bigSep Finset.univ fun j : Fin 128 => RD tab ids d L hpre fr m j := by
  rw [bigSep_univ_equiv (finProdFinEquiv : Fin 4 × Fin 128 ≃ Fin (4 * 128)) (DB tab ids d L hpre fr), bigSep_univ_prod]
  refine bigSep_congr fun m _ => bigSep_congr fun j _ => ?_
  rw [← DB_at tab ids d L hpre fr m j (by omega)]
  exact congrArg (DB tab ids d L hpre fr) (Fin.ext (by simp [finProdFinEquiv]; omega))

/-- The batch, `j` transfers issued and `u` units consumed. -/
abbrev BT (j u : ℕ) : sProp 𝕄 := Transfers.Batch countersEmb (thr d L) (.dma cc0_scratch2.sem) (default : HIx 1) rowN (DB tab ids d L hpre fr) j u

/-- Gather `m`: 128 more transfers issued. -/
theorem gatherStep (m : Fin 4) {α : Type} {Q : α → sProp 𝕄} (k : PUnit → Prog (TpuEff nD τ sig (Elt F) Λ₀ (thr d L).2) α) :
    iprop(((tAllK).view.loc (thr d L) ↦[(tAllK).view.set]{qG (qT (cL L) (jL L)) m} tab d)
        ∗ ((dstM m).view.loc (thr d L) ↦[(dstM m).view.set]{fullShare} fr)
        ∗ ((offM m).view.loc (thr d L) ↦[(offM m).view.set]{qG fullShare m} fetched ids d L)
        ∗ BT tab ids d L hpre fr (128 * m.val) 0)
      ⊢ iprop((BT tab ids d L hpre fr (128 * (m.val + 1)) 0 -∗ wp frame (wpE (defs₀ (F := F)) 𝒱₀ (thr d L) none) Set.univ (k ⟨⟩) Q)
          -∗ wp frame (wpE (defs₀ (F := F)) 𝒱₀ (thr d L) none) Set.univ (gathOp L m) fun b => wp frame (wpE (defs₀ (F := F)) 𝒱₀ (thr d L) none) Set.univ (k b) Q) := by
  rw [← wp_bind]
  have h := wp_gatherBatch (Q := Q) countersEmb (thr d L) (defs := defs₀ (F := F)) 𝒱₀ none (src := tAllK) (dst := dstM m) (hg := gathers_S1500x128_S128x128) (offs := offM m)
    (hn := rfl) (sem := cc0_scratch2.sem) (hp := rfl) (hsrc := View.wordExact_bits rfl) (he := rfl) (hsp := Or.inl rfl) (hr := by decide) (k := k)
    (q := qG (qT (cL L) (jL L)) m) (qo := qG fullShare m) (fs := tab d) (fd := fr) (fo := fetched ids d L) (default : HIx 1) (N := rowN) (rowN_eq m)
    (by decide) (inb_of_pre ids d L hpre m) (D := DB tab ids d L hpre fr) (j := 128 * m.val) (u := 0)
    (by rw [axis_size]; omega) (Nat.zero_le _) (fun i => Entails.of_eq (DB_at tab ids d L hpre fr m i (by have : i.val < 128 := i.isLt; omega)).symm)
  rw [axis_size, show 128 * m.val + 128 = 128 * (m.val + 1) by omega] at h
  exact h

/-- The wait of gather `m`, not the last. -/
theorem waitStep (m : Fin 4) (u : ℕ) (hu : u + 128 * rowN ≤ rowN * 512) {α : Type} {Q : α → sProp 𝕄} (k : PUnit → Prog (TpuEff nD τ sig (Elt F) Λ₀ (thr d L).2) α)
    {O : CellTallies nD τ sig (HIx 1)} {W : Waits sig (HIx 1)} :
    iprop(BT tab ids d L hpre fr 512 u ∗ owes (thr d L) O W ∗ MayWait (thr d L) (.dma cc0_scratch2.sem) (default : HIx 1) O)
      ⊢ iprop((iprop(BT tab ids d L hpre fr 512 (u + 128 * rowN) ∗ owes (thr d L) O (insert (SemLoc.dma cc0_scratch2.sem, (default : HIx 1)) W))
            -∗ wp frame (wpE (defs₀ (F := F)) 𝒱₀ (thr d L) none) Set.univ (k ⟨⟩) Q)
          -∗ wp frame (wpE (defs₀ (F := F)) 𝒱₀ (thr d L) none) Set.univ (waitOp L m) fun b => wp frame (wpE (defs₀ (F := F)) 𝒱₀ (thr d L) none) Set.univ (k b) Q) := by
  rw [← wp_bind]
  exact Transfers.wp_waitBatchMulO countersEmb 𝒱₀ (thr d L) none (default : HIx 1) (N := rowN) 128 (dst_credit m) (D := DB tab ids d L hpre fr) (j := 512) hu

/-- The last wait: every row of every gather has landed, so the row buffer holds the rows of the output's block; the table's
    and the lists' shares are back. -/
theorem waitLast (m : Fin 4) {α : Type} {Q : α → sProp 𝕄} (k : PUnit → Prog (TpuEff nD τ sig (Elt F) Λ₀ (thr d L).2) α)
    {O : CellTallies nD τ sig (HIx 1)} {W : Waits sig (HIx 1)} :
    iprop(BT tab ids d L hpre fr 512 (128 * rowN + 128 * rowN + 128 * rowN) ∗ owes (thr d L) O W ∗ MayWait (thr d L) (.dma cc0_scratch2.sem) (default : HIx 1) O)
      ⊢ iprop((iprop((bigSep Finset.univ fun m : Fin 4 => bigSep Finset.univ fun j : Fin 128 => RD tab ids d L hpre fr m j)
              ∗ semVal (thr d L, .dma cc0_scratch2.sem) 0 ∗ owes (thr d L) O (insert (SemLoc.dma cc0_scratch2.sem, (default : HIx 1)) W))
            -∗ wp frame (wpE (defs₀ (F := F)) 𝒱₀ (thr d L) none) Set.univ (k ⟨⟩) Q)
          -∗ wp frame (wpE (defs₀ (F := F)) 𝒱₀ (thr d L) none) Set.univ (waitOp L m) fun b => wp frame (wpE (defs₀ (F := F)) 𝒱₀ (thr d L) none) Set.univ (k b) Q) := by
  rw [← DB_all, ← wp_bind]
  exact Transfers.wp_waitBatchAllO countersEmb 𝒱₀ (thr d L) none (default : HIx 1) (N := rowN) (dst_credit m) rowN_pos (D := DB tab ids d L hpre fr) (by omega)

end Batch

/-! ### The row buffer and the lists, cut for the gathers -/

omit [FloatOps F] in
theorem dst_rect (m : Fin 4) : Rect.unit (s := S512x128) ![128 * m.val, 0] S128x128.size (dst_inb m) = Rect.part (s := S512x128) (a₀ := 0) rdiv m := by
  unfold Rect.part Rect.block
  congr 1 <;> funext a
  · match a with
    | 0 => simp [Shape.partIx, Shape.partSize]; omega
    | 1 => simp [Shape.partIx, Shape.partSize]
  · match a with
    | 0 => simp [Shape.partSize]
    | 1 => simp [Shape.partSize]
omit [FloatOps F] in
theorem dst_set (m : Fin 4) : (dstM m).view.set = (Rect.part (s := S512x128) (a₀ := 0) rdiv m).set := by
  rw [← dst_rect]
  show ((View.whole (cc0_scratch1 : Ref sig .scVector)).slice _).set = _
  rw [View.set_slice]; exact Finset.map_refl
omit [FloatOps F] in
theorem rows_split (f : Buf (Elt F) ((thr d L).loc cc0_scratch1)) :
    ((thr d L).loc cc0_scratch1 ↦{fullShare} f : sProp 𝕄) = bigSep Finset.univ fun m : Fin 4 => (thr d L).loc cc0_scratch1 ↦[(dstM m).view.set]{fullShare} f := by
  rw [← pointsTo_biUnion Finset.univ (ℓ := (thr d L).loc cc0_scratch1) (fun m => (dstM m).view.set)
    (fun m _ m' _ h => by rw [dst_set, dst_set]; exact Rect.part_disjoint rdiv h),
    show (Finset.univ : Finset (Fin 4)).biUnion (fun m => (dstM m).view.set) = Finset.univ from
      (Finset.biUnion_congr rfl fun m _ => dst_set m).trans (Rect.biUnion_part rdiv)]
  try rfl

/-- A share cut in four, of each quarter the elements of `I m` and the rest. -/
theorem quarters {ℓ : Loc nD τ sig} (q : PosShare TreeShare) (f : Buf (Elt F) ℓ) (I : Fin 4 → Finset (Idx ℓ)) :
    (ℓ ↦{q} f : sProp 𝕄) = iprop((bigSep Finset.univ fun m : Fin 4 => ℓ ↦[I m]{qG q m} f) ∗ bigSep Finset.univ fun m : Fin 4 => ℓ ↦[Finset.univ \ I m]{qG q m} f) := by
  rw [pointsTo_piecesOf Finset.univ f (by omega : 0 < 4) q, ← bigSep_sep']
  exact bigSep_congr fun m _ => BI.Entails.antisymm (pointsTo_split_subset (Finset.subset_univ (I m))).1 (pointsTo_split_subset (Finset.subset_univ (I m))).2

omit [FloatOps F] in
theorem bigSep_four (Φ : Fin 4 → sProp 𝕄) : bigSep Finset.univ Φ = iprop(Φ 0 ∗ Φ 1 ∗ Φ 2 ∗ Φ 3) := by
  rw [show (Finset.univ : Finset (Fin 4)) = {0, 1, 2, 3} by decide,
    SparseCore.bigSep_insert' (by decide), SparseCore.bigSep_insert' (by decide), SparseCore.bigSep_insert' (by decide), bigSep_singleton]

/-- What the gathers deliver, put together: the row buffer at the rows of the output's block, the shares whole. -/
theorem delivered (hpre : PreOK ids) (fr : Buf (Elt F) ((thr d L).loc cc0_scratch1)) :
    (bigSep Finset.univ fun m : Fin 4 => bigSep Finset.univ fun j : Fin 128 => RD tab ids d L hpre fr m j)
      ⊢ (iprop(((thr d L).loc cc0_scratch1 ↦{fullShare} rowsG tab ids d L)
          ∗ (bigSep Finset.univ fun m : Fin 4 => (tAllK).view.loc (thr d L) ↦[(tAllK).view.set]{qG (qT (cL L) (jL L)) m} tab d)
          ∗ bigSep Finset.univ fun m : Fin 4 => (offM m).view.loc (thr d L) ↦[(offM m).view.set]{qG fullShare m} fetched ids d L) : sProp 𝕄) := by
  have h : ∀ m : Fin 4, bigSep Finset.univ (fun j : Fin 128 => RD tab ids d L hpre fr m j) ⊢ _ := fun m =>
    rowDelivered_join (Ix := HIx 1) (Name := ℕ) (U := UU) (Lvl := ℕ) (thr d L) (src := tAllK) (dst := dstM m) (hg := gathers_S1500x128_S128x128)
      (offs := offM m) (hn := rfl) (ho := by decide) (q := qG (qT (cL L) (jL L)) m) (qo := qG fullShare m) (fs := tab d) (fd := fr)
      (fo := fetched ids d L) (hin := inb_of_pre ids d L hpre m)
  refine (bigSep_mono fun m _ => h m).trans ?_
  refine (Transfers.bigSep_sep_out _ _ _).trans (BI.sep_mono ?_ (Transfers.bigSep_sep_out _ _ _))
  rw [rows_split]
  exact Entails.of_eq (bigSep_congr fun m _ => pointsTo_congr fun z hz => gathered tab ids d L hpre fr m z hz)

omit [FloatOps F] in
theorem set_oRowK : (oRowK L).view.set = oRowSet (wid (cL L) (jL L)) := by
  have h : Rect.unit (s := S16384x128) (k0_off2 L) S512x128.size (k0_off2_inb L) = orow (wid (cL L) (jL L)) := by
    unfold orow Rect.part Rect.block
    congr 1 <;> funext a
    · rw [k0_off2_eq]
      match a with
      | 0 => simp [Shape.partIx, Shape.partSize]; omega
      | 1 => simp [Shape.partIx, Shape.partSize]
    · match a with
      | 0 => simp [Shape.partSize]
      | 1 => simp [Shape.partSize]
  show ((oV).view.slice (Rect.unit (s := S16384x128) (k0_off2 L) S512x128.size (k0_off2_inb L))).set = ((oV).view.slice (orow (wid (cL L) (jL L)))).set
  exact h ▸ rfl
omit [FloatOps F] in
theorem pts_oRowK (f : Buf (Elt F) (oLoc d)) :
    ((oRowK L).view.loc (thr d L) ↦[(oRowK L).view.set]{fullShare} f : sProp 𝕄) = oLoc d ↦[oRowSet (wid (cL L) (jL L))]{fullShare} f := by
  rw [set_oRowK]
omit [FloatOps F] in
/-- The output's block written with the rows of the output's block is the output there. -/
theorem pts_out (f : Buf (Elt F) (oLoc d)) (pay : S512x128.Idx → Elt F .f32) (hpay : pay = rowsG tab ids d L) :
    ((oRowK L).view.loc (thr d L) ↦[(oRowK L).view.set]{fullShare} (oRowK L).view.writes (Elt F) f [⟨Rect.whole S512x128, pay⟩] : sProp 𝕄)
      = oLoc d ↦[oRowSet (wid (cL L) (jL L))]{fullShare} out tab ids d := by
  rw [← pts_oRowK, hpay, ← View.write_univ_eq_writes_whole (oRowK L).view f [] (rowsG tab ids d L)]
  refine pointsTo_congr fun z hz => ?_
  obtain ⟨y, -, rfl⟩ := Finset.mem_map.mp hz
  rw [View.writes_nil, View.write_emb_of_mem _ _ (Finset.mem_univ y)]
  exact (cast_eq _ _).trans ((View.read_apply _ _).trans (cast_eq _ _))

/-! ### The tile's own buffers and semaphores -/

abbrev cAcell (d : Dev nD) (c : Fin τ.nSC) (i : Fin τ.nSub) : GSem nD τ sig := (V d c i, .dma cc0_scratch2.sem)
abbrev cBcell (d : Dev nD) (c : Fin τ.nSC) (i : Fin τ.nSub) : GSem nD τ sig := (V d c i, .dma cc0_scoped0.sem)
abbrev cCcell (d : Dev nD) (c : Fin τ.nSC) (i : Fin τ.nSub) : GSem nD τ sig := (V d c i, .dma cc0_scoped1.sem)

omit [FloatOps F] in
theorem ownSems0_V :
    (ownSems0 (V d (cV L) (jV L)) : sProp 𝕄)
      = iprop(semVal (cAcell d (cV L) (jV L)) 0 ∗ semVal (cBcell d (cV L) (jV L)) 0 ∗ semVal (cCcell d (cV L) (jV L)) 0
          ∗ bigSep ((((ownCells (V d (cV L) (jV L))).erase (cAcell d (cV L) (jV L))).erase (cBcell d (cV L) (jV L))).erase (cCcell d (cV L) (jV L))) fun g => semVal g 0) := by
  unfold SparseCore.Cfg.ownSems0
  rw [SparseCore.bigSep_erase' ((mem_ownCells (g := cAcell d (cV L) (jV L))).mpr ⟨rfl, by
      show (SemLoc.dma cc0_scratch2.sem : SemLoc sig).isScoped .scVector = true; decide⟩),
    SparseCore.bigSep_erase' (Finset.mem_erase.mpr ⟨by simp [cAcell, cBcell]; decide, (mem_ownCells (g := cBcell d (cV L) (jV L))).mpr ⟨rfl, by
      show (SemLoc.dma cc0_scoped0.sem : SemLoc sig).isScoped .scVector = true; decide⟩⟩),
    SparseCore.bigSep_erase' (Finset.mem_erase.mpr ⟨by simp [cBcell, cCcell]; decide, Finset.mem_erase.mpr ⟨by simp [cAcell, cCcell]; decide,
      (mem_ownCells (g := cCcell d (cV L) (jV L))).mpr ⟨rfl, by show (SemLoc.dma cc0_scoped1.sem : SemLoc sig).isScoped .scVector = true; decide⟩⟩⟩)]

omit [FloatOps F] in
/-- The two scratch buffers are among the subcore's own: they are them, at some contents, and the rest. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

omit [FloatOps F] in
theorem fetched_write (fs : Buf (Elt F) ((thr d L).loc cc0_scratch0)) (pay : S4x128.Idx → Elt F .i32) (hpay : pay = fetched ids d L) :
    View.write (Elt F) (sV).view fs pay Finset.univ = fetched ids d L := by
  rw [View.write_whole_univ, hpay]

set_option maxHeartbeats 4000000 in
/-- The tile: from its shares and its block of the output to the block holding the gathered rows. -/
theorem tile_body (hF : (K (F := F)).Facts) (hpre : PreOK ids) (O : CellTallies nD τ sig (HIx 1)) (W : Waits sig (HIx 1)) (hO : ∀ g, O g none = 0) :
    iprop(levAts (K (F := F)).L (K (F := F)).lev ∗ emp
        ∗ goP tab ids o0 d (cL L) (jL L)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0_k (F := F) L tV (Memref.isWhole_whole _) iV (Memref.isWhole_whole _) oV (Memref.isWhole_whole _)
            sV (Memref.isWhole_whole _) rV (Memref.isWhole_whole _) cc0_scratch2 cc0_scoped0 cc0_scoped1)
          fun _ => iprop(tdP tab ids d (cL L) (jL L)
            ∗ scopedBufs (V d (cV L) (jV L)) ∗ scopedSems0 (V d (cV L) (jV L))
            ∗ ∃ W', ⌜∀ p ∈ W', p ∈ W ∨ p.2 = none⌝ ∗ owes (V d (cV L) (jV L)) O W') := by
  rw [cc0_k_eq_tileProg]; unfold tileProg
  rw [(K (F := F)).scopedBufs_V hF d (cV L) (jV L), SparseCore.Cfg.scopedSems0_V (Val := Elt F) d (cV L) (jV L), ownSems0_V, ownBufs_V]
  iintro ⟨#Hlv, -, ⟨Hi, Ht, Ho⟩, ⟨⟨%fs, Hs⟩, ⟨%fr, Hr⟩, Hbufs⟩, ⟨HsemA, HsemB, HsemC, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hi' := (show (iLoc d ↦{qT (cL L) (jL L)} ids d : sProp 𝕄) ⊢ (iV).view.loc (V d (cV L) (jV L)) ↦{qT (cL L) (jL L)} ids d from .rfl) $$ Hi
  ihave Hs' := (show ((V d (cV L) (jV L)).loc cc0_scratch0 ↦{fullShare} fs : sProp 𝕄) ⊢ (sV).view.loc (V d (cV L) (jV L)) ↦{fullShare} fs from .rfl) $$ Hs
  sl_exec
  simp only [wp_bind]
  ihave Hsf := (show ((V d (cV L) (jV L)).loc cc0_scratch0 ↦{fullShare} View.write (Elt F) (sV).view fs (tile_body.sl.dma0 ids d L) Finset.univ : sProp 𝕄)
      ⊢ (V d (cV L) (jV L)).loc cc0_scratch0 ↦{fullShare} fetched ids d L from
        Entails.of_eq (congrArg (fun f => ((V d (cV L) (jV L)).loc cc0_scratch0 ↦{fullShare} f : sProp 𝕄)) (fetched_write ids d L fs (tile_body.sl.dma0 ids d L) rfl))) $$ Hs'
  -- the row buffer cut in four, the table's and the lists' shares cut in four
  ihave Hr4 := (Entails.of_eq (rows_split (F := F) d L fr)) $$ Hr
  ihave Hr5 := (Entails.of_eq (bigSep_four _)) $$ Hr4
  icases Hr5 with ⟨Hr0, Hr1, Hr2, Hr3⟩
  ihave Ht1 := (Entails.of_eq (quarters (qT (cL L) (jL L)) (tab d) fun _ => (tAllK).view.set)) $$ Ht
  icases Ht1 with ⟨Ht2, Htrest⟩
  ihave Ht3 := (Entails.of_eq (bigSep_four _)) $$ Ht2
  icases Ht3 with ⟨Ht0, Ht1, Ht2, Ht3⟩
  ihave Hs1 := (Entails.of_eq (quarters (ℓ := (V d (cV L) (jV L)).loc cc0_scratch0) fullShare (fetched ids d L) fun m => (offM m).view.set)) $$ Hsf
  icases Hs1 with ⟨Hs2, Hsrest⟩
  ihave Hs3 := (Entails.of_eq (bigSep_four _)) $$ Hs2
  icases Hs3 with ⟨Hs0, Hs1, Hs2, Hs3⟩
  -- the batch
  imod (Transfers.batch_alloc' countersEmb (thr d L) (default : HIx 1) rowN (DB tab ids d L hpre fr) (E := Set.univ)) $$ HsemA with HB
  iapply (gatherStep tab ids d L hpre fr 0) $$ [Ht0 Hr0 Hs0 HB]
  · isplitl [Ht0]; · iexact Ht0
    isplitl [Hr0]; · iexact Hr0
    isplitl [Hs0]; · iexact Hs0
    iexact HB
  iintro HB
  simp only [wp_bind]
  iapply (gatherStep tab ids d L hpre fr 1) $$ [Ht1 Hr1 Hs1 HB]
  · isplitl [Ht1]; · iexact Ht1
    isplitl [Hr1]; · iexact Hr1
    isplitl [Hs1]; · iexact Hs1
    iexact HB
  iintro HB
  simp only [wp_bind]
  iapply (gatherStep tab ids d L hpre fr 2) $$ [Ht2 Hr2 Hs2 HB]
  · isplitl [Ht2]; · iexact Ht2
    isplitl [Hr2]; · iexact Hr2
    isplitl [Hs2]; · iexact Hs2
    iexact HB
  iintro HB
  simp only [wp_bind]
  iapply (gatherStep tab ids d L hpre fr 3) $$ [Ht3 Hr3 Hs3 HB]
  · isplitl [Ht3]; · iexact Ht3
    isplitl [Hr3]; · iexact Hr3
    isplitl [Hs3]; · iexact Hs3
    iexact HB
  iintro HB
  simp only [wp_bind]
  iapply (waitStep tab ids d L hpre fr 0 0 (by omega)) $$ [HB HO]
  · isplitl [HB]; · iexact HB
    isplitl [HO]; · iexact HO
    iapply (Transfers.MayWaits.elim (SemLoc.dma cc0_scratch2.sem)) $$ Hmw
  iintro ⟨HB, HO⟩
  simp only [wp_bind, Nat.zero_add]
  iapply (waitStep tab ids d L hpre fr 1 (128 * rowN) (by omega)) $$ [HB HO]
  · isplitl [HB]; · iexact HB
    isplitl [HO]; · iexact HO
    iapply (Transfers.MayWaits.elim (SemLoc.dma cc0_scratch2.sem)) $$ Hmw
  iintro ⟨HB, HO⟩
  simp only [wp_bind]
  iapply (waitStep tab ids d L hpre fr 2 (128 * rowN + 128 * rowN) (by omega)) $$ [HB HO]
  · isplitl [HB]; · iexact HB
    isplitl [HO]; · iexact HO
    iapply (Transfers.MayWaits.elim (SemLoc.dma cc0_scratch2.sem)) $$ Hmw
  iintro ⟨HB, HO⟩
  simp only [wp_bind]
  iapply (waitLast tab ids d L hpre fr 3) $$ [HB HO]
  · isplitl [HB]; · iexact HB
    isplitl [HO]; · iexact HO
    iapply (Transfers.MayWaits.elim (SemLoc.dma cc0_scratch2.sem)) $$ Hmw
  iintro ⟨HD, HsemA, HO⟩
  ihave HD1 := (delivered tab ids d L hpre fr) $$ HD
  icases HD1 with ⟨Hr, Ht2, Hs2⟩
  ihave Ht := (Entails.of_eq (quarters (qT (cL L) (jL L)) (tab d) fun _ => (tAllK).view.set).symm) $$ [Ht2 Htrest]
  · isplitl [Ht2] <;> iassumption
  ihave Hs := (Entails.of_eq (quarters (ℓ := (V d (cV L) (jV L)).loc cc0_scratch0) fullShare (fetched ids d L) fun m => (offM m).view.set).symm) $$ [Hs2 Hsrest]
  · isplitl [Hs2] <;> iassumption
  ihave Ho' := (Entails.of_eq (pts_oRowK (F := F) d L _).symm) $$ Ho
  ihave Hr' := (show ((V d (cV L) (jV L)).loc cc0_scratch1 ↦{fullShare} rowsG tab ids d L : sProp 𝕄) ⊢ (rV).view.loc (V d (cV L) (jV L)) ↦{fullShare} rowsG tab ids d L from .rfl) $$ Hr
  sl_exec
  sl_step
  isplitl [Hi' Ht Ho']
  · isplitl [Hi']; · iexact Hi'
    isplitl [Ht]; · iexact Ht
    iapply (Entails.of_eq (pts_out tab ids d L _ (tile_body.sl.dma0_1 tab ids d L) rfl)); iexact Ho'
  isplitl [Hs Hr' Hbufs]
  · isplitl [Hs]; · iexists _; iexact Hs
    isplitl [Hr']; · iexists _; iexact Hr'
    iexact Hbufs
  isplitl [HsemA HsemB HsemC Hsems]
  · isplitl [HsemA]; · iexact HsemA
    isplitl [HsemB]; · iexact HsemB
    isplitl [HsemC]; · iexact HsemC
    iexact Hsems
  iexists _; isplitr
  swap; · iexact HO
  ipureintro; intro p hp
  iterate 6 (rcases Finset.mem_insert.mp hp with hp | hp; · exact .inr (hp ▸ rfl))
  exact .inl hp

/-! ## The obligation -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0_k (coordsV c s)
          tV (Memref.isWhole_whole _) iV (Memref.isWhole_whole _) oV (Memref.isWhole_whole _)
          sV (Memref.isWhole_whole _) rV (Memref.isWhole_whole _) cc0_scratch2 cc0_scoped0 cc0_scoped1) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
/-- Every tile meets its obligation. -/
theorem tileObl (hF : (K (F := F)).Facts) (hpre : PreOK ids) : (K (F := F)).TileObl (D (F := F)) 𝒱 (P tab ids o0) v₀ 0 := by
  intro d c i O W hO _ _
  simp only [show (P tab ids o0).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body tab ids o0 d (coordsV ⟨_, hci.1⟩ ⟨_, hci.2⟩) hF hpre O W hO).trans (wp_mono frame _ _ fun _ => obl_post)

end Tile

/-! ## The operands split among the tiles -/

omit [FloatOps F] in
theorem oRowSet_eq (w : Fin 32) : oRowSet w = (orow w).set := by
  show ((View.whole (main_v2_scv : Ref sig .scVector)).slice (orow w)).set = _
  rw [View.set_slice]; exact Finset.map_refl

/-- The tiles, by SparseCore and subcore, are the numbers below 32. -/
def widEquiv : Fin 2 × Fin 16 ≃ Fin 32 where
  toFun p := wid p.1 p.2
  invFun w := (⟨w.val % 2, by omega⟩, ⟨w.val / 2, by omega⟩)
  left_inv p := by
    refine Prod.ext (Fin.ext ?_) (Fin.ext ?_)
    · change (2 * p.2.val + p.1.val) % 2 = p.1.val; omega
    · change (2 * p.2.val + p.1.val) / 2 = p.2.val; omega
  right_inv w := Fin.ext (by change 2 * (w.val / 2) + w.val % 2 = w.val; omega)

omit [FloatOps F] in
theorem out_split (d : Dev nD) (f : Buf (Elt F) (oLoc d)) :
    (oLoc d ↦{fullShare} f : sProp 𝕄) = bigSep Finset.univ fun c : Fin 2 => bigSep Finset.univ fun i : Fin 16 => oRowPts d c i f := by
  have h : (oLoc d ↦{fullShare} f : sProp 𝕄) = bigSep Finset.univ fun w : Fin 32 => oLoc d ↦[oRowSet w]{fullShare} f := by
    rw [← pointsTo_biUnion Finset.univ (ℓ := oLoc d) oRowSet (fun i _ j _ h => by rw [oRowSet_eq, oRowSet_eq]; exact Rect.part_disjoint odiv h),
      show (Finset.univ : Finset (Fin 32)).biUnion oRowSet = Finset.univ from (Finset.biUnion_congr rfl fun i _ => oRowSet_eq i).trans (Rect.biUnion_part odiv)]
    try rfl
  rw [h, bigSep_univ_equiv widEquiv (fun w : Fin 32 => (oLoc d ↦[oRowSet w]{fullShare} f : sProp 𝕄)), bigSep_univ_prod]
  rfl

omit [FloatOps F] in
theorem share_split {ℓ : Loc nD τ sig} (f : Buf (Elt F) ℓ) :
    (ℓ ↦{fullShare} f : sProp 𝕄) = bigSep Finset.univ fun c : Fin 2 => bigSep Finset.univ fun i : Fin 16 => ℓ ↦{qT c i} f := by
  rw [pointsTo_piecesOf Finset.univ f (by omega : 0 < 2) fullShare]
  exact bigSep_congr fun c _ => pointsTo_piecesOf Finset.univ f (by omega : 0 < 16) _

/-- The whole operands, as the tiles take them. -/
theorem whole_split (d : Dev nD) (f : Buf (Elt F) (oLoc d)) :
    iprop((iLoc d ↦{fullShare} ids d) ∗ (tLoc d ↦{fullShare} tab d) ∗ (oLoc d ↦{fullShare} f))
      = (bigSep Finset.univ fun c : Fin 2 => bigSep Finset.univ fun i : Fin 16 => iprop(iSh ids d c i ∗ tSh tab d c i ∗ oRowPts d c i f) : sProp 𝕄) := by
  rw [out_split, share_split (ids d), share_split (tab d), ← bigSep_sep', ← bigSep_sep']
  refine bigSep_congr fun c _ => ?_
  rw [← bigSep_sep', ← bigSep_sep']

omit [FloatOps F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)
omit [FloatOps F] in
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

theorem vecSplit : (K (F := F)).VecSplit' (P tab ids o0) 0 := by
  intro d c
  show (bigSep Finset.univ fun i : Fin 16 => goP tab ids o0 d (Fin.cast nCore_zero c) i) ⊢ |={Set.univ}=> iprop(
      (bigSep Finset.univ fun i : Fin ((K (F := F)).nSub 0) => goP tab ids o0 d (Fin.cast nCore_zero c) (Fin.cast nSub_zero i))
      ∗ ((bigSep Finset.univ fun i : Fin ((K (F := F)).nSub 0) => tdP tab ids d (Fin.cast nCore_zero c) (Fin.cast nSub_zero i))
          -∗ bigSep Finset.univ fun i : Fin 16 => tdP tab ids d (Fin.cast nCore_zero c) i))
  rw [bigSep_tasks (F := F) (fun i => goP tab ids o0 d (Fin.cast nCore_zero c) i), bigSep_tasks (F := F) (fun i => tdP tab ids d (Fin.cast nCore_zero c) i)]
  iintro H; imodintro
  isplitl [H]; · iexact H
  iintro H; iexact H

/-- What the call takes of the TensorCore, and what it gives back. -/
theorem st0_eq (d : Dev nD) : (bigSep Finset.univ fun c : Fin ((K (F := F)).nCore 0) => (P tab ids o0).st 0 d c)
    = iprop((iLoc d ↦{fullShare} ids d) ∗ (tLoc d ↦{fullShare} tab d) ∗ (oLoc d ↦{fullShare} o0 d)) := by
  rw [whole_split]
  exact bigSep_cores (F := F) fun c => bigSep Finset.univ fun i : Fin 16 => goP tab ids o0 d c i
theorem dn0_eq (d : Dev nD) : (bigSep Finset.univ fun c : Fin ((K (F := F)).nCore 0) => (P tab ids o0).dn 0 d c)
    = iprop((iLoc d ↦{fullShare} ids d) ∗ (tLoc d ↦{fullShare} tab d) ∗ (oLoc d ↦{fullShare} out tab ids d)) := by
  rw [whole_split]
  exact bigSep_cores (F := F) fun c => bigSep Finset.univ fun i : Fin 16 => tdP tab ids d c i

end Cert.Proof.IdealTile
end
-- ==== Proof.IdealStatsRun.lean ====
/-
  The body of the first TensorCore kernel (`_stats`), run once per branch of its two conditionals.

  At the first grid point it clears its two accumulators and adds one block's column sums to them; at the last it adds the
  second block's and stores the two accumulators as the two rows of its result. Each run below says what every buffer holds
  afterwards, as the printed computations of what the buffers held before.
-/
module

public import proofs.«01_k».proof.Proof.Gen.KernelIdeal
public import proofs.«01_k».proof.Proof.Gen.KernelIdeal.Skeleton
public import Idealize.ShloMosaic.Lib.Pipeline.FrameBody
public import Idealize.ShloMosaic.Lib.Pipeline.Value
public import Idealize.ShloMosaic.Lib.Tactic
public import proofs.«01_k».proof.Proof.IdealTile

@[expose] public section

noncomputable section

namespace Cert.Proof.IdealStatsRun

open Cert.KernelIdeal Cert.KernelIdeal.Gen

open Idealize.ShloMosaic
open Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic
open Cert.Proof.IdealTile (UU)

variable {F : FTy → Type} [FloatOps F]

local notation "𝕄" => MT nD τ sig (HIx 1) (Elt F) ℕ UU ℕ

/-- Memref `M`'s buffer on core `c`: its contents' type, and the buffer held whole at `f`. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f
/-- What the memref reads of its buffer's contents, and the buffer held whole at some contents that read `X`. -/
abbrev rd (c : Dev nD) {sp : Space} {S : Shape} {e : EltTy} (M : Memref sig .tc sp S e) (f : Bf (F := F) c M) : Vec F S e := M.view.read (Elt F) f
abbrev has (c : Dev nD) {sp : Space} {S : Shape} {e : EltTy} (M : Memref sig .tc sp S e) (X : Vec F S e) : sProp 𝕄 :=
  iprop(∃ f : Bf (F := F) c M, ⌜rd c M f = X⌝ ∗ pt c M f)

theorem hz : (![0, 0] : Fin 2 → Nat) = fun _ => 0 := funext fun a => by fin_cases a <;> rfl

/-- The body at the first grid point. -/
theorem run_first (c : Dev nD) (i : grid1.Coords) (M1 : Memref sig .tc .vmem S8x8192 .f32) (h1 : M1.IsWhole) (M2 : Memref sig .tc .vmem S8x128 .f32) (h2 : M2.IsWhole)
    (M3 : Memref sig .tc .vmem S1x128 .f32) (h3 : M3.IsWhole) (M4 : Memref sig .tc .vmem S2x128 .f32) (h4 : M4.IsWhole) (M5 : Memref sig .tc .vmem S1x128 .f32) (h5 : M5.IsWhole)
    (M6 : Memref sig .tc .vmem S1x128 .f32) (h6 : M6.IsWhole)
    (hc1 : Scalar.cmpi .ne (Scalar.extui (Scalar.cmpi .eq (BitVec.ofNat 32 (i 0).val) 0#32) : BitVec 32) 0#32 = 1#1) (hc2 : ¬ k1_cond2 i = 1#1)
    (f1 : Bf (F := F) c M1) (f2 : Bf (F := F) c M2) (f3 : Bf (F := F) c M3) (f5 : Bf (F := F) c M5) (f6 : Bf (F := F) c M6) (E : Set ℕ) (Q : PUnit → sProp 𝕄) :
    iprop(pt c M1 f1 ∗ pt c M2 f2 ∗ pt c M3 f3 ∗ pt c M5 f5 ∗ pt c M6 f6
      ∗ (iprop(pt c M1 f1 ∗ pt c M2 f2 ∗ pt c M3 f3 ∗ has c M5 (k1_pay4 (rd c M1 f1) (rd c M2 f2) (rd c M3 f3) k1_pay1)
          ∗ has c M6 (k1_pay5 (rd c M1 f1) (rd c M2 f2) (rd c M3 f3) k1_pay2)) -∗ Q ⟨⟩))
      ⊢ wp frame (wpE (defs₀ (F := F)) Variants.none c none) E (cc1__stats_body i M1 h1 M2 h2 M3 h3 M4 h4 M5 h5 M6 h6) Q := by
  rw [cc1__stats_body_eq_skeleton]
  unfold cc1__stats_body_skel
  iintro ⟨H1, H2, H3, H5, H6, Hk⟩
  sl_exec!
  sl_step
  iapply Hk
  isplitl [H1]; · iexact H1
  isplitl [H2]; · iexact H2
  isplitl [H3]; · iexact H3
  isplitl [H5]
  · iexists _; isplitr; swap; (· iexact H5); ipureintro
    sl_unfold_words
    unfold rd
    rw [View.read_writes_junk_eq_canon, View.canon_cons_unit_zero (S := S1x128) hz]
    simp only [View.readAt_eq_ld, View.ld_unit_zero (S := S1x128) hz, View.ld_unit_zero (S := S8x128) hz, View.ld_unit_zero (S := S8x8192) hz,
      View.readCov_unit_zero (S := S1x128) _ hz]
  · iexists _; isplitr; swap; (· iexact H6); ipureintro
    sl_unfold_words
    unfold rd
    rw [View.read_writes_junk_eq_canon, View.canon_cons_unit_zero (S := S1x128) hz]
    simp only [View.readAt_eq_ld, View.ld_unit_zero (S := S1x128) hz, View.ld_unit_zero (S := S8x128) hz, View.ld_unit_zero (S := S8x8192) hz,
      View.readCov_unit_zero (S := S1x128) _ hz]

/-- The two rows of a two-row block. -/
abbrev row0 : Rect S2x128 := Rect.unit (s := S2x128) ![0, 0] S1x128.size inb_S2x128_S1x128_0_0
abbrev row1 : Rect S2x128 := Rect.unit (s := S2x128) ![1, 0] S1x128.size inb_S2x128_S1x128_1_0

/-- Two rows as one block: row 0 from `a`, row 1 from `b`. -/
def rows2 (a b : Vec F S1x128 .f32) : Vec F S2x128 .f32 := View.canon [⟨row1, b⟩, ⟨row0, a⟩]

theorem row0_not_row1 (x : row0.shape.Idx) : row0.emb x ∉ row1.set := by
  intro h
  have := (Rect.mem_set_unit.mp h 0).1
  have h0 : (row0.emb x 0 : Nat) = 0 := by
    have := (x 0).isLt
    show 0 + 1 * (x 0).val = 0
    have h1 : (x 0).val < 1 := (x 0).isLt
    omega
  rw [h0] at this
  exact absurd this (by decide)

/-- Its rows, read back. -/
theorem ld_rows2_0 (a b : Vec F S1x128 .f32) : View.ld (rows2 a b) row0 = a :=
  funext fun x => (View.canon_cons_of_not_mem (Val := Elt F) ⟨row1, b⟩ [⟨row0, a⟩] (row0_not_row1 x)).trans (View.canon_cons_emb (Val := Elt F) row0 a [] x)
theorem ld_rows2_1 (a b : Vec F S1x128 .f32) : View.ld (rows2 a b) row1 = b :=
  funext fun x => View.canon_cons_emb (Val := Elt F) row1 b [⟨row0, a⟩] x

theorem two_rows {sp : Space} (M : Memref sig .tc sp S2x128 .f32) (M5 : Memref sig .tc .vmem S1x128 .f32) (M6 : Memref sig .tc .vmem S1x128 .f32) {a b a' b' : Vec F S1x128 .f32} (ha : a = a') (hb : b = b') :
    M.view.read (Elt F) (M.view.writes (Elt F) M.view.junk
      [⟨Rect.unit ![1, 0] S1x128.size inb_S2x128_S1x128_1_0, M6.view.readCov [⟨Rect.unit ![0, 0] S1x128.size inb_S1x128_S1x128_0_0, b⟩] (Rect.unit ![0, 0] S1x128.size inb_S1x128_S1x128_0_0).toLoadRect⟩,
       ⟨Rect.unit ![0, 0] S1x128.size inb_S2x128_S1x128_0_0, M5.view.readCov [⟨Rect.unit ![0, 0] S1x128.size inb_S1x128_S1x128_0_0, a⟩] (Rect.unit ![0, 0] S1x128.size inb_S1x128_S1x128_0_0).toLoadRect⟩])
      = rows2 a' b' := by
  subst ha hb
  rw [View.read_writes_junk_eq_canon, View.readCov_unit_zero (S := S1x128) _ hz, View.readCov_unit_zero (S := S1x128) _ hz]
  rfl

theorem congrArg_pay4 (M1 : Memref sig .tc .vmem S8x8192 .f32) (M2 : Memref sig .tc .vmem S8x128 .f32) (M3 M5 : Memref sig .tc .vmem S1x128 .f32) (f1 : M1.view.ty.Contents (Elt F)) (f2 : M2.view.ty.Contents (Elt F)) (f3 : M3.view.ty.Contents (Elt F)) (f5 : M5.view.ty.Contents (Elt F)) :
    k1_pay4 (View.readAt (Elt F) M1.view (Rect.unit ![0, 0] S8x8192.size inb_S8x8192_S8x8192_0_0).toLoadRect f1)
      (View.readAt (Elt F) M2.view (Rect.unit ![0, 0] S8x128.size inb_S8x128_S8x128_0_0).toLoadRect f2)
      (View.readAt (Elt F) M3.view (Rect.unit ![0, 0] S1x128.size inb_S1x128_S1x128_0_0).toLoadRect f3)
      (View.readAt (Elt F) M5.view (Rect.unit ![0, 0] S1x128.size inb_S1x128_S1x128_0_0).toLoadRect f5)
    = k1_pay4 (M1.view.read (Elt F) f1) (M2.view.read (Elt F) f2) (M3.view.read (Elt F) f3) (M5.view.read (Elt F) f5) := by
  simp only [View.readAt_eq_ld, View.ld_unit_zero (S := S1x128) hz, View.ld_unit_zero (S := S8x128) hz, View.ld_unit_zero (S := S8x8192) hz]

theorem congrArg_pay5 (M1 : Memref sig .tc .vmem S8x8192 .f32) (M2 : Memref sig .tc .vmem S8x128 .f32) (M3 M5 : Memref sig .tc .vmem S1x128 .f32) (f1 : M1.view.ty.Contents (Elt F)) (f2 : M2.view.ty.Contents (Elt F)) (f3 : M3.view.ty.Contents (Elt F)) (f5 : M5.view.ty.Contents (Elt F)) :
    k1_pay5 (View.readAt (Elt F) M1.view (Rect.unit ![0, 0] S8x8192.size inb_S8x8192_S8x8192_0_0).toLoadRect f1)
      (View.readAt (Elt F) M2.view (Rect.unit ![0, 0] S8x128.size inb_S8x128_S8x128_0_0).toLoadRect f2)
      (View.readAt (Elt F) M3.view (Rect.unit ![0, 0] S1x128.size inb_S1x128_S1x128_0_0).toLoadRect f3)
      (View.readAt (Elt F) M5.view (Rect.unit ![0, 0] S1x128.size inb_S1x128_S1x128_0_0).toLoadRect f5)
    = k1_pay5 (M1.view.read (Elt F) f1) (M2.view.read (Elt F) f2) (M3.view.read (Elt F) f3) (M5.view.read (Elt F) f5) := by
  simp only [View.readAt_eq_ld, View.ld_unit_zero (S := S1x128) hz, View.ld_unit_zero (S := S8x128) hz, View.ld_unit_zero (S := S8x8192) hz]

/-- The body at the last grid point. -/
theorem run_last (c : Dev nD) (i : grid1.Coords) (M1 : Memref sig .tc .vmem S8x8192 .f32) (h1 : M1.IsWhole) (M2 : Memref sig .tc .vmem S8x128 .f32) (h2 : M2.IsWhole)
    (M3 : Memref sig .tc .vmem S1x128 .f32) (h3 : M3.IsWhole) (M4 : Memref sig .tc .vmem S2x128 .f32) (h4 : M4.IsWhole) (M5 : Memref sig .tc .vmem S1x128 .f32) (h5 : M5.IsWhole)
    (M6 : Memref sig .tc .vmem S1x128 .f32) (h6 : M6.IsWhole)
    (hc1 : ¬ Scalar.cmpi .ne (Scalar.extui (Scalar.cmpi .eq (BitVec.ofNat 32 (i 0).val) 0#32) : BitVec 32) 0#32 = 1#1) (hc2 : k1_cond2 i = 1#1)
    (f1 : Bf (F := F) c M1) (f2 : Bf (F := F) c M2) (f3 : Bf (F := F) c M3) (f4 : Bf (F := F) c M4) (f5 : Bf (F := F) c M5) (f6 : Bf (F := F) c M6) (E : Set ℕ) (Q : PUnit → sProp 𝕄) :
    iprop(pt c M1 f1 ∗ pt c M2 f2 ∗ pt c M3 f3 ∗ pt c M4 f4 ∗ pt c M5 f5 ∗ pt c M6 f6
      ∗ (iprop(pt c M1 f1 ∗ pt c M2 f2 ∗ pt c M3 f3
          ∗ has c M4 (rows2 (k1_pay4 (rd c M1 f1) (rd c M2 f2) (rd c M3 f3) (rd c M5 f5)) (k1_pay5 (rd c M1 f1) (rd c M2 f2) (rd c M3 f3) (rd c M6 f6)))
          ∗ has c M5 (k1_pay4 (rd c M1 f1) (rd c M2 f2) (rd c M3 f3) (rd c M5 f5))
          ∗ has c M6 (k1_pay5 (rd c M1 f1) (rd c M2 f2) (rd c M3 f3) (rd c M6 f6))) -∗ Q ⟨⟩))
      ⊢ wp frame (wpE (defs₀ (F := F)) Variants.none c none) E (cc1__stats_body i M1 h1 M2 h2 M3 h3 M4 h4 M5 h5 M6 h6) Q := by
  rw [cc1__stats_body_eq_skeleton]
  unfold cc1__stats_body_skel
  iintro ⟨H1, H2, H3, H4, H5, H6, Hk⟩
  sl_exec!
  sl_step
  iapply Hk
  isplitl [H1]; · iexact H1
  isplitl [H2]; · iexact H2
  isplitl [H3]; · iexact H3
  isplitl [H4]
  · iexists _; isplitr; swap; (· iexact H4); ipureintro
    sl_unfold_words
    unfold rd
    exact two_rows _ _ _ (congrArg_pay4 _ _ _ _ _ _ _ _) (congrArg_pay5 _ _ _ _ _ _ _ _)
  isplitl [H5]
  · iexists _; isplitr; swap; (· iexact H5); ipureintro
    sl_unfold_words
    unfold rd
    rw [View.read_writes_junk_eq_canon, View.canon_cons_unit_zero (S := S1x128) hz]
    simp only [View.readAt_eq_ld, View.ld_unit_zero (S := S1x128) hz, View.ld_unit_zero (S := S8x128) hz, View.ld_unit_zero (S := S8x8192) hz]
  · iexists _; isplitr; swap; (· iexact H6); ipureintro
    sl_unfold_words
    unfold rd
    rw [View.read_writes_junk_eq_canon, View.canon_cons_unit_zero (S := S1x128) hz]
    simp only [View.readAt_eq_ld, View.ld_unit_zero (S := S1x128) hz, View.ld_unit_zero (S := S8x128) hz, View.ld_unit_zero (S := S8x8192) hz]

end Cert.Proof.IdealStatsRun

end
-- ==== Proof.IdealStats.lean ====
/-
  The first TensorCore kernel (`_stats`) as a region of @main, entered at any contents of the unscoped buffers.

  Its two grid points add the column sums, and the column sums of the squares, of the two halves of the first layer; the
  second stores both rows. So the region leaves every array as it found it but its result, which holds `result`.
-/
module

public import proofs.«01_k».proof.Proof.IdealStatsRun
public import proofs.«01_k».proof.Proof.Gen.KernelIdeal.Launch
public import proofs.«01_k».proof.Proof.Gen.KernelIdeal.Points
public import Idealize.ShloMosaic.Lib.Pipeline.RegionsLoop
public import Idealize.ShloMosaic.Lib.Pipeline.Frame
public import Idealize.ShloMosaic.Lib.Pipeline.ValueKit.Geometry

@[expose] public section

noncomputable section

namespace Cert.Proof.IdealStats

open Cert.KernelIdeal Cert.KernelIdeal.Gen

open Idealize.ShloMosaic
open Idealize.ShloMosaic.TcCoe
open Idealize.ShloMosaic.SparseCore (T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)
open Cert.Proof.IdealTile (UU K EH EP D 𝒱₀)
open Cert.Proof.IdealStatsRun

variable {F : FTy → Type} [FloatOps F]

local notation "𝕄" => MT nD τ sig (HIx 1) (Elt F) ℕ UU ℕ

variable (V : (c : Dev nD) → (b : Ref sig .tc) → Buf (Elt F) ((c : Thread nD τ).loc b))

/-- The inputs' blocks at point `t`, of their arrays at the entry contents. -/
abbrev xb (c : Dev nD) (t : Fin cfg1.N) : Vec F S8x8192 .f32 := ((cfg1.win 0).blk t).view.read (Elt F) (V c main_v5)
abbrev wb (c : Dev nD) (t : Fin cfg1.N) : Vec F S8x128 .f32 := ((cfg1.win 1).blk t).view.read (Elt F) (V c main_arg3)
abbrev bb (c : Dev nD) (t : Fin cfg1.N) : Vec F S1x128 .f32 := ((cfg1.win 2).blk t).view.read (Elt F) (V c main_v6)

/-- The two accumulators after each point. -/
abbrev sumA (c : Dev nD) : Vec F S1x128 .f32 := k1_pay4 (xb V c t1_0) (wb V c t1_0) (bb V c t1_0) k1_pay1
abbrev sqA (c : Dev nD) : Vec F S1x128 .f32 := k1_pay5 (xb V c t1_0) (wb V c t1_0) (bb V c t1_0) k1_pay2
abbrev sumB (c : Dev nD) : Vec F S1x128 .f32 := k1_pay4 (xb V c t1_1) (wb V c t1_1) (bb V c t1_1) (sumA V c)
abbrev sqB (c : Dev nD) : Vec F S1x128 .f32 := k1_pay5 (xb V c t1_1) (wb V c t1_1) (bb V c t1_1) (sqA V c)

/-- The scoped buffers the kernel neither stages nor uses. -/
abbrev rest (c : Dev nD) : sProp 𝕄 := Pipeline.scopedRestBut (Ix := HIx 1) (Name := ℕ) (U := UU) (Lvl := ℕ) (Val := Elt F) spec1 c [cc1_scratch0, cc1_scratch1]

/-- Between the points the two accumulators hold the first block's sums. -/
def Φ (c : Dev nD) : ℕ → sProp 𝕄
  | 1 => iprop((((c : Thread nD τ).loc cc1_scratch0) ↦{fullShare} sumA V c) ∗ (((c : Thread nD τ).loc cc1_scratch1) ↦{fullShare} sqA V c) ∗ rest c)
  | _ => Pipeline.scopedRest (Ix := HIx 1) (Name := ℕ) (U := UU) (Lvl := ℕ) (Val := Elt F) spec1 c

theorem Φ_one (c : Dev nD) : Φ V c 1 = iprop((((c : Thread nD τ).loc cc1_scratch0) ↦{fullShare} sumA V c) ∗ (((c : Thread nD τ).loc cc1_scratch1) ↦{fullShare} sqA V c) ∗ rest c) := rfl

/-- The waits recorded before the region: none above the level the call to the SparseCores leaves. -/
abbrev recBound (c : Dev nD) : Set (SemLoc sig × HIx 1) := {p | (K (F := F)).lev (T c, p.1) p.2 ≤ 8}

/-- The proof data of the region. -/
def dat (c : Dev nD) : Dat τ (Elt F) (HIx 1) ℕ UU ℕ cfg1 c where
  A w := V c (Pipeline.arrRef spec1 w)
  after w t := match w with
    | ⟨0, _⟩ => xb V c t
    | ⟨1, _⟩ => wb V c t
    | ⟨2, _⟩ => bb V c t
    | ⟨3, _⟩ => rows2 (sumB V c) (sqB V c)
  Φ t := Φ V c t.val
  q _ := fullShare
  owed _ := 0
  recorded _ := recBound (F := F) c

theorem before0 (c : Dev nD) (t : Fin cfg1.N) (d) : (dat V c).before 0 t d = xb V c t :=
  (dat V c).before_in_eq_fetched 0 rfl (fun _ => rfl) (fun _ _ _ => rfl) (fun _ => rfl) t d
theorem before1 (c : Dev nD) (t : Fin cfg1.N) (d) : (dat V c).before 1 t d = wb V c t :=
  (dat V c).before_in_eq_fetched 1 rfl (fun _ => rfl) (fun _ _ _ => rfl) (fun _ => rfl) t d
theorem before2 (c : Dev nD) (t : Fin cfg1.N) (d) : (dat V c).before 2 t d = bb V c t :=
  (dat V c).before_in_eq_fetched 2 rfl (fun _ => rfl) (fun _ _ _ => rfl) (fun _ => rfl) t d

theorem owns_has (c : Dev nD) {sp : Space} {S : Shape} {e : EltTy} (M : Memref sig .tc sp S e) (h : M.IsWhole) (X : Vec F S e) :
    (owns (c : Thread nD τ) M fullShare X : sProp 𝕄) = has c M X := by
  unfold owns
  rw [h.set_eq_univ]

theorem body_obligation (c : Dev nD) : BodyObligation (dat V c) (defs₀ (F := F)) 𝒱₀ none Set.univ := fun t => by
  have e0 := fun (X : Vec F S8x8192 .f32) => owns_has c (stage1_0 (cfg1.slots t 0)) (hstage1_0 ((cfg1.slots t 0).cast nbuf1_0)) X
  have e1 := fun (X : Vec F S8x128 .f32) => owns_has c (stage1_1 (cfg1.slots t 1)) (hstage1_1 ((cfg1.slots t 1).cast nbuf1_1)) X
  have e2 := fun (X : Vec F S1x128 .f32) => owns_has c (stage1_2 (cfg1.slots t 2)) (hstage1_2 ((cfg1.slots t 2).cast nbuf1_2)) X
  have e3 := fun (X : Vec F S2x128 .f32) => owns_has c (stage1_3 (cfg1.slots t 3)) (hstage1_3 ((cfg1.slots t 3).cast nbuf1_3)) X
  rw [bigSep_W1, bigSep_W1, show (dat V c).owesAt none t.succ = (dat V c).owesAt none t.castSucc from rfl]
  simp only [e0, e1, e2, e3, before0, before1, before2]
  rcases fin_N1 t with rfl | rfl
  · rw [show (dat V c).Φ t1_0.castSucc = Pipeline.scopedRest (Ix := HIx 1) (Name := ℕ) (U := UU) (Lvl := ℕ) (Val := Elt F) spec1 c from rfl,
      scopedRest1_split, show (dat V c).Φ t1_0.succ = Φ V c 1 from rfl, Φ_one,
      show idle1 3 (grid1.coords t1_0) = true from by decide +kernel, show (win1 3).flush t1_0 = false from by decide +kernel]
    dsimp only
    iintro ⟨⟨⟨⟨%g0, S0⟩, ⟨%g1, S1⟩⟩, HR⟩, Howes, ⟨%d0, %f0, %hf0, H0⟩, ⟨%d1, %f1, %hf1, H1⟩, ⟨%d2, %f2, %hf2, H2⟩, ⟨%d3, H3⟩⟩
    iapply (run_first c (grid1.coords t1_0) (stage1_0 (cfg1.slots t1_0 0)) (hstage1_0 ((cfg1.slots t1_0 0).cast nbuf1_0))
      (stage1_1 (cfg1.slots t1_0 1)) (hstage1_1 ((cfg1.slots t1_0 1).cast nbuf1_1)) (stage1_2 (cfg1.slots t1_0 2)) (hstage1_2 ((cfg1.slots t1_0 2).cast nbuf1_2))
      (stage1_3 (cfg1.slots t1_0 3)) (hstage1_3 ((cfg1.slots t1_0 3).cast nbuf1_3)) (Memref.whole cc1_scratch0) (Memref.isWhole_whole _) (Memref.whole cc1_scratch1)
      (Memref.isWhole_whole _) (by decide +kernel) (by decide +kernel) f0 f1 f2 g0 g1 Set.univ _)
    isplitl [H0]; · iexact H0
    isplitl [H1]; · iexact H1
    isplitl [H2]; · iexact H2
    isplitl [S0]; · iexact S0
    isplitl [S1]; · iexact S1
    iintro ⟨H0, H1, H2, ⟨%k0, %hk0, S0⟩, ⟨%k1, %hk1, S1⟩⟩
    rw [hf0, hf1, hf2] at hk0 hk1
    isplitl [S0 S1 HR]
    · isplitl [S0]
      · rw [show sumA V c = k0 from hk0.symm]; iexact S0
      isplitl [S1]
      · rw [show sqA V c = k1 from hk1.symm]; iexact S1
      iexact HR
    isplitl [Howes]; · iexact Howes
    isplitl [H0]; · iexists f0; isplitr; · ipureintro; exact hf0
                    iexact H0
    isplitl [H1]; · iexists f1; isplitr; · ipureintro; exact hf1
                    iexact H1
    isplitl [H2]; · iexists f2; isplitr; · ipureintro; exact hf2
                    iexact H2
    iexists d3; iexact H3
  · rw [show (dat V c).Φ t1_1.castSucc = Φ V c 1 from rfl, Φ_one,
      show (dat V c).Φ t1_1.succ = Pipeline.scopedRest (Ix := HIx 1) (Name := ℕ) (U := UU) (Lvl := ℕ) (Val := Elt F) spec1 c from rfl, scopedRest1_split,
      show idle1 3 (grid1.coords t1_1) = false from by decide +kernel]
    dsimp only
    iintro ⟨⟨S0, S1, HR⟩, Howes, ⟨%d0, %f0, %hf0, H0⟩, ⟨%d1, %f1, %hf1, H1⟩, ⟨%d2, %f2, %hf2, H2⟩, ⟨%d3, %f3, -, H3⟩⟩
    iapply (run_last c (grid1.coords t1_1) (stage1_0 (cfg1.slots t1_1 0)) (hstage1_0 ((cfg1.slots t1_1 0).cast nbuf1_0))
      (stage1_1 (cfg1.slots t1_1 1)) (hstage1_1 ((cfg1.slots t1_1 1).cast nbuf1_1)) (stage1_2 (cfg1.slots t1_1 2)) (hstage1_2 ((cfg1.slots t1_1 2).cast nbuf1_2))
      (stage1_3 (cfg1.slots t1_1 3)) (hstage1_3 ((cfg1.slots t1_1 3).cast nbuf1_3)) (Memref.whole cc1_scratch0) (Memref.isWhole_whole _) (Memref.whole cc1_scratch1)
      (Memref.isWhole_whole _) (by decide +kernel) (by decide +kernel) f0 f1 f2 f3 (sumA V c) (sqA V c) Set.univ _)
    isplitl [H0]; · iexact H0
    isplitl [H1]; · iexact H1
    isplitl [H2]; · iexact H2
    isplitl [H3]; · iexact H3
    isplitl [S0]; · iexact S0
    isplitl [S1]; · iexact S1
    iintro ⟨H0, H1, H2, ⟨%k3, %hk3, H3⟩, ⟨%k0, -, S0⟩, ⟨%k1, -, S1⟩⟩
    rw [hf0, hf1, hf2] at hk3
    isplitl [S0 S1 HR]
    · isplitl [S0 S1]
      · isplitl [S0]
        · iexists k0; iexact S0
        iexists k1; iexact S1
      iexact HR
    isplitl [Howes]; · iexact Howes
    isplitl [H0]; · iexists f0; isplitr; · ipureintro; exact hf0
                    iexact H0
    isplitl [H1]; · iexists f1; isplitr; · ipureintro; exact hf1
                    iexact H1
    isplitl [H2]; · iexists f2; isplitr; · ipureintro; exact hf2
                    iexact H2
    iexists k3; isplitr; · ipureintro; exact hk3
    iexact H3

/-- The result's array after the region. -/
theorem final (c : Dev nD) : (dat V c).arrAt 3 cfg1.N = rows2 (sumB V c) (sqB V c) :=
  (dat V c).arrAt_eq_of_after_last 3 t1_1 (by decide +kernel) _ fun j => rfl

/-! ## The region over the unscoped buffers -/

variable (adm : (p : Fin 2) → (pcfgs (F := F) p).Adm)

/-- The proof data of the pipelines: this region's, and anything for the other. -/
def pdats : (p : Fin 2) → (c : Dev nD) → Dat τ (Elt F) (HIx 1) ℕ UU ℕ (Pipeline.pin (pcfgs (F := F)) adm p) c
  | ⟨0, _⟩ => fun c => dat V c
  | ⟨1, _⟩ => fun c => { A := fun _ _ => Classical.arbitrary _, after := fun _ _ _ => Classical.arbitrary _, Φ := fun _ => BI.emp, q := fun _ => fullShare, owed := fun _ => 0 }

variable (Vp : (c : Dev nD) → (b : Ref sig .tc) → Buf (Elt F) ((c : Thread nD τ).loc b))

-- the lemmas of the launch are stated over the pinned configuration, so plain definitions in a metavariable's type must be unfolded
set_option backward.isDefEq.respectTransparency.types false in
/-- The region: entered with the unscoped buffers at `V` and nothing owed, left with them at `Vp`, which has the result in
    its array and agrees with `V` elsewhere. -/
def reg (R : Dev nD → sProp 𝕄) (hVp_out : ∀ c, Vp c main_v7 = rows2 (sumB V c) (sqB V c))
    (hVp_ne : ∀ c (b : Ref sig .tc), b ≠ main_v7 → Vp c b = V c b) :
    Pipeline.RegionSeg (pcfgs (F := F)) adm (pdats V adm) none (defs₀ (F := F)) 𝒱₀ (K (F := F)).L (K (F := F)).lev 0 where
  win := launch1.win.to₀
  block_pos := launch1.block_pos
  stage_whole := launch1.stage_whole
  K := PEmpty
  osem k := k.elim
  ho := Pipeline.OwnSemFacts.none _
  hbody c := (body_obligation V c).loose
  hwaits := Pipeline.hwaits_of_owed_zero _ _ _ _ (K (F := F)).L (K (F := F)).lev 0 fun _ _ => rfl
  pre c := iprop(unscopedBufs c (V c) ∗ R c ∗ ∃ W, ⌜(K (F := F)).WBelow (T c) W 8⌝ ∗ owes (c : Thread nD τ) (0 : CellTallies nD τ sig (HIx 1)) W)
  post c := iprop(unscopedBufs c (Vp c) ∗ R c ∗ ∃ W, ⌜(K (F := F)).WBelow (T c) W 8⌝ ∗ owes (c : Thread nD τ) (0 : CellTallies nD τ sig (HIx 1)) W)
  X _ := BI.emp
  Y _ := BI.emp
  Z c := iprop(Pipeline.unscopedRest (Ix := HIx 1) (Name := ℕ) (U := UU) (Lvl := ℕ) spec1 c (V c) ∗ R c)
  hentry c := by
    rw [Pipeline.ownSems0_none]
    have hsplit := Pipeline.arrays_of_unscopedBufs (p := 0) (pcfgs (F := F)) adm (pdats V adm) launch1.win launch1.arr_whole c
      ((pdats V adm 0 c).share_full fun _ => rfl) (V c) fun _ => rfl
    iintro ⟨⟨Hub, HR, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun p hp => Or.inl (hW p hp)
      iexact HO
    isplitr; · iempintro
    isplitl [Hrest] <;> iassumption
  hin c := by
    rw [show (pdats V adm 0 c).Φ 0 = Pipeline.scopedRest (Ix := HIx 1) (Name := ℕ) (U := UU) (Lvl := ℕ) (Val := Elt F) spec1 c from rfl]
    iintro ⟨-, -, Hr⟩; iexact Hr
  hout c := by
    rw [Pipeline.ownSems0_none, show (pdats V adm 0 c).Φ (Fin.last _) = Pipeline.scopedRest (Ix := HIx 1) (Name := ℕ) (U := UU) (Lvl := ℕ) (Val := Elt F) spec1 c from rfl]
    iintro Hr
    isplitr; · iempintro
    isplitr; · iempintro
    iexact Hr
  hexit c := by
    have hjoin := Pipeline.unscopedBufs_of_arrays (p := 0) (pcfgs (F := F)) adm (Ix := HIx 1) (Name := ℕ) (U := UU) (Lvl := ℕ) launch1.win launch1.arr_whole c
      (pdats V adm) ((pdats V adm 0 c).share_full fun _ => rfl) (V c) (Vp c) ((pdats V adm 0 c).arrAt · cfg1.N)
      (fun w => by
        fin_cases w
        · exact ((pdats V adm 0 c).arrAt_in 0 rfl _).trans (hVp_ne c main_v5 (by decide)).symm
        · exact ((pdats V adm 0 c).arrAt_in 1 rfl _).trans (hVp_ne c main_arg3 (by decide)).symm
        · exact ((pdats V adm 0 c).arrAt_in 2 rfl _).trans (hVp_ne c main_v6 (by decide)).symm
        · exact (final V c).trans (hVp_out c).symm)
      (fun b hb => hVp_ne c b fun h => hb (h ▸ Finset.mem_image.mpr ⟨3, Finset.mem_univ _, rfl⟩))
    iintro ⟨Ha, HO, -, Hrest, HR⟩
    imodintro
    isplitl [Ha Hrest]
    · iapply hjoin; isplitl [Ha] <;> iassumption
    isplitl [HR]; · iexact HR
    unfold Pipeline.Dat.owesAt Pipeline.owesWithin
    icases HO with ⟨%W, %hW, HO⟩; iexists W; isplitr
    · ipureintro
      intro p hp
      rcases hW hp with h | h
      · exact h
      · obtain ⟨w, s, rfl⟩ := h
        exact Nat.zero_le _
    iexact HO

end Cert.Proof.IdealStats

end
-- ==== Proof.IdealMlpRun.lean ====
/-
  The body of the second TensorCore kernel (`_mlp`), run once per branch of its conditionals.

  In phase 0 a grid point normalises one block's first layer, runs it through the second and third layers, keeps the block in
  its own rows of a scratch buffer, and adds its column sums and the column sums of its square to two accumulators, which the
  first point clears. In phase 1 a grid point normalises the block it kept and runs it through the last layers, to one block
  of the result.
-/
module

public import proofs.«01_k».proof.Proof.IdealStatsRun

@[expose] public section

noncomputable section

namespace Cert.Proof.IdealMlpRun

open Cert.KernelIdeal Cert.KernelIdeal.Gen

open Idealize.ShloMosaic
open Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic
open Cert.Proof.IdealTile (UU)
open Cert.Proof.IdealStatsRun (Bf pt rd has hz row0 row1)

variable {F : FTy → Type} [FloatOps F]

local notation "𝕄" => MT nD τ sig (HIx 1) (Elt F) ℕ UU ℕ

/-- The first layer of a block, normalised, from the two accumulated rows `st`. -/
abbrev act (x : Vec F S8x8192 .f32) (st : Vec F S2x128 .f32) (w : Vec F S8x128 .f32) (b g be : Vec F S1x128 .f32) : Vec F S8192x128 .f32 :=
  k2_pay6 (View.ld st row0) (View.ld st row1) g be x w b

/-- The rows of the scratch buffer that a grid point keeps its block in. -/
abbrev keep1 (i : grid2.Coords) (h : k2_cond1 i = 1#1) : Rect S16384x128 := Rect.unit (s := S16384x128) (k2_off1 i) S8192x128.size (k2_off1_inb i h)
abbrev keep2 (i : grid2.Coords) (h : k2_cond3 i = 1#1) : Rect S16384x128 := Rect.unit (s := S16384x128) (k2_off2 i) S8192x128.size (k2_off2_inb i h)

/-- A store through a rectangle is read back through it, and leaves the rest of the buffer as it was. -/
theorem kept {sp : Space} (M : Memref sig .tc sp S16384x128 .f32) (f : M.view.ty.Contents (Elt F)) (r : Rect S16384x128) {w w' : r.shape.Idx → Elt F .f32} (hw : w = w') :
    View.ld (M.view.read (Elt F) (M.view.writes (Elt F) f [⟨r, w⟩])) r = w'
      ∧ ∀ y, y ∉ r.set → M.view.read (Elt F) (M.view.writes (Elt F) f [⟨r, w⟩]) y = M.view.read (Elt F) f y := by
  subst hw
  refine ⟨funext fun x => View.read_writes_cons_emb _ _ _ _ _ _, fun y hy => ?_⟩
  have hy' : y ∉ Finset.univ.map r.emb := by rwa [Rect.map_emb_univ]
  rw [View.writes_cons, View.read_slice_write_of_not_mem r _ _ _ hy', View.writes_nil]

/-- The body at the first point of phase 0. -/
theorem run_clear (c : Dev nD) (i : grid2.Coords) (M2 : Memref sig .tc .vmem S8x8192 .f32) (h2 : M2.IsWhole) (M3 : Memref sig .tc .vmem S8192x128 .f32) (h3 : M3.IsWhole) (M4 : Memref sig .tc .vmem S2x128 .f32) (h4 : M4.IsWhole) (M5 : Memref sig .tc .vmem S8x128 .f32) (h5 : M5.IsWhole) (M6 : Memref sig .tc .vmem S1x128 .f32) (h6 : M6.IsWhole) (M7 : Memref sig .tc .vmem S1x128 .f32) (h7 : M7.IsWhole) (M8 : Memref sig .tc .vmem S1x128 .f32) (h8 : M8.IsWhole) (M9 : Memref sig .tc .vmem S128x64 .f32) (h9 : M9.IsWhole) (M10 : Memref sig .tc .vmem S1x64 .f32) (h10 : M10.IsWhole) (M11 : Memref sig .tc .vmem S64x128 .f32) (h11 : M11.IsWhole) (M12 : Memref sig .tc .vmem S128x128 .f32) (h12 : M12.IsWhole) (M13 : Memref sig .tc .vmem S1x128 .f32) (h13 : M13.IsWhole) (M14 : Memref sig .tc .vmem S1x128 .f32) (h14 : M14.IsWhole) (M15 : Memref sig .tc .vmem S1x128 .f32) (h15 : M15.IsWhole) (M16 : Memref sig .tc .vmem S128x64 .f32) (h16 : M16.IsWhole) (M17 : Memref sig .tc .vmem S1x64 .f32) (h17 : M17.IsWhole) (M18 : Memref sig .tc .vmem S64x32 .f32) (h18 : M18.IsWhole) (M19 : Memref sig .tc .vmem S1x32 .f32) (h19 : M19.IsWhole) (M20 : Memref sig .tc .vmem S32x1 .f32) (h20 : M20.IsWhole) (M21 : Memref sig .tc .vmem S1x1 .f32) (h21 : M21.IsWhole) (M22 : Memref sig .tc .vmem S1x8192 .f32) (h22 : M22.IsWhole) (M23 : Memref sig .tc .vmem S16384x128 .f32) (h23 : M23.IsWhole) (M24 : Memref sig .tc .vmem S1x128 .f32) (h24 : M24.IsWhole) (M25 : Memref sig .tc .vmem S1x128 .f32) (h25 : M25.IsWhole)
    (hc1 : k2_cond1 i = 1#1) (hc2 : Scalar.cmpi .ne (Scalar.extui (Scalar.cmpi .eq (BitVec.ofNat 32 (i 1).val) 0#32) : BitVec 32) 0#32 = 1#1) (hc3 : ¬ k2_cond3 i = 1#1)
    (f2 : Bf (F := F) c M2) (f3 : Bf (F := F) c M3) (f4 : Bf (F := F) c M4) (f5 : Bf (F := F) c M5) (f6 : Bf (F := F) c M6) (f7 : Bf (F := F) c M7) (f8 : Bf (F := F) c M8) (f9 : Bf (F := F) c M9) (f10 : Bf (F := F) c M10) (f11 : Bf (F := F) c M11) (f12 : Bf (F := F) c M12) (f13 : Bf (F := F) c M13) (f23 : Bf (F := F) c M23) (f24 : Bf (F := F) c M24) (f25 : Bf (F := F) c M25) (E : Set ℕ) (Q : PUnit → sProp 𝕄) :
    iprop(pt c M2 f2 ∗ pt c M3 f3 ∗ pt c M4 f4 ∗ pt c M5 f5 ∗ pt c M6 f6 ∗ pt c M7 f7 ∗ pt c M8 f8 ∗ pt c M9 f9 ∗ pt c M10 f10 ∗ pt c M11 f11 ∗ pt c M12 f12 ∗ pt c M13 f13 ∗ pt c M23 f23 ∗ pt c M24 f24 ∗ pt c M25 f25
      ∗ (iprop(pt c M2 f2 ∗ pt c M3 f3 ∗ pt c M4 f4 ∗ pt c M5 f5 ∗ pt c M6 f6 ∗ pt c M7 f7 ∗ pt c M8 f8 ∗ pt c M9 f9 ∗ pt c M10 f10 ∗ pt c M11 f11 ∗ pt c M12 f12 ∗ pt c M13 f13
          ∗ (∃ g : Bf (F := F) c M23, ⌜View.ld (rd c M23 g) (keep1 i hc1) = k2_pay8 (act (rd c M2 f2) (rd c M4 f4) (rd c M5 f5) (rd c M6 f6) (rd c M7 f7) (rd c M8 f8)) (rd c M9 f9) (rd c M10 f10) (rd c M11 f11) (rd c M3 f3) (rd c M12 f12) (rd c M13 f13) ∧ ∀ y, y ∉ (keep1 i hc1).set → rd c M23 g y = rd c M23 f23 y⌝ ∗ pt c M23 g)
          ∗ has c M24 (k2_pay1 (k2_pay9 (act (rd c M2 f2) (rd c M4 f4) (rd c M5 f5) (rd c M6 f6) (rd c M7 f7) (rd c M8 f8)) (rd c M9 f9) (rd c M10 f10) (rd c M11 f11) (rd c M3 f3) (rd c M12 f12) (rd c M13 f13) k2_pay4))
          ∗ has c M25 (k2_pay2 (k2_pay7 (act (rd c M2 f2) (rd c M4 f4) (rd c M5 f5) (rd c M6 f6) (rd c M7 f7) (rd c M8 f8)) (rd c M9 f9) (rd c M10 f10) (rd c M11 f11) (rd c M3 f3) (rd c M12 f12) (rd c M13 f13) ) k2_pay5)) -∗ Q ⟨⟩))
      ⊢ wp frame (wpE (defs₀ (F := F)) Variants.none c none) E (cc2__mlp_body i M2 h2 M3 h3 M4 h4 M5 h5 M6 h6 M7 h7 M8 h8 M9 h9 M10 h10 M11 h11 M12 h12 M13 h13 M14 h14 M15 h15 M16 h16 M17 h17 M18 h18 M19 h19 M20 h20 M21 h21 M22 h22 M23 h23 M24 h24 M25 h25) Q := by
  rw [cc2__mlp_body_eq_skeleton]
  unfold cc2__mlp_body_skel
  rw [k2_part1_eq_skeleton, k2_part2_eq_skeleton]
  unfold k2_part1_skel k2_part2_skel
  iintro ⟨H2, H3, H4, H5, H6, H7, H8, H9, H10, H11, H12, H13, H23, H24, H25, Hk⟩
  sl_exec!
  sl_step
  iapply Hk
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H23]
  · iexists _; isplitr; swap; (· iexact H23); ipureintro
    sl_unfold_words
    unfold rd
    exact kept M23 f23 (keep1 i hc1) (by
      simp only [View.readAt_eq_ld, View.ld_unit_zero (S := S128x128) hz, View.ld_unit_zero (S := S128x64) hz, View.ld_unit_zero (S := S1x1) hz, View.ld_unit_zero (S := S1x128) hz, View.ld_unit_zero (S := S1x32) hz, View.ld_unit_zero (S := S1x64) hz, View.ld_unit_zero (S := S1x8192) hz, View.ld_unit_zero (S := S2x128) hz, View.ld_unit_zero (S := S32x1) hz, View.ld_unit_zero (S := S64x128) hz, View.ld_unit_zero (S := S64x32) hz, View.ld_unit_zero (S := S8192x128) hz, View.ld_unit_zero (S := S8x128) hz, View.ld_unit_zero (S := S8x8192) hz])
  isplitl [H24]
  · iexists _; isplitr; swap; (· iexact H24); ipureintro
    sl_unfold_words
    unfold rd
    rw [View.read_writes_junk_eq_canon, View.canon_cons_unit_zero (S := S1x128) hz]
    simp only [View.readAt_eq_ld, View.ld_unit_zero (S := S128x128) hz, View.ld_unit_zero (S := S128x64) hz, View.ld_unit_zero (S := S1x1) hz, View.ld_unit_zero (S := S1x128) hz, View.ld_unit_zero (S := S1x32) hz, View.ld_unit_zero (S := S1x64) hz, View.ld_unit_zero (S := S1x8192) hz, View.ld_unit_zero (S := S2x128) hz, View.ld_unit_zero (S := S32x1) hz, View.ld_unit_zero (S := S64x128) hz, View.ld_unit_zero (S := S64x32) hz, View.ld_unit_zero (S := S8192x128) hz, View.ld_unit_zero (S := S8x128) hz, View.ld_unit_zero (S := S8x8192) hz, View.readCov_unit_zero (S := S1x128) _ hz]
  · iexists _; isplitr; swap; (· iexact H25); ipureintro
    sl_unfold_words
    unfold rd
    rw [View.read_writes_junk_eq_canon, View.canon_cons_unit_zero (S := S1x128) hz]
    simp only [View.readAt_eq_ld, View.ld_unit_zero (S := S128x128) hz, View.ld_unit_zero (S := S128x64) hz, View.ld_unit_zero (S := S1x1) hz, View.ld_unit_zero (S := S1x128) hz, View.ld_unit_zero (S := S1x32) hz, View.ld_unit_zero (S := S1x64) hz, View.ld_unit_zero (S := S1x8192) hz, View.ld_unit_zero (S := S2x128) hz, View.ld_unit_zero (S := S32x1) hz, View.ld_unit_zero (S := S64x128) hz, View.ld_unit_zero (S := S64x32) hz, View.ld_unit_zero (S := S8192x128) hz, View.ld_unit_zero (S := S8x128) hz, View.ld_unit_zero (S := S8x8192) hz, View.readCov_unit_zero (S := S1x128) _ hz]

/-- The body at a later point of phase 0. -/
theorem run_first (c : Dev nD) (i : grid2.Coords) (M2 : Memref sig .tc .vmem S8x8192 .f32) (h2 : M2.IsWhole) (M3 : Memref sig .tc .vmem S8192x128 .f32) (h3 : M3.IsWhole) (M4 : Memref sig .tc .vmem S2x128 .f32) (h4 : M4.IsWhole) (M5 : Memref sig .tc .vmem S8x128 .f32) (h5 : M5.IsWhole) (M6 : Memref sig .tc .vmem S1x128 .f32) (h6 : M6.IsWhole) (M7 : Memref sig .tc .vmem S1x128 .f32) (h7 : M7.IsWhole) (M8 : Memref sig .tc .vmem S1x128 .f32) (h8 : M8.IsWhole) (M9 : Memref sig .tc .vmem S128x64 .f32) (h9 : M9.IsWhole) (M10 : Memref sig .tc .vmem S1x64 .f32) (h10 : M10.IsWhole) (M11 : Memref sig .tc .vmem S64x128 .f32) (h11 : M11.IsWhole) (M12 : Memref sig .tc .vmem S128x128 .f32) (h12 : M12.IsWhole) (M13 : Memref sig .tc .vmem S1x128 .f32) (h13 : M13.IsWhole) (M14 : Memref sig .tc .vmem S1x128 .f32) (h14 : M14.IsWhole) (M15 : Memref sig .tc .vmem S1x128 .f32) (h15 : M15.IsWhole) (M16 : Memref sig .tc .vmem S128x64 .f32) (h16 : M16.IsWhole) (M17 : Memref sig .tc .vmem S1x64 .f32) (h17 : M17.IsWhole) (M18 : Memref sig .tc .vmem S64x32 .f32) (h18 : M18.IsWhole) (M19 : Memref sig .tc .vmem S1x32 .f32) (h19 : M19.IsWhole) (M20 : Memref sig .tc .vmem S32x1 .f32) (h20 : M20.IsWhole) (M21 : Memref sig .tc .vmem S1x1 .f32) (h21 : M21.IsWhole) (M22 : Memref sig .tc .vmem S1x8192 .f32) (h22 : M22.IsWhole) (M23 : Memref sig .tc .vmem S16384x128 .f32) (h23 : M23.IsWhole) (M24 : Memref sig .tc .vmem S1x128 .f32) (h24 : M24.IsWhole) (M25 : Memref sig .tc .vmem S1x128 .f32) (h25 : M25.IsWhole)
    (hc1 : k2_cond1 i = 1#1) (hc2 : ¬ Scalar.cmpi .ne (Scalar.extui (Scalar.cmpi .eq (BitVec.ofNat 32 (i 1).val) 0#32) : BitVec 32) 0#32 = 1#1) (hc3 : ¬ k2_cond3 i = 1#1)
    (f2 : Bf (F := F) c M2) (f3 : Bf (F := F) c M3) (f4 : Bf (F := F) c M4) (f5 : Bf (F := F) c M5) (f6 : Bf (F := F) c M6) (f7 : Bf (F := F) c M7) (f8 : Bf (F := F) c M8) (f9 : Bf (F := F) c M9) (f10 : Bf (F := F) c M10) (f11 : Bf (F := F) c M11) (f12 : Bf (F := F) c M12) (f13 : Bf (F := F) c M13) (f23 : Bf (F := F) c M23) (f24 : Bf (F := F) c M24) (f25 : Bf (F := F) c M25) (E : Set ℕ) (Q : PUnit → sProp 𝕄) :
    iprop(pt c M2 f2 ∗ pt c M3 f3 ∗ pt c M4 f4 ∗ pt c M5 f5 ∗ pt c M6 f6 ∗ pt c M7 f7 ∗ pt c M8 f8 ∗ pt c M9 f9 ∗ pt c M10 f10 ∗ pt c M11 f11 ∗ pt c M12 f12 ∗ pt c M13 f13 ∗ pt c M23 f23 ∗ pt c M24 f24 ∗ pt c M25 f25
      ∗ (iprop(pt c M2 f2 ∗ pt c M3 f3 ∗ pt c M4 f4 ∗ pt c M5 f5 ∗ pt c M6 f6 ∗ pt c M7 f7 ∗ pt c M8 f8 ∗ pt c M9 f9 ∗ pt c M10 f10 ∗ pt c M11 f11 ∗ pt c M12 f12 ∗ pt c M13 f13
          ∗ (∃ g : Bf (F := F) c M23, ⌜View.ld (rd c M23 g) (keep1 i hc1) = k2_pay8 (act (rd c M2 f2) (rd c M4 f4) (rd c M5 f5) (rd c M6 f6) (rd c M7 f7) (rd c M8 f8)) (rd c M9 f9) (rd c M10 f10) (rd c M11 f11) (rd c M3 f3) (rd c M12 f12) (rd c M13 f13) ∧ ∀ y, y ∉ (keep1 i hc1).set → rd c M23 g y = rd c M23 f23 y⌝ ∗ pt c M23 g)
          ∗ has c M24 (k2_pay1 (k2_pay9 (act (rd c M2 f2) (rd c M4 f4) (rd c M5 f5) (rd c M6 f6) (rd c M7 f7) (rd c M8 f8)) (rd c M9 f9) (rd c M10 f10) (rd c M11 f11) (rd c M3 f3) (rd c M12 f12) (rd c M13 f13) (rd c M24 f24)))
          ∗ has c M25 (k2_pay2 (k2_pay7 (act (rd c M2 f2) (rd c M4 f4) (rd c M5 f5) (rd c M6 f6) (rd c M7 f7) (rd c M8 f8)) (rd c M9 f9) (rd c M10 f10) (rd c M11 f11) (rd c M3 f3) (rd c M12 f12) (rd c M13 f13) ) (rd c M25 f25))) -∗ Q ⟨⟩))
      ⊢ wp frame (wpE (defs₀ (F := F)) Variants.none c none) E (cc2__mlp_body i M2 h2 M3 h3 M4 h4 M5 h5 M6 h6 M7 h7 M8 h8 M9 h9 M10 h10 M11 h11 M12 h12 M13 h13 M14 h14 M15 h15 M16 h16 M17 h17 M18 h18 M19 h19 M20 h20 M21 h21 M22 h22 M23 h23 M24 h24 M25 h25) Q := by
  rw [cc2__mlp_body_eq_skeleton]
  unfold cc2__mlp_body_skel
  rw [k2_part1_eq_skeleton, k2_part2_eq_skeleton]
  unfold k2_part1_skel k2_part2_skel
  iintro ⟨H2, H3, H4, H5, H6, H7, H8, H9, H10, H11, H12, H13, H23, H24, H25, Hk⟩
  sl_exec!
  sl_step
  iapply Hk
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H23]
  · iexists _; isplitr; swap; (· iexact H23); ipureintro
    sl_unfold_words
    unfold rd
    exact kept M23 f23 (keep1 i hc1) (by
      simp only [View.readAt_eq_ld, View.ld_unit_zero (S := S128x128) hz, View.ld_unit_zero (S := S128x64) hz, View.ld_unit_zero (S := S1x1) hz, View.ld_unit_zero (S := S1x128) hz, View.ld_unit_zero (S := S1x32) hz, View.ld_unit_zero (S := S1x64) hz, View.ld_unit_zero (S := S1x8192) hz, View.ld_unit_zero (S := S2x128) hz, View.ld_unit_zero (S := S32x1) hz, View.ld_unit_zero (S := S64x128) hz, View.ld_unit_zero (S := S64x32) hz, View.ld_unit_zero (S := S8192x128) hz, View.ld_unit_zero (S := S8x128) hz, View.ld_unit_zero (S := S8x8192) hz])
  isplitl [H24]
  · iexists _; isplitr; swap; (· iexact H24); ipureintro
    sl_unfold_words
    unfold rd
    rw [View.read_writes_junk_eq_canon, View.canon_cons_unit_zero (S := S1x128) hz]
    simp only [View.readAt_eq_ld, View.ld_unit_zero (S := S128x128) hz, View.ld_unit_zero (S := S128x64) hz, View.ld_unit_zero (S := S1x1) hz, View.ld_unit_zero (S := S1x128) hz, View.ld_unit_zero (S := S1x32) hz, View.ld_unit_zero (S := S1x64) hz, View.ld_unit_zero (S := S1x8192) hz, View.ld_unit_zero (S := S2x128) hz, View.ld_unit_zero (S := S32x1) hz, View.ld_unit_zero (S := S64x128) hz, View.ld_unit_zero (S := S64x32) hz, View.ld_unit_zero (S := S8192x128) hz, View.ld_unit_zero (S := S8x128) hz, View.ld_unit_zero (S := S8x8192) hz, View.readCov_unit_zero (S := S1x128) _ hz]
  · iexists _; isplitr; swap; (· iexact H25); ipureintro
    sl_unfold_words
    unfold rd
    rw [View.read_writes_junk_eq_canon, View.canon_cons_unit_zero (S := S1x128) hz]
    simp only [View.readAt_eq_ld, View.ld_unit_zero (S := S128x128) hz, View.ld_unit_zero (S := S128x64) hz, View.ld_unit_zero (S := S1x1) hz, View.ld_unit_zero (S := S1x128) hz, View.ld_unit_zero (S := S1x32) hz, View.ld_unit_zero (S := S1x64) hz, View.ld_unit_zero (S := S1x8192) hz, View.ld_unit_zero (S := S2x128) hz, View.ld_unit_zero (S := S32x1) hz, View.ld_unit_zero (S := S64x128) hz, View.ld_unit_zero (S := S64x32) hz, View.ld_unit_zero (S := S8192x128) hz, View.ld_unit_zero (S := S8x128) hz, View.ld_unit_zero (S := S8x8192) hz, View.readCov_unit_zero (S := S1x128) _ hz]

/-- The body in phase 1. -/
theorem run_second (c : Dev nD) (i : grid2.Coords) (M2 : Memref sig .tc .vmem S8x8192 .f32) (h2 : M2.IsWhole) (M3 : Memref sig .tc .vmem S8192x128 .f32) (h3 : M3.IsWhole) (M4 : Memref sig .tc .vmem S2x128 .f32) (h4 : M4.IsWhole) (M5 : Memref sig .tc .vmem S8x128 .f32) (h5 : M5.IsWhole) (M6 : Memref sig .tc .vmem S1x128 .f32) (h6 : M6.IsWhole) (M7 : Memref sig .tc .vmem S1x128 .f32) (h7 : M7.IsWhole) (M8 : Memref sig .tc .vmem S1x128 .f32) (h8 : M8.IsWhole) (M9 : Memref sig .tc .vmem S128x64 .f32) (h9 : M9.IsWhole) (M10 : Memref sig .tc .vmem S1x64 .f32) (h10 : M10.IsWhole) (M11 : Memref sig .tc .vmem S64x128 .f32) (h11 : M11.IsWhole) (M12 : Memref sig .tc .vmem S128x128 .f32) (h12 : M12.IsWhole) (M13 : Memref sig .tc .vmem S1x128 .f32) (h13 : M13.IsWhole) (M14 : Memref sig .tc .vmem S1x128 .f32) (h14 : M14.IsWhole) (M15 : Memref sig .tc .vmem S1x128 .f32) (h15 : M15.IsWhole) (M16 : Memref sig .tc .vmem S128x64 .f32) (h16 : M16.IsWhole) (M17 : Memref sig .tc .vmem S1x64 .f32) (h17 : M17.IsWhole) (M18 : Memref sig .tc .vmem S64x32 .f32) (h18 : M18.IsWhole) (M19 : Memref sig .tc .vmem S1x32 .f32) (h19 : M19.IsWhole) (M20 : Memref sig .tc .vmem S32x1 .f32) (h20 : M20.IsWhole) (M21 : Memref sig .tc .vmem S1x1 .f32) (h21 : M21.IsWhole) (M22 : Memref sig .tc .vmem S1x8192 .f32) (h22 : M22.IsWhole) (M23 : Memref sig .tc .vmem S16384x128 .f32) (h23 : M23.IsWhole) (M24 : Memref sig .tc .vmem S1x128 .f32) (h24 : M24.IsWhole) (M25 : Memref sig .tc .vmem S1x128 .f32) (h25 : M25.IsWhole)
    (hc1 : ¬ k2_cond1 i = 1#1) (hc3 : k2_cond3 i = 1#1)
    (f14 : Bf (F := F) c M14) (f15 : Bf (F := F) c M15) (f16 : Bf (F := F) c M16) (f17 : Bf (F := F) c M17) (f18 : Bf (F := F) c M18) (f19 : Bf (F := F) c M19) (f20 : Bf (F := F) c M20) (f21 : Bf (F := F) c M21) (f22 : Bf (F := F) c M22) (f23 : Bf (F := F) c M23) (f24 : Bf (F := F) c M24) (f25 : Bf (F := F) c M25) (E : Set ℕ) (Q : PUnit → sProp 𝕄) :
    iprop(pt c M14 f14 ∗ pt c M15 f15 ∗ pt c M16 f16 ∗ pt c M17 f17 ∗ pt c M18 f18 ∗ pt c M19 f19 ∗ pt c M20 f20 ∗ pt c M21 f21 ∗ pt c M22 f22 ∗ pt c M23 f23 ∗ pt c M24 f24 ∗ pt c M25 f25
      ∗ (iprop(pt c M14 f14 ∗ pt c M15 f15 ∗ pt c M16 f16 ∗ pt c M17 f17 ∗ pt c M18 f18 ∗ pt c M19 f19 ∗ pt c M20 f20 ∗ pt c M21 f21 ∗ pt c M23 f23 ∗ pt c M24 f24 ∗ pt c M25 f25
          ∗ has c M22 (k2_pay3 (k2_pay10 (rd c M24 f24) (rd c M25 f25) (rd c M14 f14) (rd c M15 f15) (View.ld (rd c M23 f23) (keep2 i hc3)) (rd c M16 f16) (rd c M17 f17) (rd c M18 f18)) (rd c M19 f19) (rd c M20 f20) (rd c M21 f21))) -∗ Q ⟨⟩))
      ⊢ wp frame (wpE (defs₀ (F := F)) Variants.none c none) E (cc2__mlp_body i M2 h2 M3 h3 M4 h4 M5 h5 M6 h6 M7 h7 M8 h8 M9 h9 M10 h10 M11 h11 M12 h12 M13 h13 M14 h14 M15 h15 M16 h16 M17 h17 M18 h18 M19 h19 M20 h20 M21 h21 M22 h22 M23 h23 M24 h24 M25 h25) Q := by
  rw [cc2__mlp_body_eq_skeleton]
  unfold cc2__mlp_body_skel
  rw [k2_part3_eq_skeleton]
  unfold k2_part3_skel
  iintro ⟨H14, H15, H16, H17, H18, H19, H20, H21, H22, H23, H24, H25, Hk⟩
  sl_exec!
  sl_step
  iapply Hk
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H23]; · iexact H23
  isplitl [H24]; · iexact H24
  isplitl [H25]; · iexact H25
  iexists _; isplitr; swap; (· iexact H22); ipureintro
  sl_unfold_words
  unfold rd
  rw [View.read_writes_junk_eq_canon, View.canon_cons_unit_zero (S := S1x8192) hz]
  simp only [View.readAt_eq_ld, View.ld_unit_zero (S := S128x128) hz, View.ld_unit_zero (S := S128x64) hz, View.ld_unit_zero (S := S1x1) hz, View.ld_unit_zero (S := S1x128) hz, View.ld_unit_zero (S := S1x32) hz, View.ld_unit_zero (S := S1x64) hz, View.ld_unit_zero (S := S1x8192) hz, View.ld_unit_zero (S := S2x128) hz, View.ld_unit_zero (S := S32x1) hz, View.ld_unit_zero (S := S64x128) hz, View.ld_unit_zero (S := S64x32) hz, View.ld_unit_zero (S := S8192x128) hz, View.ld_unit_zero (S := S8x128) hz, View.ld_unit_zero (S := S8x8192) hz]
  rfl

end Cert.Proof.IdealMlpRun

end
-- ==== Proof.IdealMlp.lean ====
/-
  The second TensorCore kernel (`_mlp`) as a region of @main, entered at any contents of the unscoped buffers.

  Its grid is two phases over the two halves of the batch. Phase 0 computes each half's second-stage row block, keeps it
  in a scratch buffer and adds its column sums and the column sums of its squares; phase 1 normalises each kept block with
  those sums and runs the rest of the network on it. So the region leaves every array as it found it but its result.
-/
module

public import proofs.«01_k».proof.Proof.IdealMlpRun
public import proofs.«01_k».proof.Proof.IdealStats

@[expose] public section

noncomputable section

namespace Cert.Proof.IdealMlp

open Cert.KernelIdeal Cert.KernelIdeal.Gen

open Idealize.ShloMosaic
open Idealize.ShloMosaic.TcCoe
open Idealize.ShloMosaic.SparseCore (T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)
open Cert.Proof.IdealTile (UU K EH EP D 𝒱₀)
open Cert.Proof.IdealStatsRun (Bf pt rd has)
open Cert.Proof.IdealStats (owns_has recBound)
open Cert.Proof.IdealMlpRun

variable {F : FTy → Type} [FloatOps F]

local notation "𝕄" => MT nD τ sig (HIx 1) (Elt F) ℕ UU ℕ

variable (V : (c : Dev nD) → (b : Ref sig .tc) → Buf (Elt F) ((c : Thread nD τ).loc b))

/-! ## What the body computes, from the blocks -/

/-- The inputs' blocks at point `t`, of their arrays at the entry contents. -/
abbrev i0 (c : Dev nD) (t : Fin cfg2.N) : Vec F S8x8192 .f32 := ((cfg2.win 0).blk t).view.read (Elt F) (V c main_v5)
abbrev i1 (c : Dev nD) (t : Fin cfg2.N) : Vec F S8192x128 .f32 := ((cfg2.win 1).blk t).view.read (Elt F) (V c main_v2)
abbrev i2 (c : Dev nD) (t : Fin cfg2.N) : Vec F S2x128 .f32 := ((cfg2.win 2).blk t).view.read (Elt F) (V c main_v7)
abbrev i3 (c : Dev nD) (t : Fin cfg2.N) : Vec F S8x128 .f32 := ((cfg2.win 3).blk t).view.read (Elt F) (V c main_arg3)
abbrev i4 (c : Dev nD) (t : Fin cfg2.N) : Vec F S1x128 .f32 := ((cfg2.win 4).blk t).view.read (Elt F) (V c main_v8)
abbrev i5 (c : Dev nD) (t : Fin cfg2.N) : Vec F S1x128 .f32 := ((cfg2.win 5).blk t).view.read (Elt F) (V c main_v9)
abbrev i6 (c : Dev nD) (t : Fin cfg2.N) : Vec F S1x128 .f32 := ((cfg2.win 6).blk t).view.read (Elt F) (V c main_v10)
abbrev i7 (c : Dev nD) (t : Fin cfg2.N) : Vec F S128x64 .f32 := ((cfg2.win 7).blk t).view.read (Elt F) (V c main_arg7)
abbrev i8 (c : Dev nD) (t : Fin cfg2.N) : Vec F S1x64 .f32 := ((cfg2.win 8).blk t).view.read (Elt F) (V c main_v11)
abbrev i9 (c : Dev nD) (t : Fin cfg2.N) : Vec F S64x128 .f32 := ((cfg2.win 9).blk t).view.read (Elt F) (V c main_v12)
abbrev i10 (c : Dev nD) (t : Fin cfg2.N) : Vec F S128x128 .f32 := ((cfg2.win 10).blk t).view.read (Elt F) (V c main_v4)
abbrev i11 (c : Dev nD) (t : Fin cfg2.N) : Vec F S1x128 .f32 := ((cfg2.win 11).blk t).view.read (Elt F) (V c main_v13)
abbrev i12 (c : Dev nD) (t : Fin cfg2.N) : Vec F S1x128 .f32 := ((cfg2.win 12).blk t).view.read (Elt F) (V c main_v14)
abbrev i13 (c : Dev nD) (t : Fin cfg2.N) : Vec F S1x128 .f32 := ((cfg2.win 13).blk t).view.read (Elt F) (V c main_v15)
abbrev i14 (c : Dev nD) (t : Fin cfg2.N) : Vec F S128x64 .f32 := ((cfg2.win 14).blk t).view.read (Elt F) (V c main_arg13)
abbrev i15 (c : Dev nD) (t : Fin cfg2.N) : Vec F S1x64 .f32 := ((cfg2.win 15).blk t).view.read (Elt F) (V c main_v16)
abbrev i16 (c : Dev nD) (t : Fin cfg2.N) : Vec F S64x32 .f32 := ((cfg2.win 16).blk t).view.read (Elt F) (V c main_arg15)
abbrev i17 (c : Dev nD) (t : Fin cfg2.N) : Vec F S1x32 .f32 := ((cfg2.win 17).blk t).view.read (Elt F) (V c main_v17)
abbrev i18 (c : Dev nD) (t : Fin cfg2.N) : Vec F S32x1 .f32 := ((cfg2.win 18).blk t).view.read (Elt F) (V c main_arg17)
abbrev i19 (c : Dev nD) (t : Fin cfg2.N) : Vec F S1x1 .f32 := ((cfg2.win 19).blk t).view.read (Elt F) (V c main_v18)

/-- The block phase 0 keeps, and what it adds to the two accumulators. -/
abbrev blkAt (c : Dev nD) (t : Fin cfg2.N) : Vec F S8192x128 .f32 := k2_pay8 (act (i0 V c t) (i2 V c t) (i3 V c t) (i4 V c t) (i5 V c t) (i6 V c t)) (i7 V c t) (i8 V c t) (i9 V c t) (i1 V c t) (i10 V c t) (i11 V c t)
abbrev addS (c : Dev nD) (t : Fin cfg2.N) (a : Vec F S1x128 .f32) : Vec F S1x128 .f32 := k2_pay1 (k2_pay9 (act (i0 V c t) (i2 V c t) (i3 V c t) (i4 V c t) (i5 V c t) (i6 V c t)) (i7 V c t) (i8 V c t) (i9 V c t) (i1 V c t) (i10 V c t) (i11 V c t) a)
abbrev addQ (c : Dev nD) (t : Fin cfg2.N) (a : Vec F S1x128 .f32) : Vec F S1x128 .f32 := k2_pay2 (k2_pay7 (act (i0 V c t) (i2 V c t) (i3 V c t) (i4 V c t) (i5 V c t) (i6 V c t)) (i7 V c t) (i8 V c t) (i9 V c t) (i1 V c t) (i10 V c t) (i11 V c t)) a

/-- The two accumulators after each point of phase 0. -/
abbrev sumA (c : Dev nD) : Vec F S1x128 .f32 := addS V c t2_0 k2_pay4
abbrev sqA (c : Dev nD) : Vec F S1x128 .f32 := addQ V c t2_0 k2_pay5
abbrev sumB (c : Dev nD) : Vec F S1x128 .f32 := addS V c t2_1 (sumA V c)
abbrev sqB (c : Dev nD) : Vec F S1x128 .f32 := addQ V c t2_1 (sqA V c)

/-- What phase 1 stores at point `t` for the kept block `A`. -/
abbrev outAt (c : Dev nD) (t : Fin cfg2.N) (A : Vec F S8192x128 .f32) : Vec F S1x8192 .f32 :=
  k2_pay3 (k2_pay10 (sumB V c) (sqB V c) (i12 V c t) (i13 V c t) A (i14 V c t) (i15 V c t) (i16 V c t)) (i17 V c t) (i18 V c t) (i19 V c t)

/-! ## The two halves of the scratch buffer -/

abbrev half0 : Rect S16384x128 := Rect.unit (s := S16384x128) ![0, 0] S8192x128.size (by decide)
abbrev half1 : Rect S16384x128 := Rect.unit (s := S16384x128) ![8192, 0] S8192x128.size (by decide)

/-- The buffer's contents hold `A` in the first half; `B` in the second. -/
def Kept0 (X : Vec F S16384x128 .f32) (A : Vec F S8192x128 .f32) : Prop := View.ld X half0 = A
def Kept1 (X : Vec F S16384x128 .f32) (B : Vec F S8192x128 .f32) : Prop := View.ld X half1 = B

theorem ld_keep1 (X : Vec F S16384x128 .f32) (i : grid2.Coords) (h : k2_cond1 i = 1#1) (off : Fin 2 → ℕ) (e : k2_off1 i = off)
    (inb : ∀ a, off a + S8192x128.size a ≤ S16384x128.size a) : (View.ld X (keep1 i h) : Vec F S8192x128 .f32) = View.ld X (Rect.unit (s := S16384x128) off S8192x128.size inb) := by
  subst e; rfl
theorem ld_keep2 (X : Vec F S16384x128 .f32) (i : grid2.Coords) (h : k2_cond3 i = 1#1) (off : Fin 2 → ℕ) (e : k2_off2 i = off)
    (inb : ∀ a, off a + S8192x128.size a ≤ S16384x128.size a) : (View.ld X (keep2 i h) : Vec F S8192x128 .f32) = View.ld X (Rect.unit (s := S16384x128) off S8192x128.size inb) := by
  subst e; rfl
/-- A store to the second half leaves what the first holds. -/
theorem kept0_of (X Y : Vec F S16384x128 .f32) (A : Vec F S8192x128 .f32) (i : grid2.Coords) (h : k2_cond1 i = 1#1) (e : k2_off1 i = ![8192, 0])
    (hX : Kept0 X A) (hY : ∀ y, y ∉ (keep1 i h).set → Y y = X y) : Kept0 Y A := by
  unfold Kept0 at hX ⊢
  subst hX
  funext x
  refine hY _ fun hm => ?_
  have h0 := Rect.mem_set_unit.mp hm 0
  rw [e] at h0
  have hx : (x 0 : ℕ) < 8192 := (x 0).isLt
  have h1 : ((half0.emb x) 0 : ℕ) = x 0 := by show 0 + 1 * (x 0 : ℕ) = x 0; omega
  have h2 : (8192 : ℕ) ≤ (half0.emb x) 0 := h0.1
  omega

/-! ## The proof data -/

/-- The scoped buffers the kernel neither stages nor uses. -/
abbrev rest (c : Dev nD) : sProp 𝕄 := Pipeline.scopedRestBut (Ix := HIx 1) (Name := ℕ) (U := UU) (Lvl := ℕ) (Val := Elt F) spec2 c [cc2_scratch0, cc2_scratch1, cc2_scratch2]
abbrev all (c : Dev nD) : sProp 𝕄 := Pipeline.scopedRest (Ix := HIx 1) (Name := ℕ) (U := UU) (Lvl := ℕ) (Val := Elt F) spec2 c

theorem all_split (c : Dev nD) : (all c : sProp 𝕄) = iprop(iprop((∃ f : Buf (Elt F) ((c : Thread nD τ).loc cc2_scratch0), ((c : Thread nD τ).loc cc2_scratch0) ↦{fullShare} f)
      ∗ (∃ f : Buf (Elt F) ((c : Thread nD τ).loc cc2_scratch1), ((c : Thread nD τ).loc cc2_scratch1) ↦{fullShare} f)
      ∗ (∃ f : Buf (Elt F) ((c : Thread nD τ).loc cc2_scratch2), ((c : Thread nD τ).loc cc2_scratch2) ↦{fullShare} f)) ∗ rest c) :=
  Pipeline.scopedRest_split_of_list spec2 c [cc2_scratch0, cc2_scratch1, cc2_scratch2] (by decide) (by decide)

/-- After the first point: the first half kept, its sums. -/
def Φ1 (c : Dev nD) : sProp 𝕄 := iprop((∃ g : Vec F S16384x128 .f32, ⌜Kept0 g (blkAt V c t2_0)⌝ ∗ ((c : Thread nD τ).loc cc2_scratch0) ↦{fullShare} g)
  ∗ (((c : Thread nD τ).loc cc2_scratch1) ↦{fullShare} sumA V c) ∗ (((c : Thread nD τ).loc cc2_scratch2) ↦{fullShare} sqA V c) ∗ rest c)
/-- After phase 0: both halves kept, the sums over both. -/
def Φ2 (c : Dev nD) : sProp 𝕄 := iprop((∃ g : Vec F S16384x128 .f32, ⌜Kept0 g (blkAt V c t2_0) ∧ Kept1 g (blkAt V c t2_1)⌝ ∗ ((c : Thread nD τ).loc cc2_scratch0) ↦{fullShare} g)
  ∗ (((c : Thread nD τ).loc cc2_scratch1) ↦{fullShare} sumB V c) ∗ (((c : Thread nD τ).loc cc2_scratch2) ↦{fullShare} sqB V c) ∗ rest c)

def Φ (c : Dev nD) : ℕ → sProp 𝕄
  | 1 => Φ1 V c
  | 2 => Φ2 V c
  | 3 => Φ2 V c
  | _ => all c

/-- What the result's staging buffer holds after point `t`, when the body stores there. -/
abbrev outs (c : Dev nD) (t : Fin cfg2.N) : Vec F S1x8192 .f32 := outAt V c t (if t = t2_2 then blkAt V c t2_0 else blkAt V c t2_1)

/-- The proof data of the region. -/
def dat (c : Dev nD) : Dat τ (Elt F) (HIx 1) ℕ UU ℕ cfg2 c where
  A w := V c (Pipeline.arrRef spec2 w)
  after w t := match w with
    | ⟨0, _⟩ => i0 V c t
    | ⟨1, _⟩ => i1 V c t
    | ⟨2, _⟩ => i2 V c t
    | ⟨3, _⟩ => i3 V c t
    | ⟨4, _⟩ => i4 V c t
    | ⟨5, _⟩ => i5 V c t
    | ⟨6, _⟩ => i6 V c t
    | ⟨7, _⟩ => i7 V c t
    | ⟨8, _⟩ => i8 V c t
    | ⟨9, _⟩ => i9 V c t
    | ⟨10, _⟩ => i10 V c t
    | ⟨11, _⟩ => i11 V c t
    | ⟨12, _⟩ => i12 V c t
    | ⟨13, _⟩ => i13 V c t
    | ⟨14, _⟩ => i14 V c t
    | ⟨15, _⟩ => i15 V c t
    | ⟨16, _⟩ => i16 V c t
    | ⟨17, _⟩ => i17 V c t
    | ⟨18, _⟩ => i18 V c t
    | ⟨19, _⟩ => i19 V c t
    | ⟨20, _⟩ => outs V c t
    | ⟨_ + 21, h⟩ => absurd h (Nat.not_lt.2 (Nat.le_add_left _ _))
  Φ t := Φ V c t.val
  q _ := fullShare
  owed _ := 0
  recorded _ := recBound (F := F) c

theorem before0 (c : Dev nD) (t : Fin cfg2.N) (d) : (dat V c).before 0 t d = i0 V c t :=
  (dat V c).before_in_eq_fetched 0 rfl (fun _ => rfl) (fun _ _ _ => rfl) (fun _ => rfl) t d
theorem before1 (c : Dev nD) (t : Fin cfg2.N) (d) : (dat V c).before 1 t d = i1 V c t :=
  (dat V c).before_in_eq_fetched 1 rfl (fun _ => rfl) (fun _ _ _ => rfl) (fun _ => rfl) t d
theorem before2 (c : Dev nD) (t : Fin cfg2.N) (d) : (dat V c).before 2 t d = i2 V c t :=
  (dat V c).before_in_eq_fetched 2 rfl (fun _ => rfl) (fun _ _ _ => rfl) (fun _ => rfl) t d
theorem before3 (c : Dev nD) (t : Fin cfg2.N) (d) : (dat V c).before 3 t d = i3 V c t :=
  (dat V c).before_in_eq_fetched 3 rfl (fun _ => rfl) (fun _ _ _ => rfl) (fun _ => rfl) t d
theorem before4 (c : Dev nD) (t : Fin cfg2.N) (d) : (dat V c).before 4 t d = i4 V c t :=
  (dat V c).before_in_eq_fetched 4 rfl (fun _ => rfl) (fun _ _ _ => rfl) (fun _ => rfl) t d
theorem before5 (c : Dev nD) (t : Fin cfg2.N) (d) : (dat V c).before 5 t d = i5 V c t :=
  (dat V c).before_in_eq_fetched 5 rfl (fun _ => rfl) (fun _ _ _ => rfl) (fun _ => rfl) t d
theorem before6 (c : Dev nD) (t : Fin cfg2.N) (d) : (dat V c).before 6 t d = i6 V c t :=
  (dat V c).before_in_eq_fetched 6 rfl (fun _ => rfl) (fun _ _ _ => rfl) (fun _ => rfl) t d
theorem before7 (c : Dev nD) (t : Fin cfg2.N) (d) : (dat V c).before 7 t d = i7 V c t :=
  (dat V c).before_in_eq_fetched 7 rfl (fun _ => rfl) (fun _ _ _ => rfl) (fun _ => rfl) t d
theorem before8 (c : Dev nD) (t : Fin cfg2.N) (d) : (dat V c).before 8 t d = i8 V c t :=
  (dat V c).before_in_eq_fetched 8 rfl (fun _ => rfl) (fun _ _ _ => rfl) (fun _ => rfl) t d
theorem before9 (c : Dev nD) (t : Fin cfg2.N) (d) : (dat V c).before 9 t d = i9 V c t :=
  (dat V c).before_in_eq_fetched 9 rfl (fun _ => rfl) (fun _ _ _ => rfl) (fun _ => rfl) t d
theorem before10 (c : Dev nD) (t : Fin cfg2.N) (d) : (dat V c).before 10 t d = i10 V c t :=
  (dat V c).before_in_eq_fetched 10 rfl (fun _ => rfl) (fun _ _ _ => rfl) (fun _ => rfl) t d
theorem before11 (c : Dev nD) (t : Fin cfg2.N) (d) : (dat V c).before 11 t d = i11 V c t :=
  (dat V c).before_in_eq_fetched 11 rfl (fun _ => rfl) (fun _ _ _ => rfl) (fun _ => rfl) t d
theorem before12 (c : Dev nD) (t : Fin cfg2.N) (d) : (dat V c).before 12 t d = i12 V c t :=
  (dat V c).before_in_eq_fetched 12 rfl (fun _ => rfl) (fun _ _ _ => rfl) (fun _ => rfl) t d
theorem before13 (c : Dev nD) (t : Fin cfg2.N) (d) : (dat V c).before 13 t d = i13 V c t :=
  (dat V c).before_in_eq_fetched 13 rfl (fun _ => rfl) (fun _ _ _ => rfl) (fun _ => rfl) t d
theorem before14 (c : Dev nD) (t : Fin cfg2.N) (d) : (dat V c).before 14 t d = i14 V c t :=
  (dat V c).before_in_eq_fetched 14 rfl (fun _ => rfl) (fun _ _ _ => rfl) (fun _ => rfl) t d
theorem before15 (c : Dev nD) (t : Fin cfg2.N) (d) : (dat V c).before 15 t d = i15 V c t :=
  (dat V c).before_in_eq_fetched 15 rfl (fun _ => rfl) (fun _ _ _ => rfl) (fun _ => rfl) t d
theorem before16 (c : Dev nD) (t : Fin cfg2.N) (d) : (dat V c).before 16 t d = i16 V c t :=
  (dat V c).before_in_eq_fetched 16 rfl (fun _ => rfl) (fun _ _ _ => rfl) (fun _ => rfl) t d
theorem before17 (c : Dev nD) (t : Fin cfg2.N) (d) : (dat V c).before 17 t d = i17 V c t :=
  (dat V c).before_in_eq_fetched 17 rfl (fun _ => rfl) (fun _ _ _ => rfl) (fun _ => rfl) t d
theorem before18 (c : Dev nD) (t : Fin cfg2.N) (d) : (dat V c).before 18 t d = i18 V c t :=
  (dat V c).before_in_eq_fetched 18 rfl (fun _ => rfl) (fun _ _ _ => rfl) (fun _ => rfl) t d
theorem before19 (c : Dev nD) (t : Fin cfg2.N) (d) : (dat V c).before 19 t d = i19 V c t :=
  (dat V c).before_in_eq_fetched 19 rfl (fun _ => rfl) (fun _ _ _ => rfl) (fun _ => rfl) t d
theorem after0 (c : Dev nD) (t : Fin cfg2.N) : (dat V c).after 0 t = i0 V c t := rfl
theorem after1 (c : Dev nD) (t : Fin cfg2.N) : (dat V c).after 1 t = i1 V c t := rfl
theorem after2 (c : Dev nD) (t : Fin cfg2.N) : (dat V c).after 2 t = i2 V c t := rfl
theorem after3 (c : Dev nD) (t : Fin cfg2.N) : (dat V c).after 3 t = i3 V c t := rfl
theorem after4 (c : Dev nD) (t : Fin cfg2.N) : (dat V c).after 4 t = i4 V c t := rfl
theorem after5 (c : Dev nD) (t : Fin cfg2.N) : (dat V c).after 5 t = i5 V c t := rfl
theorem after6 (c : Dev nD) (t : Fin cfg2.N) : (dat V c).after 6 t = i6 V c t := rfl
theorem after7 (c : Dev nD) (t : Fin cfg2.N) : (dat V c).after 7 t = i7 V c t := rfl
theorem after8 (c : Dev nD) (t : Fin cfg2.N) : (dat V c).after 8 t = i8 V c t := rfl
theorem after9 (c : Dev nD) (t : Fin cfg2.N) : (dat V c).after 9 t = i9 V c t := rfl
theorem after10 (c : Dev nD) (t : Fin cfg2.N) : (dat V c).after 10 t = i10 V c t := rfl
theorem after11 (c : Dev nD) (t : Fin cfg2.N) : (dat V c).after 11 t = i11 V c t := rfl
theorem after12 (c : Dev nD) (t : Fin cfg2.N) : (dat V c).after 12 t = i12 V c t := rfl
theorem after13 (c : Dev nD) (t : Fin cfg2.N) : (dat V c).after 13 t = i13 V c t := rfl
theorem after14 (c : Dev nD) (t : Fin cfg2.N) : (dat V c).after 14 t = i14 V c t := rfl
theorem after15 (c : Dev nD) (t : Fin cfg2.N) : (dat V c).after 15 t = i15 V c t := rfl
theorem after16 (c : Dev nD) (t : Fin cfg2.N) : (dat V c).after 16 t = i16 V c t := rfl
theorem after17 (c : Dev nD) (t : Fin cfg2.N) : (dat V c).after 17 t = i17 V c t := rfl
theorem after18 (c : Dev nD) (t : Fin cfg2.N) : (dat V c).after 18 t = i18 V c t := rfl
theorem after19 (c : Dev nD) (t : Fin cfg2.N) : (dat V c).after 19 t = i19 V c t := rfl
theorem after20 (c : Dev nD) (t : Fin cfg2.N) : (dat V c).after 20 t = outs V c t := rfl

set_option maxHeartbeats 1600000 in
/-- The body's obligation at every point. -/
theorem body_obligation (c : Dev nD) : BodyObligation (dat V c) (defs₀ (F := F)) 𝒱₀ none Set.univ := fun t => by
  have e0 := fun (X : Vec F S8x8192 .f32) => owns_has c (stage2_0 (cfg2.slots t 0)) (hstage2_0 ((cfg2.slots t 0).cast nbuf2_0)) X
  have e1 := fun (X : Vec F S8192x128 .f32) => owns_has c (stage2_1 (cfg2.slots t 1)) (hstage2_1 ((cfg2.slots t 1).cast nbuf2_1)) X
  have e2 := fun (X : Vec F S2x128 .f32) => owns_has c (stage2_2 (cfg2.slots t 2)) (hstage2_2 ((cfg2.slots t 2).cast nbuf2_2)) X
  have e3 := fun (X : Vec F S8x128 .f32) => owns_has c (stage2_3 (cfg2.slots t 3)) (hstage2_3 ((cfg2.slots t 3).cast nbuf2_3)) X
  have e4 := fun (X : Vec F S1x128 .f32) => owns_has c (stage2_4 (cfg2.slots t 4)) (hstage2_4 ((cfg2.slots t 4).cast nbuf2_4)) X
  have e5 := fun (X : Vec F S1x128 .f32) => owns_has c (stage2_5 (cfg2.slots t 5)) (hstage2_5 ((cfg2.slots t 5).cast nbuf2_5)) X
  have e6 := fun (X : Vec F S1x128 .f32) => owns_has c (stage2_6 (cfg2.slots t 6)) (hstage2_6 ((cfg2.slots t 6).cast nbuf2_6)) X
  have e7 := fun (X : Vec F S128x64 .f32) => owns_has c (stage2_7 (cfg2.slots t 7)) (hstage2_7 ((cfg2.slots t 7).cast nbuf2_7)) X
  have e8 := fun (X : Vec F S1x64 .f32) => owns_has c (stage2_8 (cfg2.slots t 8)) (hstage2_8 ((cfg2.slots t 8).cast nbuf2_8)) X
  have e9 := fun (X : Vec F S64x128 .f32) => owns_has c (stage2_9 (cfg2.slots t 9)) (hstage2_9 ((cfg2.slots t 9).cast nbuf2_9)) X
  have e10 := fun (X : Vec F S128x128 .f32) => owns_has c (stage2_10 (cfg2.slots t 10)) (hstage2_10 ((cfg2.slots t 10).cast nbuf2_10)) X
  have e11 := fun (X : Vec F S1x128 .f32) => owns_has c (stage2_11 (cfg2.slots t 11)) (hstage2_11 ((cfg2.slots t 11).cast nbuf2_11)) X
  have e12 := fun (X : Vec F S1x128 .f32) => owns_has c (stage2_12 (cfg2.slots t 12)) (hstage2_12 ((cfg2.slots t 12).cast nbuf2_12)) X
  have e13 := fun (X : Vec F S1x128 .f32) => owns_has c (stage2_13 (cfg2.slots t 13)) (hstage2_13 ((cfg2.slots t 13).cast nbuf2_13)) X
  have e14 := fun (X : Vec F S128x64 .f32) => owns_has c (stage2_14 (cfg2.slots t 14)) (hstage2_14 ((cfg2.slots t 14).cast nbuf2_14)) X
  have e15 := fun (X : Vec F S1x64 .f32) => owns_has c (stage2_15 (cfg2.slots t 15)) (hstage2_15 ((cfg2.slots t 15).cast nbuf2_15)) X
  have e16 := fun (X : Vec F S64x32 .f32) => owns_has c (stage2_16 (cfg2.slots t 16)) (hstage2_16 ((cfg2.slots t 16).cast nbuf2_16)) X
  have e17 := fun (X : Vec F S1x32 .f32) => owns_has c (stage2_17 (cfg2.slots t 17)) (hstage2_17 ((cfg2.slots t 17).cast nbuf2_17)) X
  have e18 := fun (X : Vec F S32x1 .f32) => owns_has c (stage2_18 (cfg2.slots t 18)) (hstage2_18 ((cfg2.slots t 18).cast nbuf2_18)) X
  have e19 := fun (X : Vec F S1x1 .f32) => owns_has c (stage2_19 (cfg2.slots t 19)) (hstage2_19 ((cfg2.slots t 19).cast nbuf2_19)) X
  have e20 := fun (X : Vec F S1x8192 .f32) => owns_has c (stage2_20 (cfg2.slots t 20)) (hstage2_20 ((cfg2.slots t 20).cast nbuf2_20)) X
  rw [bigSep_W2, bigSep_W2, show (dat V c).owesAt none t.succ = (dat V c).owesAt none t.castSucc from rfl]
  simp only [e0, e1, e2, e3, e4, e5, e6, e7, e8, e9, e10, e11, e12, e13, e14, e15, e16, e17, e18, e19, e20, before0, before1, before2, before3, before4, before5, before6, before7, before8, before9, before10, before11, before12, before13, before14, before15, before16, before17, before18, before19, after0, after1, after2, after3, after4, after5, after6, after7, after8, after9, after10, after11, after12, after13, after14, after15, after16, after17, after18, after19, after20]
  clear e0 e1 e2 e3 e4 e5 e6 e7 e8 e9 e10 e11 e12 e13 e14 e15 e16 e17 e18 e19 e20
  rcases fin_N2 t with rfl | rfl | rfl | rfl
  · rw [show (dat V c).Φ t2_0.castSucc = all c from rfl, show (dat V c).Φ t2_0.succ = Φ1 V c from rfl, show idle2 20 (grid2.coords t2_0) = true from by decide +kernel, show (win2 20).flush t2_0 = false from by decide +kernel]
    dsimp only
    rw [all_split]
    unfold Φ1
    iintro ⟨⟨⟨⟨%g0, S0⟩, ⟨%g1, S1⟩, ⟨%g2, S2⟩⟩, HR⟩, Howes, ⟨%d0, %f0, %hf0, H0⟩, ⟨%d1, %f1, %hf1, H1⟩, ⟨%d2, %f2, %hf2, H2⟩, ⟨%d3, %f3, %hf3, H3⟩, ⟨%d4, %f4, %hf4, H4⟩, ⟨%d5, %f5, %hf5, H5⟩, ⟨%d6, %f6, %hf6, H6⟩, ⟨%d7, %f7, %hf7, H7⟩, ⟨%d8, %f8, %hf8, H8⟩, ⟨%d9, %f9, %hf9, H9⟩, ⟨%d10, %f10, %hf10, H10⟩, ⟨%d11, %f11, %hf11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩⟩
    iapply (run_clear c (grid2.coords t2_0) (stage2_0 (cfg2.slots t2_0 0)) (hstage2_0 ((cfg2.slots t2_0 0).cast nbuf2_0)) (stage2_1 (cfg2.slots t2_0 1)) (hstage2_1 ((cfg2.slots t2_0 1).cast nbuf2_1)) (stage2_2 (cfg2.slots t2_0 2)) (hstage2_2 ((cfg2.slots t2_0 2).cast nbuf2_2)) (stage2_3 (cfg2.slots t2_0 3)) (hstage2_3 ((cfg2.slots t2_0 3).cast nbuf2_3)) (stage2_4 (cfg2.slots t2_0 4)) (hstage2_4 ((cfg2.slots t2_0 4).cast nbuf2_4)) (stage2_5 (cfg2.slots t2_0 5)) (hstage2_5 ((cfg2.slots t2_0 5).cast nbuf2_5)) (stage2_6 (cfg2.slots t2_0 6)) (hstage2_6 ((cfg2.slots t2_0 6).cast nbuf2_6)) (stage2_7 (cfg2.slots t2_0 7)) (hstage2_7 ((cfg2.slots t2_0 7).cast nbuf2_7)) (stage2_8 (cfg2.slots t2_0 8)) (hstage2_8 ((cfg2.slots t2_0 8).cast nbuf2_8)) (stage2_9 (cfg2.slots t2_0 9)) (hstage2_9 ((cfg2.slots t2_0 9).cast nbuf2_9)) (stage2_10 (cfg2.slots t2_0 10)) (hstage2_10 ((cfg2.slots t2_0 10).cast nbuf2_10)) (stage2_11 (cfg2.slots t2_0 11)) (hstage2_11 ((cfg2.slots t2_0 11).cast nbuf2_11)) (stage2_12 (cfg2.slots t2_0 12)) (hstage2_12 ((cfg2.slots t2_0 12).cast nbuf2_12)) (stage2_13 (cfg2.slots t2_0 13)) (hstage2_13 ((cfg2.slots t2_0 13).cast nbuf2_13)) (stage2_14 (cfg2.slots t2_0 14)) (hstage2_14 ((cfg2.slots t2_0 14).cast nbuf2_14)) (stage2_15 (cfg2.slots t2_0 15)) (hstage2_15 ((cfg2.slots t2_0 15).cast nbuf2_15)) (stage2_16 (cfg2.slots t2_0 16)) (hstage2_16 ((cfg2.slots t2_0 16).cast nbuf2_16)) (stage2_17 (cfg2.slots t2_0 17)) (hstage2_17 ((cfg2.slots t2_0 17).cast nbuf2_17)) (stage2_18 (cfg2.slots t2_0 18)) (hstage2_18 ((cfg2.slots t2_0 18).cast nbuf2_18)) (stage2_19 (cfg2.slots t2_0 19)) (hstage2_19 ((cfg2.slots t2_0 19).cast nbuf2_19)) (stage2_20 (cfg2.slots t2_0 20)) (hstage2_20 ((cfg2.slots t2_0 20).cast nbuf2_20)) (Memref.whole cc2_scratch0) (Memref.isWhole_whole _) (Memref.whole cc2_scratch1) (Memref.isWhole_whole _) (Memref.whole cc2_scratch2) (Memref.isWhole_whole _) (by decide +kernel) (by decide +kernel) (by decide +kernel) f0 f1 f2 f3 f4 f5 f6 f7 f8 f9 f10 f11 g0 g1 g2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [S0]; · iexact S0
    isplitl [S1]; · iexact S1
    isplitl [S2]; · iexact S2
    iintro ⟨H0, H1, H2, H3, H4, H5, H6, H7, H8, H9, H10, H11, ⟨%k0, %hk0, S0⟩, ⟨%k1, %hk1, S1⟩, ⟨%k2, %hk2, S2⟩⟩
    rw [hf0, hf1, hf2, hf3, hf4, hf5, hf6, hf7, hf8, hf9, hf10, hf11] at hk0 hk1 hk2
    isplitl [S0 S1 S2 HR]
    · isplitl [S0]
      · iexists k0; isplitr; swap; (· iexact S0); ipureintro
        exact (ld_keep1 _ (grid2.coords t2_0) _ ![0, 0] (by decide +kernel) (by decide)).symm.trans hk0.1
      isplitl [S1]; · rw [show sumA V c = k1 from hk1.symm]; iexact S1
      isplitl [S2]; · rw [show sqA V c = k2 from hk2.symm]; iexact S2
      iexact HR
    isplitl [Howes]; · iexact Howes
    isplitl [H0]
    · iexists f0; isplitr; swap; (· iexact H0); ipureintro; exact hf0
    isplitl [H1]
    · iexists f1; isplitr; swap; (· iexact H1); ipureintro; exact hf1
    isplitl [H2]
    · iexists f2; isplitr; swap; (· iexact H2); ipureintro; exact hf2
    isplitl [H3]
    · iexists f3; isplitr; swap; (· iexact H3); ipureintro; exact hf3
    isplitl [H4]
    · iexists f4; isplitr; swap; (· iexact H4); ipureintro; exact hf4
    isplitl [H5]
    · iexists f5; isplitr; swap; (· iexact H5); ipureintro; exact hf5
    isplitl [H6]
    · iexists f6; isplitr; swap; (· iexact H6); ipureintro; exact hf6
    isplitl [H7]
    · iexists f7; isplitr; swap; (· iexact H7); ipureintro; exact hf7
    isplitl [H8]
    · iexists f8; isplitr; swap; (· iexact H8); ipureintro; exact hf8
    isplitl [H9]
    · iexists f9; isplitr; swap; (· iexact H9); ipureintro; exact hf9
    isplitl [H10]
    · iexists f10; isplitr; swap; (· iexact H10); ipureintro; exact hf10
    isplitl [H11]
    · iexists f11; isplitr; swap; (· iexact H11); ipureintro; exact hf11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    iexists d20; iexact H20
  · rw [show (dat V c).Φ t2_1.castSucc = Φ1 V c from rfl, show (dat V c).Φ t2_1.succ = Φ2 V c from rfl, show idle2 20 (grid2.coords t2_1) = true from by decide +kernel, show (win2 20).flush t2_1 = false from by decide +kernel]
    dsimp only
    unfold Φ1 Φ2
    iintro ⟨⟨⟨%g0, %hg, S0⟩, S1, S2, HR⟩, Howes, ⟨%d0, %f0, %hf0, H0⟩, ⟨%d1, %f1, %hf1, H1⟩, ⟨%d2, %f2, %hf2, H2⟩, ⟨%d3, %f3, %hf3, H3⟩, ⟨%d4, %f4, %hf4, H4⟩, ⟨%d5, %f5, %hf5, H5⟩, ⟨%d6, %f6, %hf6, H6⟩, ⟨%d7, %f7, %hf7, H7⟩, ⟨%d8, %f8, %hf8, H8⟩, ⟨%d9, %f9, %hf9, H9⟩, ⟨%d10, %f10, %hf10, H10⟩, ⟨%d11, %f11, %hf11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩⟩
    iapply (run_first c (grid2.coords t2_1) (stage2_0 (cfg2.slots t2_1 0)) (hstage2_0 ((cfg2.slots t2_1 0).cast nbuf2_0)) (stage2_1 (cfg2.slots t2_1 1)) (hstage2_1 ((cfg2.slots t2_1 1).cast nbuf2_1)) (stage2_2 (cfg2.slots t2_1 2)) (hstage2_2 ((cfg2.slots t2_1 2).cast nbuf2_2)) (stage2_3 (cfg2.slots t2_1 3)) (hstage2_3 ((cfg2.slots t2_1 3).cast nbuf2_3)) (stage2_4 (cfg2.slots t2_1 4)) (hstage2_4 ((cfg2.slots t2_1 4).cast nbuf2_4)) (stage2_5 (cfg2.slots t2_1 5)) (hstage2_5 ((cfg2.slots t2_1 5).cast nbuf2_5)) (stage2_6 (cfg2.slots t2_1 6)) (hstage2_6 ((cfg2.slots t2_1 6).cast nbuf2_6)) (stage2_7 (cfg2.slots t2_1 7)) (hstage2_7 ((cfg2.slots t2_1 7).cast nbuf2_7)) (stage2_8 (cfg2.slots t2_1 8)) (hstage2_8 ((cfg2.slots t2_1 8).cast nbuf2_8)) (stage2_9 (cfg2.slots t2_1 9)) (hstage2_9 ((cfg2.slots t2_1 9).cast nbuf2_9)) (stage2_10 (cfg2.slots t2_1 10)) (hstage2_10 ((cfg2.slots t2_1 10).cast nbuf2_10)) (stage2_11 (cfg2.slots t2_1 11)) (hstage2_11 ((cfg2.slots t2_1 11).cast nbuf2_11)) (stage2_12 (cfg2.slots t2_1 12)) (hstage2_12 ((cfg2.slots t2_1 12).cast nbuf2_12)) (stage2_13 (cfg2.slots t2_1 13)) (hstage2_13 ((cfg2.slots t2_1 13).cast nbuf2_13)) (stage2_14 (cfg2.slots t2_1 14)) (hstage2_14 ((cfg2.slots t2_1 14).cast nbuf2_14)) (stage2_15 (cfg2.slots t2_1 15)) (hstage2_15 ((cfg2.slots t2_1 15).cast nbuf2_15)) (stage2_16 (cfg2.slots t2_1 16)) (hstage2_16 ((cfg2.slots t2_1 16).cast nbuf2_16)) (stage2_17 (cfg2.slots t2_1 17)) (hstage2_17 ((cfg2.slots t2_1 17).cast nbuf2_17)) (stage2_18 (cfg2.slots t2_1 18)) (hstage2_18 ((cfg2.slots t2_1 18).cast nbuf2_18)) (stage2_19 (cfg2.slots t2_1 19)) (hstage2_19 ((cfg2.slots t2_1 19).cast nbuf2_19)) (stage2_20 (cfg2.slots t2_1 20)) (hstage2_20 ((cfg2.slots t2_1 20).cast nbuf2_20)) (Memref.whole cc2_scratch0) (Memref.isWhole_whole _) (Memref.whole cc2_scratch1) (Memref.isWhole_whole _) (Memref.whole cc2_scratch2) (Memref.isWhole_whole _) (by decide +kernel) (by decide +kernel) (by decide +kernel) f0 f1 f2 f3 f4 f5 f6 f7 f8 f9 f10 f11 g0 (sumA V c) (sqA V c) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [S0]; · iexact S0
    isplitl [S1]; · iexact S1
    isplitl [S2]; · iexact S2
    iintro ⟨H0, H1, H2, H3, H4, H5, H6, H7, H8, H9, H10, H11, ⟨%k0, %hk0, S0⟩, ⟨%k1, %hk1, S1⟩, ⟨%k2, %hk2, S2⟩⟩
    rw [hf0, hf1, hf2, hf3, hf4, hf5, hf6, hf7, hf8, hf9, hf10, hf11] at hk0 hk1 hk2
    isplitl [S0 S1 S2 HR]
    · isplitl [S0]
      · iexists k0; isplitr
        · ipureintro
          exact ⟨kept0_of g0 k0 _ (grid2.coords t2_1) _ (by decide +kernel) hg hk0.2, (ld_keep1 _ (grid2.coords t2_1) _ ![8192, 0] (by decide +kernel) (by decide)).symm.trans hk0.1⟩
        iexact S0
      isplitl [S1]; · rw [show sumB V c = k1 from hk1.symm]; iexact S1
      isplitl [S2]; · rw [show sqB V c = k2 from hk2.symm]; iexact S2
      iexact HR
    isplitl [Howes]; · iexact Howes
    isplitl [H0]
    · iexists f0; isplitr; swap; (· iexact H0); ipureintro; exact hf0
    isplitl [H1]
    · iexists f1; isplitr; swap; (· iexact H1); ipureintro; exact hf1
    isplitl [H2]
    · iexists f2; isplitr; swap; (· iexact H2); ipureintro; exact hf2
    isplitl [H3]
    · iexists f3; isplitr; swap; (· iexact H3); ipureintro; exact hf3
    isplitl [H4]
    · iexists f4; isplitr; swap; (· iexact H4); ipureintro; exact hf4
    isplitl [H5]
    · iexists f5; isplitr; swap; (· iexact H5); ipureintro; exact hf5
    isplitl [H6]
    · iexists f6; isplitr; swap; (· iexact H6); ipureintro; exact hf6
    isplitl [H7]
    · iexists f7; isplitr; swap; (· iexact H7); ipureintro; exact hf7
    isplitl [H8]
    · iexists f8; isplitr; swap; (· iexact H8); ipureintro; exact hf8
    isplitl [H9]
    · iexists f9; isplitr; swap; (· iexact H9); ipureintro; exact hf9
    isplitl [H10]
    · iexists f10; isplitr; swap; (· iexact H10); ipureintro; exact hf10
    isplitl [H11]
    · iexists f11; isplitr; swap; (· iexact H11); ipureintro; exact hf11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    iexists d20; iexact H20
  · rw [show (dat V c).Φ t2_2.castSucc = Φ2 V c from rfl, show (dat V c).Φ t2_2.succ = Φ2 V c from rfl, show idle2 20 (grid2.coords t2_2) = false from by decide +kernel]
    dsimp only
    unfold Φ2
    iintro ⟨⟨⟨%g0, %hg, S0⟩, S1, S2, HR⟩, Howes, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, %f12, %hf12, H12⟩, ⟨%d13, %f13, %hf13, H13⟩, ⟨%d14, %f14, %hf14, H14⟩, ⟨%d15, %f15, %hf15, H15⟩, ⟨%d16, %f16, %hf16, H16⟩, ⟨%d17, %f17, %hf17, H17⟩, ⟨%d18, %f18, %hf18, H18⟩, ⟨%d19, %f19, %hf19, H19⟩, ⟨%d20, %f20, -, H20⟩⟩
    iapply (run_second c (grid2.coords t2_2) (stage2_0 (cfg2.slots t2_2 0)) (hstage2_0 ((cfg2.slots t2_2 0).cast nbuf2_0)) (stage2_1 (cfg2.slots t2_2 1)) (hstage2_1 ((cfg2.slots t2_2 1).cast nbuf2_1)) (stage2_2 (cfg2.slots t2_2 2)) (hstage2_2 ((cfg2.slots t2_2 2).cast nbuf2_2)) (stage2_3 (cfg2.slots t2_2 3)) (hstage2_3 ((cfg2.slots t2_2 3).cast nbuf2_3)) (stage2_4 (cfg2.slots t2_2 4)) (hstage2_4 ((cfg2.slots t2_2 4).cast nbuf2_4)) (stage2_5 (cfg2.slots t2_2 5)) (hstage2_5 ((cfg2.slots t2_2 5).cast nbuf2_5)) (stage2_6 (cfg2.slots t2_2 6)) (hstage2_6 ((cfg2.slots t2_2 6).cast nbuf2_6)) (stage2_7 (cfg2.slots t2_2 7)) (hstage2_7 ((cfg2.slots t2_2 7).cast nbuf2_7)) (stage2_8 (cfg2.slots t2_2 8)) (hstage2_8 ((cfg2.slots t2_2 8).cast nbuf2_8)) (stage2_9 (cfg2.slots t2_2 9)) (hstage2_9 ((cfg2.slots t2_2 9).cast nbuf2_9)) (stage2_10 (cfg2.slots t2_2 10)) (hstage2_10 ((cfg2.slots t2_2 10).cast nbuf2_10)) (stage2_11 (cfg2.slots t2_2 11)) (hstage2_11 ((cfg2.slots t2_2 11).cast nbuf2_11)) (stage2_12 (cfg2.slots t2_2 12)) (hstage2_12 ((cfg2.slots t2_2 12).cast nbuf2_12)) (stage2_13 (cfg2.slots t2_2 13)) (hstage2_13 ((cfg2.slots t2_2 13).cast nbuf2_13)) (stage2_14 (cfg2.slots t2_2 14)) (hstage2_14 ((cfg2.slots t2_2 14).cast nbuf2_14)) (stage2_15 (cfg2.slots t2_2 15)) (hstage2_15 ((cfg2.slots t2_2 15).cast nbuf2_15)) (stage2_16 (cfg2.slots t2_2 16)) (hstage2_16 ((cfg2.slots t2_2 16).cast nbuf2_16)) (stage2_17 (cfg2.slots t2_2 17)) (hstage2_17 ((cfg2.slots t2_2 17).cast nbuf2_17)) (stage2_18 (cfg2.slots t2_2 18)) (hstage2_18 ((cfg2.slots t2_2 18).cast nbuf2_18)) (stage2_19 (cfg2.slots t2_2 19)) (hstage2_19 ((cfg2.slots t2_2 19).cast nbuf2_19)) (stage2_20 (cfg2.slots t2_2 20)) (hstage2_20 ((cfg2.slots t2_2 20).cast nbuf2_20)) (Memref.whole cc2_scratch0) (Memref.isWhole_whole _) (Memref.whole cc2_scratch1) (Memref.isWhole_whole _) (Memref.whole cc2_scratch2) (Memref.isWhole_whole _) (by decide +kernel) (by decide +kernel) f12 f13 f14 f15 f16 f17 f18 f19 f20 g0 (sumB V c) (sqB V c) Set.univ _)
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [S0]; · iexact S0
    isplitl [S1]; · iexact S1
    isplitl [S2]; · iexact S2
    iintro ⟨H12, H13, H14, H15, H16, H17, H18, H19, S0, S1, S2, ⟨%k20, %hk20, H20⟩⟩
    have hb := (ld_keep2 g0 (grid2.coords t2_2) (by decide +kernel) ![0, 0] (by decide +kernel) (by decide)).trans hg.1
    rw [hf12, hf13, hf14, hf15, hf16, hf17, hf18, hf19] at hk20
    isplitl [S0 S1 S2 HR]
    · isplitl [S0]
      · iexists g0; isplitr; swap; (· iexact S0); ipureintro; exact hg
      isplitl [S1]; · iexact S1
      isplitl [S2]; · iexact S2
      iexact HR
    isplitl [Howes]; · iexact Howes
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]
    · iexists f12; isplitr; swap; (· iexact H12); ipureintro; exact hf12
    isplitl [H13]
    · iexists f13; isplitr; swap; (· iexact H13); ipureintro; exact hf13
    isplitl [H14]
    · iexists f14; isplitr; swap; (· iexact H14); ipureintro; exact hf14
    isplitl [H15]
    · iexists f15; isplitr; swap; (· iexact H15); ipureintro; exact hf15
    isplitl [H16]
    · iexists f16; isplitr; swap; (· iexact H16); ipureintro; exact hf16
    isplitl [H17]
    · iexists f17; isplitr; swap; (· iexact H17); ipureintro; exact hf17
    isplitl [H18]
    · iexists f18; isplitr; swap; (· iexact H18); ipureintro; exact hf18
    isplitl [H19]
    · iexists f19; isplitr; swap; (· iexact H19); ipureintro; exact hf19
    iexists k20; isplitr
    · ipureintro
      exact hk20.trans (congrArg (fun A => k2_pay3 (k2_pay10 (sumB V c) (sqB V c) (i12 V c t2_2) (i13 V c t2_2) A (i14 V c t2_2) (i15 V c t2_2) (i16 V c t2_2)) (i17 V c t2_2) (i18 V c t2_2) (i19 V c t2_2)) hb)
    iexact H20
  · rw [show (dat V c).Φ t2_3.castSucc = Φ2 V c from rfl, show (dat V c).Φ t2_3.succ = all c from rfl, show idle2 20 (grid2.coords t2_3) = false from by decide +kernel]
    dsimp only
    rw [all_split]
    unfold Φ2
    iintro ⟨⟨⟨%g0, %hg, S0⟩, S1, S2, HR⟩, Howes, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, %f12, %hf12, H12⟩, ⟨%d13, %f13, %hf13, H13⟩, ⟨%d14, %f14, %hf14, H14⟩, ⟨%d15, %f15, %hf15, H15⟩, ⟨%d16, %f16, %hf16, H16⟩, ⟨%d17, %f17, %hf17, H17⟩, ⟨%d18, %f18, %hf18, H18⟩, ⟨%d19, %f19, %hf19, H19⟩, ⟨%d20, %f20, -, H20⟩⟩
    iapply (run_second c (grid2.coords t2_3) (stage2_0 (cfg2.slots t2_3 0)) (hstage2_0 ((cfg2.slots t2_3 0).cast nbuf2_0)) (stage2_1 (cfg2.slots t2_3 1)) (hstage2_1 ((cfg2.slots t2_3 1).cast nbuf2_1)) (stage2_2 (cfg2.slots t2_3 2)) (hstage2_2 ((cfg2.slots t2_3 2).cast nbuf2_2)) (stage2_3 (cfg2.slots t2_3 3)) (hstage2_3 ((cfg2.slots t2_3 3).cast nbuf2_3)) (stage2_4 (cfg2.slots t2_3 4)) (hstage2_4 ((cfg2.slots t2_3 4).cast nbuf2_4)) (stage2_5 (cfg2.slots t2_3 5)) (hstage2_5 ((cfg2.slots t2_3 5).cast nbuf2_5)) (stage2_6 (cfg2.slots t2_3 6)) (hstage2_6 ((cfg2.slots t2_3 6).cast nbuf2_6)) (stage2_7 (cfg2.slots t2_3 7)) (hstage2_7 ((cfg2.slots t2_3 7).cast nbuf2_7)) (stage2_8 (cfg2.slots t2_3 8)) (hstage2_8 ((cfg2.slots t2_3 8).cast nbuf2_8)) (stage2_9 (cfg2.slots t2_3 9)) (hstage2_9 ((cfg2.slots t2_3 9).cast nbuf2_9)) (stage2_10 (cfg2.slots t2_3 10)) (hstage2_10 ((cfg2.slots t2_3 10).cast nbuf2_10)) (stage2_11 (cfg2.slots t2_3 11)) (hstage2_11 ((cfg2.slots t2_3 11).cast nbuf2_11)) (stage2_12 (cfg2.slots t2_3 12)) (hstage2_12 ((cfg2.slots t2_3 12).cast nbuf2_12)) (stage2_13 (cfg2.slots t2_3 13)) (hstage2_13 ((cfg2.slots t2_3 13).cast nbuf2_13)) (stage2_14 (cfg2.slots t2_3 14)) (hstage2_14 ((cfg2.slots t2_3 14).cast nbuf2_14)) (stage2_15 (cfg2.slots t2_3 15)) (hstage2_15 ((cfg2.slots t2_3 15).cast nbuf2_15)) (stage2_16 (cfg2.slots t2_3 16)) (hstage2_16 ((cfg2.slots t2_3 16).cast nbuf2_16)) (stage2_17 (cfg2.slots t2_3 17)) (hstage2_17 ((cfg2.slots t2_3 17).cast nbuf2_17)) (stage2_18 (cfg2.slots t2_3 18)) (hstage2_18 ((cfg2.slots t2_3 18).cast nbuf2_18)) (stage2_19 (cfg2.slots t2_3 19)) (hstage2_19 ((cfg2.slots t2_3 19).cast nbuf2_19)) (stage2_20 (cfg2.slots t2_3 20)) (hstage2_20 ((cfg2.slots t2_3 20).cast nbuf2_20)) (Memref.whole cc2_scratch0) (Memref.isWhole_whole _) (Memref.whole cc2_scratch1) (Memref.isWhole_whole _) (Memref.whole cc2_scratch2) (Memref.isWhole_whole _) (by decide +kernel) (by decide +kernel) f12 f13 f14 f15 f16 f17 f18 f19 f20 g0 (sumB V c) (sqB V c) Set.univ _)
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [S0]; · iexact S0
    isplitl [S1]; · iexact S1
    isplitl [S2]; · iexact S2
    iintro ⟨H12, H13, H14, H15, H16, H17, H18, H19, S0, S1, S2, ⟨%k20, %hk20, H20⟩⟩
    have hb := (ld_keep2 g0 (grid2.coords t2_3) (by decide +kernel) ![8192, 0] (by decide +kernel) (by decide)).trans hg.2
    rw [hf12, hf13, hf14, hf15, hf16, hf17, hf18, hf19] at hk20
    isplitl [S0 S1 S2 HR]
    · isplitl [S0 S1 S2]
      · isplitl [S0]; · iexists g0; iexact S0
        isplitl [S1]; · iexists _; iexact S1
        iexists _; iexact S2
      iexact HR
    isplitl [Howes]; · iexact Howes
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]
    · iexists f12; isplitr; swap; (· iexact H12); ipureintro; exact hf12
    isplitl [H13]
    · iexists f13; isplitr; swap; (· iexact H13); ipureintro; exact hf13
    isplitl [H14]
    · iexists f14; isplitr; swap; (· iexact H14); ipureintro; exact hf14
    isplitl [H15]
    · iexists f15; isplitr; swap; (· iexact H15); ipureintro; exact hf15
    isplitl [H16]
    · iexists f16; isplitr; swap; (· iexact H16); ipureintro; exact hf16
    isplitl [H17]
    · iexists f17; isplitr; swap; (· iexact H17); ipureintro; exact hf17
    isplitl [H18]
    · iexists f18; isplitr; swap; (· iexact H18); ipureintro; exact hf18
    isplitl [H19]
    · iexists f19; isplitr; swap; (· iexact H19); ipureintro; exact hf19
    iexists k20; isplitr
    · ipureintro
      exact hk20.trans (congrArg (fun A => k2_pay3 (k2_pay10 (sumB V c) (sqB V c) (i12 V c t2_3) (i13 V c t2_3) A (i14 V c t2_3) (i15 V c t2_3) (i16 V c t2_3)) (i17 V c t2_3) (i18 V c t2_3) (i19 V c t2_3)) hb)
    iexact H20

/-- Two halves of a row side by side. -/
def joined (a b : Vec F S1x8192 .f32) : Vec F S1x16384 .f32 := fun y =>
  if h : (y 1 : ℕ) < 8192 then a fun | ⟨0, _⟩ => (0 : Fin 1) | ⟨1, _⟩ => ⟨y 1, h⟩
  else b fun | ⟨0, _⟩ => (0 : Fin 1) | ⟨1, _⟩ => ⟨(y 1 : ℕ) - 8192, by have : (y 1 : ℕ) < 16384 := (y 1).isLt; show (y 1 : ℕ) - 8192 < 8192; omega⟩

/-- The result's array after the region. -/
def result (c : Dev nD) : Vec F S1x16384 .f32 := joined (outAt V c t2_2 (blkAt V c t2_0)) (outAt V c t2_3 (blkAt V c t2_1))

theorem final (c : Dev nD) : (dat V c).arrAt 20 cfg2.N = result V c := by
  refine (dat V c).arrAt_eq_of_covers 20 _ (by decide +kernel) fun t hf y => ?_
  blk_simp
  rcases fin_N2 t with rfl | rfl | rfl | rfl
  · exact absurd hf (by decide +kernel)
  · exact absurd hf (by decide +kernel)
  · have hx : (((win2_20.blk t2_2).view.emb y 1 : Fin _) : ℕ) = y 1 := by
      show win2_20.index t2_2 1 * 8192 + 1 * (y 1 : ℕ) = y 1
      rw [show win2_20.index t2_2 1 = 0 from by decide +kernel]; omega
    have hy : (y 1 : ℕ) < 8192 := (y 1).isLt
    rw [after20]
    unfold result joined
    rw [dif_pos (hx ▸ hy)]
    show outAt V c t2_2 (if t2_2 = t2_2 then blkAt V c t2_0 else blkAt V c t2_1) y = _
    rw [if_pos rfl]
    congr 1
    funext a
    match a with
    | ⟨0, _⟩ => exact Fin.ext (Nat.lt_one_iff.mp (y 0).isLt)
    | ⟨1, _⟩ => exact Fin.ext hx.symm
  · have hx : (((win2_20.blk t2_3).view.emb y 1 : Fin _) : ℕ) = 8192 + y 1 := by
      show win2_20.index t2_3 1 * 8192 + 1 * (y 1 : ℕ) = 8192 + y 1
      rw [show win2_20.index t2_3 1 = 1 from by decide +kernel]; omega
    have hy : (y 1 : ℕ) < 8192 := (y 1).isLt
    rw [after20]
    unfold result joined
    rw [dif_neg (by rw [hx]; omega)]
    show outAt V c t2_3 (if t2_3 = t2_2 then blkAt V c t2_0 else blkAt V c t2_1) y = _
    rw [if_neg (by decide +kernel)]
    congr 1
    funext a
    match a with
    | ⟨0, _⟩ => exact Fin.ext (Nat.lt_one_iff.mp (y 0).isLt)
    | ⟨1, _⟩ => exact Fin.ext (by show (y 1 : ℕ) = (((win2_20.blk t2_3).view.emb y 1 : Fin _) : ℕ) - 8192; rw [hx]; omega)

/-! ## The region over the unscoped buffers -/

variable (adm : (p : Fin 2) → (pcfgs (F := F) p).Adm)

/-- The proof data of the pipelines: this region's, and anything for the other. -/
def pdats : (p : Fin 2) → (c : Dev nD) → Dat τ (Elt F) (HIx 1) ℕ UU ℕ (Pipeline.pin (pcfgs (F := F)) adm p) c
  | ⟨0, _⟩ => fun c => { A := fun _ _ => Classical.arbitrary _, after := fun _ _ _ => Classical.arbitrary _, Φ := fun _ => BI.emp, q := fun _ => fullShare, owed := fun _ => 0 }
  | ⟨1, _⟩ => fun c => dat V c

variable (Vp : (c : Dev nD) → (b : Ref sig .tc) → Buf (Elt F) ((c : Thread nD τ).loc b))

-- the lemmas of the launch are stated over the pinned configuration, so plain definitions in a metavariable's type must be unfolded
set_option maxHeartbeats 1600000 in
set_option backward.isDefEq.respectTransparency.types false in
/-- The region: entered with the unscoped buffers at `V` and nothing owed, left with them at `Vp`, which has the result in
    its array and agrees with `V` elsewhere. -/
def reg (R : Dev nD → sProp 𝕄) (hVp_out : ∀ c, Vp c main_v19 = result V c)
    (hVp_ne : ∀ c (b : Ref sig .tc), b ≠ main_v19 → Vp c b = V c b) :
    Pipeline.RegionSeg (pcfgs (F := F)) adm (pdats V adm) none (defs₀ (F := F)) 𝒱₀ (K (F := F)).L (K (F := F)).lev 1 where
  win := launch2.win.to₀
  block_pos := launch2.block_pos
  stage_whole := launch2.stage_whole
  K := PEmpty
  osem k := k.elim
  ho := Pipeline.OwnSemFacts.none _
  hbody c := (body_obligation V c).loose
  hwaits := Pipeline.hwaits_of_owed_zero _ _ _ _ (K (F := F)).L (K (F := F)).lev 1 fun _ _ => rfl
  pre c := iprop(unscopedBufs c (V c) ∗ R c ∗ ∃ W, ⌜(K (F := F)).WBelow (T c) W 8⌝ ∗ owes (c : Thread nD τ) (0 : CellTallies nD τ sig (HIx 1)) W)
  post c := iprop(unscopedBufs c (Vp c) ∗ R c ∗ ∃ W, ⌜(K (F := F)).WBelow (T c) W 8⌝ ∗ owes (c : Thread nD τ) (0 : CellTallies nD τ sig (HIx 1)) W)
  X _ := BI.emp
  Y _ := BI.emp
  Z c := iprop(Pipeline.unscopedRest (Ix := HIx 1) (Name := ℕ) (U := UU) (Lvl := ℕ) spec2 c (V c) ∗ R c)
  hentry c := by
    rw [Pipeline.ownSems0_none]
    have hsplit := Pipeline.arrays_of_unscopedBufs (p := 1) (pcfgs (F := F)) adm (pdats V adm) launch2.win launch2.arr_whole c
      ((pdats V adm 1 c).share_full fun _ => rfl) (V c) fun _ => rfl
    iintro ⟨⟨Hub, HR, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun p hp => Or.inl (hW p hp)
      iexact HO
    isplitr; · iempintro
    isplitl [Hrest] <;> iassumption
  hin c := by
    rw [show (pdats V adm 1 c).Φ 0 = Pipeline.scopedRest (Ix := HIx 1) (Name := ℕ) (U := UU) (Lvl := ℕ) (Val := Elt F) spec2 c from rfl]
    iintro ⟨-, -, Hr⟩; iexact Hr
  hout c := by
    rw [Pipeline.ownSems0_none, show (pdats V adm 1 c).Φ (Fin.last _) = Pipeline.scopedRest (Ix := HIx 1) (Name := ℕ) (U := UU) (Lvl := ℕ) (Val := Elt F) spec2 c from rfl]
    iintro Hr
    isplitr; · iempintro
    isplitr; · iempintro
    iexact Hr
  hexit c := by
    have hjoin := Pipeline.unscopedBufs_of_arrays (p := 1) (pcfgs (F := F)) adm (Ix := HIx 1) (Name := ℕ) (U := UU) (Lvl := ℕ) launch2.win launch2.arr_whole c
      (pdats V adm) ((pdats V adm 1 c).share_full fun _ => rfl) (V c) (Vp c) ((pdats V adm 1 c).arrAt · cfg2.N)
      (fun w => by
        fin_cases w
        · exact ((pdats V adm 1 c).arrAt_in 0 rfl _).trans (hVp_ne c main_v5 (by decide)).symm
        · exact ((pdats V adm 1 c).arrAt_in 1 rfl _).trans (hVp_ne c main_v2 (by decide)).symm
        · exact ((pdats V adm 1 c).arrAt_in 2 rfl _).trans (hVp_ne c main_v7 (by decide)).symm
        · exact ((pdats V adm 1 c).arrAt_in 3 rfl _).trans (hVp_ne c main_arg3 (by decide)).symm
        · exact ((pdats V adm 1 c).arrAt_in 4 rfl _).trans (hVp_ne c main_v8 (by decide)).symm
        · exact ((pdats V adm 1 c).arrAt_in 5 rfl _).trans (hVp_ne c main_v9 (by decide)).symm
        · exact ((pdats V adm 1 c).arrAt_in 6 rfl _).trans (hVp_ne c main_v10 (by decide)).symm
        · exact ((pdats V adm 1 c).arrAt_in 7 rfl _).trans (hVp_ne c main_arg7 (by decide)).symm
        · exact ((pdats V adm 1 c).arrAt_in 8 rfl _).trans (hVp_ne c main_v11 (by decide)).symm
        · exact ((pdats V adm 1 c).arrAt_in 9 rfl _).trans (hVp_ne c main_v12 (by decide)).symm
        · exact ((pdats V adm 1 c).arrAt_in 10 rfl _).trans (hVp_ne c main_v4 (by decide)).symm
        · exact ((pdats V adm 1 c).arrAt_in 11 rfl _).trans (hVp_ne c main_v13 (by decide)).symm
        · exact ((pdats V adm 1 c).arrAt_in 12 rfl _).trans (hVp_ne c main_v14 (by decide)).symm
        · exact ((pdats V adm 1 c).arrAt_in 13 rfl _).trans (hVp_ne c main_v15 (by decide)).symm
        · exact ((pdats V adm 1 c).arrAt_in 14 rfl _).trans (hVp_ne c main_arg13 (by decide)).symm
        · exact ((pdats V adm 1 c).arrAt_in 15 rfl _).trans (hVp_ne c main_v16 (by decide)).symm
        · exact ((pdats V adm 1 c).arrAt_in 16 rfl _).trans (hVp_ne c main_arg15 (by decide)).symm
        · exact ((pdats V adm 1 c).arrAt_in 17 rfl _).trans (hVp_ne c main_v17 (by decide)).symm
        · exact ((pdats V adm 1 c).arrAt_in 18 rfl _).trans (hVp_ne c main_arg17 (by decide)).symm
        · exact ((pdats V adm 1 c).arrAt_in 19 rfl _).trans (hVp_ne c main_v18 (by decide)).symm
        · exact (final V c).trans (hVp_out c).symm)
      (fun b hb => hVp_ne c b fun h => hb (h ▸ Finset.mem_image.mpr ⟨20, Finset.mem_univ _, rfl⟩))
    iintro ⟨Ha, HO, -, Hrest, HR⟩
    imodintro
    isplitl [Ha Hrest]
    · iapply hjoin; isplitl [Ha] <;> iassumption
    isplitl [HR]; · iexact HR
    unfold Pipeline.Dat.owesAt Pipeline.owesWithin
    icases HO with ⟨%W, %hW, HO⟩; iexists W; isplitr
    · ipureintro
      intro p hp
      rcases hW hp with h | h
      · exact h
      · obtain ⟨w, s, rfl⟩ := h
        exact Nat.zero_le _
    iexact HO

end Cert.Proof.IdealMlp

end
-- ==== Proof.IdealHost.lean ====
/-
  The StableHLO lines of @main as lists of operations, and the contents of the unscoped buffers between its calls.

  @main is four straight lines with three calls between them: the gather on the SparseCores, and two TensorCore kernels.
  `W0 … WD` are the contents of a device's unscoped buffers from the launch to the end, each a function of the launch's
  memory alone.
-/
module

public import proofs.«01_k».proof.Proof.IdealTile
public import proofs.«01_k».proof.Proof.IdealStats
public import proofs.«01_k».proof.Proof.IdealMlp

@[expose] public section

noncomputable section

namespace Cert.Proof.IdealHost

open Cert.KernelIdeal Cert.KernelIdeal.Gen

open Idealize.ShloMosaic
open Idealize.ShloMosaic.TcCoe
open Idealize.SL Idealize.SL.Sem
open Idealize.ShloMosaic.StableHlo (after)
open Idealize.ShloMosaic.SparseCore (T)
open Cert.Proof.IdealTile (tLoc iLoc oLoc ΛP)

variable {F : FTy → Type} [FloatOps F]

/-! ## The straight lines -/

/-- The lines before the SparseCore call: the row numbers as a 128 × 128 array, the table widened to 128 columns. -/
def opsA : List (HloOp τ sig (Elt F)) :=
  [StableHlo.reshape main_arg1 main_v0 (rfl : (.i32 : EltTy) = .i32) shapeCasts_S16384_S128x128,
   StableHlo.nullary main_c (constantI S_ 32 0#32),
   StableHlo.TRef.unary (.of main_c : StableHlo.TRef sig ⟨S_, .i32⟩) main_call0.v0 (sitofp .f32),
   StableHlo.TRef.binary (.of main_arg2 : StableHlo.TRef sig ⟨S1500x64, .f32⟩) main_call0.v0 main_call0.v1 (fun x v => pad S1500x128 ![0, 0] ![0, 64] ![0, 0] x v pads_S1500x64_S1500x128_000_0640 h_S_)]

/-- The lines before the first TensorCore call: the lower half of the third weight, padded; the features transposed. -/
def opsB : List (HloOp τ sig (Elt F)) :=
  [StableHlo.unary main_arg9 main_v3 ((extractStridedSlice S64x128 ![64, 0] · slices_S128x128_S64x128_64_0) : (⟨S128x128, .f32⟩ : BufTy).Contents (Elt F) → (⟨S64x128, .f32⟩ : BufTy).Contents (Elt F)),
   StableHlo.nullary main_c_0 (constantI S_ 32 0#32),
   StableHlo.TRef.unary (.of main_c_0 : StableHlo.TRef sig ⟨S_, .i32⟩) main_call1.v0 (sitofp .f32),
   StableHlo.TRef.binary (.of main_v3 : StableHlo.TRef sig ⟨S64x128, .f32⟩) main_call1.v0 main_call1.v1 (fun x v => pad S128x128 ![0, 0] ![64, 0] ![0, 0] x v pads_S64x128_S128x128_0640_000 h_S_),
   StableHlo.unary main_arg0 main_v5 ((transpose S8x16384 [1, 0] · transposes_S16384x8_S8x16384_1_0) : (⟨S16384x8, .f32⟩ : BufTy).Contents (Elt F) → (⟨S8x16384, .f32⟩ : BufTy).Contents (Elt F)),
   StableHlo.reshape main_arg4 main_v6 (rfl : (.f32 : EltTy) = .f32) shapeCasts_S128_S1x128]

/-- The lines before the second TensorCore call: the vectors as one-row arrays, the upper half of the third weight. -/
def opsC : List (HloOp τ sig (Elt F)) :=
  [StableHlo.reshape main_arg4 main_v8 (rfl : (.f32 : EltTy) = .f32) shapeCasts_S128_S1x128,
   StableHlo.reshape main_arg5 main_v9 (rfl : (.f32 : EltTy) = .f32) shapeCasts_S128_S1x128,
   StableHlo.reshape main_arg6 main_v10 (rfl : (.f32 : EltTy) = .f32) shapeCasts_S128_S1x128,
   StableHlo.reshape main_arg8 main_v11 (rfl : (.f32 : EltTy) = .f32) shapeCasts_S64_S1x64,
   StableHlo.unary main_arg9 main_v12 ((extractStridedSlice S64x128 ![0, 0] · slices_S128x128_S64x128_0_0) : (⟨S128x128, .f32⟩ : BufTy).Contents (Elt F) → (⟨S64x128, .f32⟩ : BufTy).Contents (Elt F)),
   StableHlo.reshape main_arg10 main_v13 (rfl : (.f32 : EltTy) = .f32) shapeCasts_S128_S1x128,
   StableHlo.reshape main_arg11 main_v14 (rfl : (.f32 : EltTy) = .f32) shapeCasts_S128_S1x128,
   StableHlo.reshape main_arg12 main_v15 (rfl : (.f32 : EltTy) = .f32) shapeCasts_S128_S1x128,
   StableHlo.reshape main_arg14 main_v16 (rfl : (.f32 : EltTy) = .f32) shapeCasts_S64_S1x64,
   StableHlo.reshape main_arg16 main_v17 (rfl : (.f32 : EltTy) = .f32) shapeCasts_S32_S1x32,
   StableHlo.reshape main_arg18 main_v18 (rfl : (.f32 : EltTy) = .f32) shapeCasts_S1_S1x1]

/-- The line after the calls: the result row as a column. -/
def opsD : List (HloOp τ sig (Elt F)) :=
  [StableHlo.reshape main_v19 main_v20 (rfl : (.f32 : EltTy) = .f32) shapeCasts_S1x16384_S16384x1]

/-- @main is its straight lines with the three calls between them. -/
theorem main_eq (d : Dev nD) : main (F := F) d =
    (StableHlo.seq opsA >>= fun _ => sc.run d 0 >>= fun _ => StableHlo.seq opsB >>= fun _ =>
      Prog.lift (.customCall (SparseCore.inner (Pipeline.entry 0)) ()) >>= fun _ => StableHlo.seq opsC >>= fun _ =>
      Prog.lift (.customCall (SparseCore.inner (Pipeline.entry 1)) ()) >>= fun _ => StableHlo.seq opsD >>= fun _ => pure ⟨⟩) := by
  rfl

theorem sub_opsA : ∀ op ∈ (opsA : List (HloOp τ sig (Elt F))), op.bufs ⊆ Pipeline.ucRefs τ sig := fun op h =>
  Pipeline.sub_ucRefs op (List.forall_iff_forall_mem.mp
    (show List.Forall (fun op : HloOp τ sig (Elt F) => op.bufs ⊆ StableHlo.tcRefs τ sig) opsA from ⟨StableHlo.reshape_bufs_sub .., StableHlo.nullary_bufs_sub .., StableHlo.unary_bufs_sub .., StableHlo.binary_bufs_sub ..⟩) op h)
theorem sub_opsB : ∀ op ∈ (opsB : List (HloOp τ sig (Elt F))), op.bufs ⊆ Pipeline.ucRefs τ sig := fun op h =>
  Pipeline.sub_ucRefs op (List.forall_iff_forall_mem.mp
    (show List.Forall (fun op : HloOp τ sig (Elt F) => op.bufs ⊆ StableHlo.tcRefs τ sig) opsB from ⟨StableHlo.unary_bufs_sub .., StableHlo.nullary_bufs_sub .., StableHlo.unary_bufs_sub .., StableHlo.binary_bufs_sub .., StableHlo.unary_bufs_sub .., StableHlo.reshape_bufs_sub ..⟩) op h)
theorem sub_opsC : ∀ op ∈ (opsC : List (HloOp τ sig (Elt F))), op.bufs ⊆ Pipeline.ucRefs τ sig := fun op h =>
  Pipeline.sub_ucRefs op (List.forall_iff_forall_mem.mp
    (show List.Forall (fun op : HloOp τ sig (Elt F) => op.bufs ⊆ StableHlo.tcRefs τ sig) opsC from ⟨StableHlo.reshape_bufs_sub .., StableHlo.reshape_bufs_sub .., StableHlo.reshape_bufs_sub .., StableHlo.reshape_bufs_sub .., StableHlo.unary_bufs_sub .., StableHlo.reshape_bufs_sub .., StableHlo.reshape_bufs_sub .., StableHlo.reshape_bufs_sub .., StableHlo.reshape_bufs_sub .., StableHlo.reshape_bufs_sub .., StableHlo.reshape_bufs_sub ..⟩) op h)
theorem sub_opsD : ∀ op ∈ (opsD : List (HloOp τ sig (Elt F))), op.bufs ⊆ Pipeline.ucRefs τ sig := fun op h =>
  Pipeline.sub_ucRefs op (List.forall_iff_forall_mem.mp
    (show List.Forall (fun op : HloOp τ sig (Elt F) => op.bufs ⊆ StableHlo.tcRefs τ sig) opsD from StableHlo.reshape_bufs_sub ..) op h)
theorem fresh_opsA : ∀ op ∈ (opsA : List (HloOp τ sig (Elt F))), op.fresh = ∅ :=
  List.forall_iff_forall_mem.mp (show List.Forall (fun op : HloOp τ sig (Elt F) => op.fresh = ∅) opsA from ⟨rfl, rfl, rfl, rfl⟩)
theorem fresh_opsB : ∀ op ∈ (opsB : List (HloOp τ sig (Elt F))), op.fresh = ∅ :=
  List.forall_iff_forall_mem.mp (show List.Forall (fun op : HloOp τ sig (Elt F) => op.fresh = ∅) opsB from ⟨rfl, rfl, rfl, rfl, rfl, rfl⟩)
theorem fresh_opsC : ∀ op ∈ (opsC : List (HloOp τ sig (Elt F))), op.fresh = ∅ :=
  List.forall_iff_forall_mem.mp (show List.Forall (fun op : HloOp τ sig (Elt F) => op.fresh = ∅) opsC from ⟨rfl, rfl, rfl, rfl, rfl, rfl, rfl, rfl, rfl, rfl, rfl⟩)
theorem fresh_opsD : ∀ op ∈ (opsD : List (HloOp τ sig (Elt F))), op.fresh = ∅ :=
  List.forall_iff_forall_mem.mp (show List.Forall (fun op : HloOp τ sig (Elt F) => op.fresh = ∅) opsD from rfl)

/-! ## The contents between the calls -/

/-- Contents `W` with the buffer `b` at `f`. -/
def upd (W : Valuation τ sig (Elt F)) (b : Ref sig .tc) (f : b.ty.Contents (Elt F)) : Valuation τ sig (Elt F) :=
  Function.update W (Proc.devRef (τ := τ) .tc b) f

theorem upd_self (W : Valuation τ sig (Elt F)) (b : Ref sig .tc) (f : b.ty.Contents (Elt F)) :
    upd W b f (Proc.devRef (τ := τ) .tc b) = f := Function.update_self ..
theorem upd_ne (W : Valuation τ sig (Elt F)) {b b' : Ref sig .tc} (f : b.ty.Contents (Elt F)) (h : b' ≠ b) :
    upd W b f (Proc.devRef (τ := τ) .tc b') = W (Proc.devRef (τ := τ) .tc b') :=
  Function.update_of_ne (fun e => h (Proc.devRef_injective .tc e)) ..

/-- Contents of a device's buffers as the TensorCore names them. -/
abbrev tcv (W : Dev nD → Valuation τ sig (Elt F)) : (c : Dev nD) → (b : Ref sig .tc) → Buf (Elt F) ((c : Thread nD τ).loc b) :=
  fun c b => W c (Proc.devRef (τ := τ) .tc b)

variable (m : (ℓ : Loc nD τ sig) → Buf (Elt F) ℓ)

/-- At the launch. -/
def W0 (d : Dev nD) : Valuation τ sig (Elt F) := fun b => m (d, b)
/-- At the SparseCore call. -/
def WA (d : Dev nD) : Valuation τ sig (Elt F) := after opsA (W0 m d)
/-- The table the gather reads, its row numbers, and what its output array holds before it. -/
def tab (d : Dev nD) : Buf (Elt F) (tLoc d) := WA m d (Proc.devRef (τ := τ) .tc main_v1)
def ids (d : Dev nD) : Buf (Elt F) (iLoc d) := WA m d (Proc.devRef (τ := τ) .tc main_v0)
def o0 (d : Dev nD) : Buf (Elt F) (oLoc d) := WA m d (Proc.devRef (τ := τ) .tc main_v2)
/-- After the SparseCore call. -/
def WA' (d : Dev nD) : Valuation τ sig (Elt F) := upd (WA m d) main_v2 (IdealTile.out (tab m) (ids m) d)
/-- At the first TensorCore call. -/
def WB (d : Dev nD) : Valuation τ sig (Elt F) := after opsB (WA' m d)
/-- After it. -/
def WB' (d : Dev nD) : Valuation τ sig (Elt F) :=
  upd (WB m d) main_v7 (IdealStatsRun.rows2 (IdealStats.sumB (tcv (WB m)) d) (IdealStats.sqB (tcv (WB m)) d))
/-- At the second TensorCore call. -/
def WC (d : Dev nD) : Valuation τ sig (Elt F) := after opsC (WB' m d)
/-- After it. -/
def WC' (d : Dev nD) : Valuation τ sig (Elt F) := upd (WC m d) main_v19 (IdealMlp.result (tcv (WC m)) d)
/-- At the end. -/
def WD (d : Dev nD) : Valuation τ sig (Elt F) := after opsD (WC' m d)

end Cert.Proof.IdealHost

end
-- ==== Proof.IdealRun.lean ====
/-
  The whole program's run: every thread of the mesh from the launch to the end, and what memory holds then.

  From any memory whose row numbers are rows of the table, the program ends with every semaphore at zero and each device's
  unscoped buffers at `WD`.
-/
module

public import proofs.«01_k».proof.Proof.IdealHost

@[expose] public section

noncomputable section

namespace Cert.Proof.IdealRun

open Cert.KernelIdeal Cert.KernelIdeal.Gen

open Idealize.ShloMosaic
open Idealize.ShloMosaic.TcCoe
open Idealize.ShloMosaic.SparseCore (T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.IdealTile (UH UP UU K EH EP D 𝒱 𝒱₀ v₀ P PreOK tLoc iLoc oLoc)
open Cert.Proof.IdealHost

variable {F : FTy → Type} [FloatOps F]

local notation "𝕄" => MT nD τ sig (HIx 1) (Elt F) ℕ UU ℕ

variable (m : (ℓ : Loc nD τ sig) → Buf (Elt F) ℓ) (ρ : Dev nD → PrngReg)

instance EP_landsIn : (EP (F := F) : Emb UP 𝕄).LandsIn (upEmb : UEmb _ 𝕄) := by unfold EP; infer_instance

/-- The kernels' configurations take no run-time parameter. -/
abbrev adm : (p : Fin 2) → (pcfgs (F := F) p).Adm := fun p => (cfgs p).toPCfg_adm

/-! ## The launch element of the certificate's ghost state -/

/-- The handshakes' rounds and the two kernels' staging rounds. -/
noncomputable def u₀ : UU := (initOf (K (F := F)).hsCells (K (F := F)).hsToks,
  (initOf (Pipeline.cells (Pipeline.pin (pcfgs (F := F)) adm) cellOf_inj) (Pipeline.launchToks (Pipeline.pin (pcfgs (F := F)) adm) cellOf_inj), 1))

/-- One kernel's share of the ghost state on a device. -/
abbrev kGhost (d : Dev nD) (p : Fin 2) : sProp 𝕄 :=
  iprop(Pipeline.cellsGhost (Pipeline.pin (pcfgs (F := F)) adm) EP p d ∗ Pipeline.toksInit (Pipeline.pin (pcfgs (F := F)) adm) EP p d)

/-- Both kernels' shares on a device. -/
abbrev G (d : Dev nD) : sProp 𝕄 := iprop(kGhost d 0 ∗ kGhost d 1)

theorem ownU_split (a : UH) (b : UP) : (ownU ((a, (b, 1)) : UU) : sProp 𝕄) ⊢ iprop(BI.own (EH a) ∗ BI.own (EP b)) :=
  BI.own_op_elim ((uEmb (nD := nD) (sig := sig) (Ix := HIx 1) (Val := Elt F) (Name := ℕ) (U := UU) (Lvl := ℕ)).toEmb.op_of_mem
    (Prod.mk_mem_op (URA.mem_op_one a) (URA.mem_one_op (b, (1 : Counters)))))

theorem bigSep_emp' {I : Type} (s : Finset I) : (bigSep s fun _ => iprop(emp)) = (iprop(emp) : sProp 𝕄) := bigSep_emp_const s

theorem kGhost_all :
    (iprop((bigSep Finset.univ fun c : Dev nD => bigSep Finset.univ fun p => Pipeline.cellsGhost (Pipeline.pin (pcfgs (F := F)) adm) EP p c)
      ∗ (bigSep Finset.univ fun c : Dev nD => bigSep Finset.univ fun p => Pipeline.toksInit (Pipeline.pin (pcfgs (F := F)) adm) EP p c)) : sProp 𝕄)
      = bigSep Finset.univ fun d => G d := by
  rw [← bigSep_sep']
  refine bigSep_congr fun d _ => ?_
  rw [← bigSep_sep', show (Finset.univ : Finset (Fin 2)) = {0, 1} from rfl, SparseCore.bigSep_insert' (by decide), bigSep_singleton]

theorem hu₀ (tab : (d : Dev nD) → Buf (Elt F) (tLoc d)) (ids : (d : Dev nD) → Buf (Elt F) (iLoc d)) (o0 : (d : Dev nD) → Buf (Elt F) (oLoc d)) :
    (ownU (u₀ (F := F)) : sProp 𝕄)
    ⊢ |={Set.univ}=> iprop(BI.own (EH (initOf (K (F := F)).hsCells (K (F := F)).hsToks)) ∗ (bigSep Finset.univ fun d : Dev nD => G d)
        ∗ bigSep Finset.univ fun thr : Thread nD τ => bigSep Finset.univ fun q : Fin 1 => (P tab ids o0).x q thr) := by
  unfold u₀
  iintro Hu
  ihave H := (ownU_split _ _) $$ Hu
  icases H with ⟨HH, HP⟩
  imod (Pipeline.fund_ghost (Pipeline.pin (pcfgs (F := F)) adm) EP cellOf_inj) $$ HP with HP
  ihave HG := (Entails.of_eq (kGhost_all (F := F))) $$ HP
  imodintro
  isplitl [HH]; · iexact HH
  isplitl [HG]; · iexact HG
  rw [show (bigSep Finset.univ fun thr : Thread nD τ => bigSep Finset.univ fun q : Fin 1 => (P (F := F) tab ids o0).x q thr) = bigSep Finset.univ fun _ => iprop(emp) from
    bigSep_congr fun _ _ => bigSep_univ_of_subsingleton (0 : Fin 1), bigSep_emp']
  iempintro

/-! ## The SparseCore call over the held buffers -/

/-- The three arrays of the SparseCore call. -/
abbrev three : Finset (DevRef τ sig) :=
  {Proc.devRef (τ := τ) .tc main_v0, Proc.devRef (τ := τ) .tc main_v1, Proc.devRef (τ := τ) .tc main_v2}

theorem three_sub : three ⊆ Pipeline.ucRefs τ sig := by decide

theorem held_three (d : Dev nD) (W : Valuation τ sig (Elt F)) :
    (StableHlo.held (d.tc : Thread nD τ) three W : sProp 𝕄)
      = iprop((iLoc d ↦{fullShare} W (Proc.devRef (τ := τ) .tc main_v0)) ∗ (tLoc d ↦{fullShare} W (Proc.devRef (τ := τ) .tc main_v1))
        ∗ (oLoc d ↦{fullShare} W (Proc.devRef (τ := τ) .tc main_v2))) := by
  unfold StableHlo.held three
  rw [SparseCore.bigSep_insert' (by decide), SparseCore.bigSep_insert' (by decide), bigSep_singleton]

/-- Before the SparseCore call the three arrays are at the launch's contents run through the first lines. -/
theorem held_before (d : Dev nD) :
    (StableHlo.held (d.tc : Thread nD τ) (Pipeline.ucRefs τ sig) (WA m d) : sProp 𝕄)
      = iprop((bigSep Finset.univ fun c : Fin ((K (F := F)).nCore 0) => (P (tab m) (ids m) (o0 m)).st 0 d c)
        ∗ StableHlo.held (d.tc : Thread nD τ) (Pipeline.ucRefs τ sig \ three) (WA m d)) := by
  rw [IdealTile.st0_eq, StableHlo.held_sub_split _ three_sub, held_three]; rfl

/-- After it the output array holds the gathered rows. -/
theorem held_after (d : Dev nD) :
    (StableHlo.held (d.tc : Thread nD τ) (Pipeline.ucRefs τ sig) (WA' m d) : sProp 𝕄)
      = iprop((bigSep Finset.univ fun c : Fin ((K (F := F)).nCore 0) => (P (tab m) (ids m) (o0 m)).dn 0 d c)
        ∗ StableHlo.held (d.tc : Thread nD τ) (Pipeline.ucRefs τ sig \ three) (WA m d)) := by
  have hrest : (StableHlo.held (d.tc : Thread nD τ) (Pipeline.ucRefs τ sig \ three) (WA' m d) : sProp 𝕄)
      = StableHlo.held (d.tc : Thread nD τ) (Pipeline.ucRefs τ sig \ three) (WA m d) :=
    StableHlo.held_congr _ fun b hb => Function.update_of_ne (fun e => (Finset.mem_sdiff.mp hb).2 (by rw [e]; decide)) ..
  rw [IdealTile.dn0_eq, StableHlo.held_sub_split _ three_sub, hrest, held_three]
  unfold WA'
  rw [upd_self, upd_ne _ _ (by decide), upd_ne _ _ (by decide)]; rfl

/-! ## The two TensorCore calls -/

/-- The first TensorCore call's region, from the contents it is reached with. -/
noncomputable abbrev reg0 := IdealStats.reg (tcv (WB m)) adm (tcv (WB' m)) (fun _ => (iprop(emp) : sProp 𝕄))
  (fun c => upd_self _ _ _) (fun c b hb => upd_ne _ _ hb)
/-- The second's. -/
noncomputable abbrev reg1 := IdealMlp.reg (tcv (WC m)) adm (tcv (WC' m)) (fun _ => (iprop(emp) : sProp 𝕄))
  (fun c => upd_self _ _ _) (fun c b hb => upd_ne _ _ hb)

/-- A TensorCore that owes nothing. -/
abbrev idle (d : Dev nD) : sProp 𝕄 :=
  iprop(∃ Wt, ⌜(K (F := F)).WBelow (T d) Wt 8⌝ ∗ owes (d.tc : Thread nD τ) (0 : CellTallies nD τ sig (HIx 1)) Wt)

/-- What a TensorCore holds between two calls: the boundary, its buffers at `W`, and that it owes nothing. -/
abbrev at_ (d : Dev nD) (W : Valuation τ sig (Elt F)) : sProp 𝕄 :=
  iprop(boundary (d.tc : Thread nD τ) ∗ StableHlo.held (d.tc : Thread nD τ) (Pipeline.ucRefs τ sig) W
    ∗ idle d)

/-- The entry and exit of a region, rearranged. -/
theorem enter (d : Dev nD) (H H' L' C' T' Qv : sProp 𝕄) :
    iprop(L' ∗ (C' ∗ T') ∗ (boundary (d.tc : Thread nD τ) ∗ H ∗ idle d)
        ∗ ((boundary (d.tc : Thread nD τ) ∗ H' ∗ idle d) -∗ Qv))
      ⊢ iprop(((boundary (d.tc : Thread nD τ) ∗ H' ∗ emp ∗ idle d) -∗ |={Set.univ}=> Qv)
        ∗ boundary (d.tc : Thread nD τ) ∗ (H ∗ emp ∗ idle d) ∗ L' ∗ C' ∗ T') := by
  iintro ⟨Hl, ⟨Hc, Ht⟩, ⟨Hb, Hh, Ho⟩, Hk⟩
  isplitl [Hk]
  · iintro ⟨Hb, Hh, -, Ho⟩
    imodintro
    iapply Hk
    isplitl [Hb]; · iexact Hb
    isplitl [Hh] <;> iassumption
  isplitl [Hb]; · iexact Hb
  isplitl [Hh Ho]
  · isplitl [Hh]; · iexact Hh
    isplitr; · iempintro
    iexact Ho
  isplitl [Hl]; · iexact Hl
  isplitl [Hc] <;> iassumption

theorem call0 (d : Dev nD) (Q : PUnit → sProp 𝕄) :
    iprop(levAts (K (F := F)).L (K (F := F)).lev ∗ kGhost d 0 ∗ at_ d (WB m d) ∗ (at_ d (WB' m d) -∗ Q ⟨⟩))
      ⊢ wp frame (wpE ((K (F := F)).defs (D (F := F))) 𝒱 (T d) none) Set.univ
          (Prog.lift (.customCall (SparseCore.inner (Pipeline.entry 0)) ())) Q := by
  have e : (Prog.lift (.customCall (SparseCore.inner (Pipeline.entry 0)) ()) : Prog (TpuEff nD τ sig (Elt F) (SparseCore.Sig (IdealTile.ΛP (F := F)) 1) .tc) PUnit)
      = SparseCore.liftProg (.op (.customCall (Pipeline.entry 0) ()) .ret) := rfl
  rw [e]
  refine BI.Entails.trans ?_ ((K (F := F)).wp_liftProg (D (F := F)) 𝒱 (T d) Set.univ none _ Q)
  have hseg := Pipeline.RegionSeg.wp (pcfgs (F := F)) adm (IdealStats.pdats (tcv (WB m)) adm) none cellOf_inj EP (defs₀ (F := F)) 𝒱₀
    (K (F := F)).L (K (F := F)).lev (reg0 m) d none (fun u hu => nomatch hu) .ret Q
  refine BI.Entails.trans ?_ hseg
  have hpre : (reg0 m).pre d = iprop(StableHlo.held (d.tc : Thread nD τ) (Pipeline.ucRefs τ sig) (WB m d) ∗ emp ∗ idle d) := by
    rw [← Pipeline.unscopedBufs_held]; rfl
  have hpost : (reg0 m).post d = iprop(StableHlo.held (d.tc : Thread nD τ) (Pipeline.ucRefs τ sig) (WB' m d) ∗ emp ∗ idle d) := by
    rw [← Pipeline.unscopedBufs_held]; rfl
  rw [hpre, hpost, wp_ret]
  exact enter d _ _ _ _ _ (Q ⟨⟩)

theorem call1 (d : Dev nD) (Q : PUnit → sProp 𝕄) :
    iprop(levAts (K (F := F)).L (K (F := F)).lev ∗ kGhost d 1 ∗ at_ d (WC m d) ∗ (at_ d (WC' m d) -∗ Q ⟨⟩))
      ⊢ wp frame (wpE ((K (F := F)).defs (D (F := F))) 𝒱 (T d) none) Set.univ
          (Prog.lift (.customCall (SparseCore.inner (Pipeline.entry 1)) ())) Q := by
  have e : (Prog.lift (.customCall (SparseCore.inner (Pipeline.entry 1)) ()) : Prog (TpuEff nD τ sig (Elt F) (SparseCore.Sig (IdealTile.ΛP (F := F)) 1) .tc) PUnit)
      = SparseCore.liftProg (.op (.customCall (Pipeline.entry 1) ()) .ret) := rfl
  rw [e]
  refine BI.Entails.trans ?_ ((K (F := F)).wp_liftProg (D (F := F)) 𝒱 (T d) Set.univ none _ Q)
  have hseg := Pipeline.RegionSeg.wp (pcfgs (F := F)) adm (IdealMlp.pdats (tcv (WC m)) adm) none cellOf_inj EP (defs₀ (F := F)) 𝒱₀
    (K (F := F)).L (K (F := F)).lev (reg1 m) d none (fun u hu => nomatch hu) .ret Q
  refine BI.Entails.trans ?_ hseg
  have hpre : (reg1 m).pre d = iprop(StableHlo.held (d.tc : Thread nD τ) (Pipeline.ucRefs τ sig) (WC m d) ∗ emp ∗ idle d) := by
    rw [← Pipeline.unscopedBufs_held]; rfl
  have hpost : (reg1 m).post d = iprop(StableHlo.held (d.tc : Thread nD τ) (Pipeline.ucRefs τ sig) (WC' m d) ∗ emp ∗ idle d) := by
    rw [← Pipeline.unscopedBufs_held]; rfl
  rw [hpre, hpost, wp_ret]
  exact enter d _ _ _ _ _ (Q ⟨⟩)

/-! ## @main on the TensorCore -/

/-- What a TensorCore's state after the SparseCore call is, besides that it owes nothing. -/
abbrev tcRest (d : Dev nD) : sProp 𝕄 :=
  iprop(atPos EH ((K (F := F)).doneCell d) 1 ∅ 0 ∗ reached EH ((K (F := F)).doneCell d) 1
    ∗ (bigSep Finset.univ fun c : Fin τ.nSC => reached EH ((K (F := F)).startCell d c) ((K (F := F)).sRank c 1))
    ∗ bigSep (SparseCore.Cfg.callsFrom 1) fun q => bigSep Finset.univ fun c : Fin ((K (F := F)).nCore q) =>
        iprop(dutyTok EH ((K (F := F)).startCell d ((K (F := F)).core q c)) ((K (F := F)).sRank ((K (F := F)).core q c) q.val) 0
          ∗ cred (tallyAt ((K (F := F)).doneCell d) (some (SparseCore.Cfg.Blocks.last q)) 1)))

theorem tcSt_one (d : Dev nD) : ((K (F := F)).tcSt EH d 1 : sProp 𝕄) = iprop(idle d ∗ tcRest d) := by
  unfold SparseCore.Cfg.tcSt
  rw [(K (F := F)).Otc_end d (le_refl 1)]
  rfl

/-- The programs the TensorCore runs. -/
abbrev TcProg (F : FTy → Type) [FloatOps F] : Type 1 := Prog (TpuEff nD τ sig (Elt F) (SparseCore.Sig (IdealTile.ΛP (F := F)) 1) .tc) PUnit

/-- A straight line at the head of the TensorCore's program. -/
theorem lineStep (d : Dev nD) (ops : List (HloOp τ sig (Elt F))) (hS : ∀ op ∈ ops, op.bufs ⊆ Pipeline.ucRefs τ sig)
    (hf : ∀ op ∈ ops, op.fresh = ∅) (W : Valuation τ sig (Elt F)) (k : PUnit → TcProg F) (R : sProp 𝕄) (Q : PUnit → sProp 𝕄)
    (h : iprop((boundary (d.tc : Thread nD τ) ∗ StableHlo.held (d.tc : Thread nD τ) (Pipeline.ucRefs τ sig) (StableHlo.after ops W)) ∗ R)
      ⊢ wp frame (wpE ((K (F := F)).defs (D (F := F))) 𝒱 (d.tc : Thread nD τ) none) Set.univ (k ⟨⟩) Q) :
    iprop((boundary (d.tc : Thread nD τ) ∗ StableHlo.held (d.tc : Thread nD τ) (Pipeline.ucRefs τ sig) W) ∗ R)
      ⊢ wp frame (wpE ((K (F := F)).defs (D (F := F))) 𝒱 (d.tc : Thread nD τ) none) Set.univ (StableHlo.seq ops >>= k) Q :=
  (BIClass.sep_mono (StableHlo.wp_seq (defs := (K (F := F)).defs (D (F := F))) 𝒱 none Set.univ d (Pipeline.ucRefs τ sig) k ops hS hf W)
    (BIClass.wand_intro (sep_comm.1.trans h))).trans wand_elim_left

/-- A call at the head of the TensorCore's program. -/
theorem callStep (d : Dev nD) (p : TcProg F) (k : PUnit → TcProg F) (X X' R : sProp 𝕄) (Q : PUnit → sProp 𝕄)
    (hp : ∀ Q' : PUnit → sProp 𝕄, iprop(X ∗ (X' -∗ Q' ⟨⟩)) ⊢ wp frame (wpE ((K (F := F)).defs (D (F := F))) 𝒱 (d.tc : Thread nD τ) none) Set.univ p Q')
    (h : iprop(X' ∗ R) ⊢ wp frame (wpE ((K (F := F)).defs (D (F := F))) 𝒱 (d.tc : Thread nD τ) none) Set.univ (k ⟨⟩) Q) :
    iprop(X ∗ R) ⊢ wp frame (wpE ((K (F := F)).defs (D (F := F))) 𝒱 (d.tc : Thread nD τ) none) Set.univ (p >>= k) Q := by
  rw [wp_bind]
  exact (BIClass.sep_mono .rfl (BIClass.wand_intro (sep_comm.1.trans h))).trans
    (hp fun a => wp frame (wpE ((K (F := F)).defs (D (F := F))) 𝒱 (d.tc : Thread nD τ) none) Set.univ (k a) Q)

/-- @main, line by line and call by call. -/
theorem hmain' (κ : GSem nD τ sig → ℕ) (d : Dev nD) (E' : sProp 𝕄) :
    iprop((boundary (d.tc : Thread nD τ) ∗ StableHlo.held (d.tc : Thread nD τ) (Pipeline.ucRefs τ sig) (W0 m d))
        ∗ ((K (F := F)).ctx EH (P (tab m) (ids m) (o0 m)) κ (K (F := F)).lev ∗ levAts (K (F := F)).L (K (F := F)).lev ∗ (K (F := F)).tcSt EH d 0
          ∗ E' ∗ kGhost d 0 ∗ kGhost d 1))
      ⊢ wp frame (wpE ((K (F := F)).defs (D (F := F))) 𝒱 (d.tc : Thread nD τ) none) Set.univ
          (StableHlo.seq opsA >>= fun _ => sc.run d 0 >>= fun _ => StableHlo.seq opsB >>= fun _ =>
            Prog.lift (.customCall (SparseCore.inner (Pipeline.entry 0)) ()) >>= fun _ => StableHlo.seq opsC >>= fun _ =>
            Prog.lift (.customCall (SparseCore.inner (Pipeline.entry 1)) ()) >>= fun _ => StableHlo.seq opsD >>= fun _ => (pure ⟨⟩ : TcProg F))
          fun _ => iprop((K (F := F)).tcSt EH d 1 ∗ StableHlo.held (d.tc : Thread nD τ) (Pipeline.ucRefs τ sig) (WD m d)
            ∗ boundary (d.tc : Thread nD τ) ∗ E') := by
  refine lineStep d opsA sub_opsA fresh_opsA (W0 m d) _ _ _ ?_
  have hin : iprop((boundary (d.tc : Thread nD τ) ∗ StableHlo.held (d.tc : Thread nD τ) (Pipeline.ucRefs τ sig) (WA m d))
        ∗ ((K (F := F)).ctx EH (P (tab m) (ids m) (o0 m)) κ (K (F := F)).lev ∗ levAts (K (F := F)).L (K (F := F)).lev ∗ (K (F := F)).tcSt EH d 0
          ∗ E' ∗ kGhost d 0 ∗ kGhost d 1))
      ⊢ iprop(((K (F := F)).ctx EH (P (tab m) (ids m) (o0 m)) κ (K (F := F)).lev ∗ (K (F := F)).tcSt EH d 0
          ∗ bigSep Finset.univ fun c : Fin ((K (F := F)).nCore 0) => (P (tab m) (ids m) (o0 m)).st 0 d c)
        ∗ (boundary (d.tc : Thread nD τ) ∗ StableHlo.held (d.tc : Thread nD τ) (Pipeline.ucRefs τ sig \ three) (WA m d)
          ∗ levAts (K (F := F)).L (K (F := F)).lev ∗ E' ∗ kGhost d 0 ∗ kGhost d 1)) := by
    rw [held_before]
    iintro ⟨⟨Hb, Hs, Hh⟩, Hctx, Hl, Hst, HE, Hg0, Hg1⟩
    isplitl [Hctx Hst Hs]
    · isplitl [Hctx]; · iexact Hctx
      isplitl [Hst] <;> iassumption
    isplitl [Hb]; · iexact Hb
    isplitl [Hh]; · iexact Hh
    isplitl [Hl]; · iexact Hl
    isplitl [HE]; · iexact HE
    isplitl [Hg0] <;> iassumption
  refine hin.trans (callStep d _ _ _ (iprop((K (F := F)).tcSt EH d 1 ∗ bigSep Finset.univ fun c : Fin ((K (F := F)).nCore 0) => (P (tab m) (ids m) (o0 m)).dn 0 d c)) _ _
    (fun Q' => ?_) ?_)
  · have hr := (K (F := F)).wp_run (D (F := F)) 𝒱 (EH := EH) (P := P (tab m) (ids m) (o0 m)) κ d 0 (lv := (K (F := F)).lev) (Φ := Q')
    refine BIBase.Entails.trans ?_ hr
    iintro ⟨⟨Hctx, Hst, Hs⟩, Hk⟩
    isplitl [Hctx]; · iexact Hctx
    isplitl [Hst]; · iexact Hst
    isplitl [Hs]; · iexact Hs
    iexact Hk
  have hmid : iprop(((K (F := F)).tcSt EH d 1 ∗ bigSep Finset.univ fun c : Fin ((K (F := F)).nCore 0) => (P (tab m) (ids m) (o0 m)).dn 0 d c)
        ∗ (boundary (d.tc : Thread nD τ) ∗ StableHlo.held (d.tc : Thread nD τ) (Pipeline.ucRefs τ sig \ three) (WA m d)
          ∗ levAts (K (F := F)).L (K (F := F)).lev ∗ E' ∗ kGhost d 0 ∗ kGhost d 1))
      ⊢ iprop((boundary (d.tc : Thread nD τ) ∗ StableHlo.held (d.tc : Thread nD τ) (Pipeline.ucRefs τ sig) (WA' m d))
        ∗ (idle d ∗ tcRest d ∗ levAts (K (F := F)).L (K (F := F)).lev ∗ E' ∗ kGhost d 0 ∗ kGhost d 1)) := by
    rw [held_after, tcSt_one]
    iintro ⟨⟨⟨Hi, Hr⟩, Hs⟩, Hb, Hh, Hl, HE, Hg0, Hg1⟩
    isplitl [Hb Hs Hh]
    · isplitl [Hb]; · iexact Hb
      isplitl [Hs] <;> iassumption
    isplitl [Hi]; · iexact Hi
    isplitl [Hr]; · iexact Hr
    isplitl [Hl]; · iexact Hl
    isplitl [HE]; · iexact HE
    isplitl [Hg0] <;> iassumption
  refine hmid.trans (lineStep d opsB sub_opsB fresh_opsB (WA' m d) _ _ _ ?_)
  have h0 : iprop((boundary (d.tc : Thread nD τ) ∗ StableHlo.held (d.tc : Thread nD τ) (Pipeline.ucRefs τ sig) (WB m d))
        ∗ (idle d ∗ tcRest d ∗ levAts (K (F := F)).L (K (F := F)).lev ∗ E' ∗ kGhost d 0 ∗ kGhost d 1))
      ⊢ iprop((levAts (K (F := F)).L (K (F := F)).lev ∗ kGhost d 0 ∗ at_ d (WB m d))
        ∗ (levAts (K (F := F)).L (K (F := F)).lev ∗ tcRest d ∗ E' ∗ kGhost d 1)) := by
    iintro ⟨⟨Hb, Hh⟩, Hi, Hr, #Hl, HE, Hg0, Hg1⟩
    isplitl [Hb Hh Hi Hg0]
    · isplitr; · iexact Hl
      isplitl [Hg0]; · iexact Hg0
      isplitl [Hb]; · iexact Hb
      isplitl [Hh] <;> iassumption
    isplitr; · iexact Hl
    isplitl [Hr]; · iexact Hr
    isplitl [HE] <;> iassumption
  refine h0.trans (callStep d _ _ _ (at_ d (WB' m d)) _ _ (fun Q' => BIBase.Entails.trans ?_ (call0 m d Q')) ?_)
  · iintro ⟨⟨Hl, Hg, Ha⟩, Hk⟩
    isplitl [Hl]; · iexact Hl
    isplitl [Hg]; · iexact Hg
    isplitl [Ha] <;> iassumption
  have h1 : iprop(at_ d (WB' m d) ∗ (levAts (K (F := F)).L (K (F := F)).lev ∗ tcRest d ∗ E' ∗ kGhost d 1))
      ⊢ iprop((boundary (d.tc : Thread nD τ) ∗ StableHlo.held (d.tc : Thread nD τ) (Pipeline.ucRefs τ sig) (WB' m d))
        ∗ (idle d ∗ levAts (K (F := F)).L (K (F := F)).lev ∗ tcRest d ∗ E' ∗ kGhost d 1)) := by
    iintro ⟨⟨Hb, Hh, Hi⟩, Hl, Hr, HE, Hg⟩
    isplitl [Hb Hh]
    · isplitl [Hb] <;> iassumption
    isplitl [Hi]; · iexact Hi
    isplitl [Hl]; · iexact Hl
    isplitl [Hr]; · iexact Hr
    isplitl [HE] <;> iassumption
  refine h1.trans (lineStep d opsC sub_opsC fresh_opsC (WB' m d) _ _ _ ?_)
  have h2 : iprop((boundary (d.tc : Thread nD τ) ∗ StableHlo.held (d.tc : Thread nD τ) (Pipeline.ucRefs τ sig) (WC m d))
        ∗ (idle d ∗ levAts (K (F := F)).L (K (F := F)).lev ∗ tcRest d ∗ E' ∗ kGhost d 1))
      ⊢ iprop((levAts (K (F := F)).L (K (F := F)).lev ∗ kGhost d 1 ∗ at_ d (WC m d)) ∗ (tcRest d ∗ E')) := by
    iintro ⟨⟨Hb, Hh⟩, Hi, Hl, Hr, HE, Hg⟩
    isplitl [Hb Hh Hi Hg Hl]
    · isplitl [Hl]; · iexact Hl
      isplitl [Hg]; · iexact Hg
      isplitl [Hb]; · iexact Hb
      isplitl [Hh] <;> iassumption
    isplitl [Hr] <;> iassumption
  refine h2.trans (callStep d _ _ _ (at_ d (WC' m d)) _ _ (fun Q' => BIBase.Entails.trans ?_ (call1 m d Q')) ?_)
  · iintro ⟨⟨Hl, Hg, Ha⟩, Hk⟩
    isplitl [Hl]; · iexact Hl
    isplitl [Hg]; · iexact Hg
    isplitl [Ha] <;> iassumption
  have h3 : iprop(at_ d (WC' m d) ∗ (tcRest d ∗ E'))
      ⊢ iprop((boundary (d.tc : Thread nD τ) ∗ StableHlo.held (d.tc : Thread nD τ) (Pipeline.ucRefs τ sig) (WC' m d)) ∗ (idle d ∗ tcRest d ∗ E')) := by
    iintro ⟨⟨Hb, Hh, Hi⟩, Hr, HE⟩
    isplitl [Hb Hh]
    · isplitl [Hb] <;> iassumption
    isplitl [Hi]; · iexact Hi
    isplitl [Hr] <;> iassumption
  refine h3.trans (lineStep d opsD sub_opsD fresh_opsD (WC' m d) _ _ _ ?_)
  rw [wp_pure, tcSt_one]
  have h4 : iprop((boundary (d.tc : Thread nD τ) ∗ StableHlo.held (d.tc : Thread nD τ) (Pipeline.ucRefs τ sig) (WD m d)) ∗ (idle d ∗ tcRest d ∗ E'))
      ⊢ |={Set.univ}=> iprop((idle d ∗ tcRest d) ∗ StableHlo.held (d.tc : Thread nD τ) (Pipeline.ucRefs τ sig) (WD m d)
            ∗ boundary (d.tc : Thread nD τ) ∗ E') := by
    iintro ⟨⟨Hb, Hh⟩, Hi, Hr, HE⟩
    imodintro
    isplitl [Hi Hr]
    · isplitl [Hi] <;> iassumption
    isplitl [Hh]; · iexact Hh
    isplitl [Hb] <;> iassumption
  exact h4

/-- @main on device `d`'s TensorCore, from what the launch deals it. -/
theorem hmain (κ : GSem nD τ sig → ℕ) (d : Dev nD) :
    iprop((K (F := F)).ctx EH (P (tab m) (ids m) (o0 m)) κ (K (F := F)).lev ∗ (K (F := F)).tcSt EH d 0 ∗ (K (F := F)).tcRes m ρ d ∗ G d)
      ⊢ wp frame (wpE ((K (F := F)).defs (D (F := F))) 𝒱 (T d) none) Set.univ (main d)
          fun _ => iprop((K (F := F)).tcSt EH d 1 ∗ StableHlo.held (d.tc : Thread nD τ) (Pipeline.ucRefs τ sig) (WD m d) ∗ (K (F := F)).tcEnd d) := by
  have h := hmain' m κ d ((K (F := F)).tcSems0 d)
  have e := main_eq (F := F) d
  have hin : iprop((K (F := F)).ctx EH (P (tab m) (ids m) (o0 m)) κ (K (F := F)).lev ∗ (K (F := F)).tcSt EH d 0 ∗ (K (F := F)).tcRes m ρ d ∗ G d)
      ⊢ iprop((boundary (d.tc : Thread nD τ) ∗ StableHlo.held (d.tc : Thread nD τ) (Pipeline.ucRefs τ sig) (W0 m d))
        ∗ ((K (F := F)).ctx EH (P (tab m) (ids m) (o0 m)) κ (K (F := F)).lev ∗ levAts (K (F := F)).L (K (F := F)).lev ∗ (K (F := F)).tcSt EH d 0
          ∗ (K (F := F)).tcSems0 d ∗ kGhost d 0 ∗ kGhost d 1)) := by
    unfold SparseCore.Cfg.tcRes
    rw [← Pipeline.unscopedBufs_held]
    iintro ⟨#Hctx, Hst, ⟨Hb, Hh, Hts, -⟩, ⟨Hg0, Hg1⟩⟩
    isplitl [Hb Hh]
    · isplitl [Hb]; · iexact Hb
      iexact Hh
    isplitr; · iexact Hctx
    isplitr; · iapply (SparseCore.Cfg.ctx_levAts κ); iexact Hctx
    isplitl [Hst]; · iexact Hst
    isplitl [Hts]; · iexact Hts
    isplitl [Hg0] <;> iassumption
  exact hin.trans (e ▸ h)

/-! ## What the memory holds at the end -/

/-- Every unscoped buffer of a device is at `WD`. -/
def fq (d : Dev nD) (s' : Phys nD τ sig (Elt F)) : Prop := ∀ b ∈ Pipeline.ucRefs τ sig, s'.mem.mem (d, b) = WD m d b

theorem hfin (d : Dev nD) (s' : Phys nD τ sig (Elt F)) :
    iprop(StableHlo.held (d.tc : Thread nD τ) (Pipeline.ucRefs τ sig) (WD m d) ∗ SI s') ⊢ (⌜fq m d s'⌝ : sProp 𝕄) := by
  unfold fq StableHlo.held
  refine BIBase.Entails.trans ?_ pure_forall.2
  refine BIClass.forall_intro fun b => ?_
  refine BIBase.Entails.trans ?_ pure_forall.2
  refine BIClass.forall_intro fun hb => ?_
  have he : (bigSep (Pipeline.ucRefs τ sig) fun b => ((((d.tc : Thread nD τ).1, b) ↦{fullShare} WD m d b) : sProp 𝕄)) ⊢ ((d, b) ↦{fullShare} WD m d b : sProp 𝕄) := bigSep_elim hb
  iintro ⟨Hh, HSI⟩
  ihave H := he $$ Hh
  ihave H := (SI_pointsTo_agree (st := s') (ℓ := (d, b)) (I := Finset.univ) (q := fullShare) (f := WD m d b)) $$ [HSI H]
  · isplitl [HSI] <;> iassumption
  icases H with %h
  ipureintro; exact funext fun i => h i (Finset.mem_univ i)

/-! ## The run -/

def QC : PUnit × MemSt nD τ sig (Elt F) → Prop := fun r => (∀ d : Dev nD, ∀ b ∈ Pipeline.ucRefs τ sig, r.2.mem (d, b) = WD m d b) ∧ r.2.sem = fun _ => 0

/-- From any memory whose row numbers are rows of the table the program ends, every semaphore at zero and every unscoped
    buffer at `WD`. -/
theorem run_main [∀ e, Nonempty (Elt F e)] (hpre : PreOK (F := F) (ids m)) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P (tab m) (ids m) (o0 m)) (A := ∅) IdealTile.facts v₀
    (fun q hq => match q with | 0 => nomatch hq)
    (fun q _ => match q with | 0 => IdealTile.tileObl (tab m) (ids m) (o0 m) IdealTile.facts hpre)
    (fun q _ => match q with | 0 => SparseCore.Cfg.VecSplit.of_plain (IdealTile.vecSplit (tab m) (ids m) (o0 m)))
    m ρ main G (fun d => StableHlo.held (d.tc : Thread nD τ) (Pipeline.ucRefs τ sig) (WD m d)) (u₀ (F := F))
    (sep_elim_left.trans (hu₀ (tab m) (ids m) (o0 m))) (hmain m ρ) (fq m) (hfin m) (QC m) (fun _ h hz => ⟨h, hz⟩)

end Cert.Proof.IdealRun

end
-- ==== Proof.IdealEnd.lean ====
/-
  What the run leaves in memory, read off the contents at the end: the result, and the arguments as they were.
-/
module

public import proofs.«01_k».proof.Proof.IdealRun

@[expose] public section

noncomputable section

namespace Cert.Proof.IdealEnd

open Cert.KernelIdeal Cert.KernelIdeal.Gen

open Idealize.ShloMosaic
open Idealize.ShloMosaic.TcCoe
open Idealize.SL.Sem
open Cert.Proof.IdealHost
open Cert.Proof.IdealTile (PreOK)

variable {F : FTy → Type} [FloatOps F] (m : (ℓ : Loc nD τ sig) → Buf (Elt F) ℓ)

theorem keepA (W : Valuation τ sig (Elt F)) (b : Ref sig .tc) (h : b ∉ [main_v0, main_c, main_call0_v0, main_v1]) :
    StableHlo.after opsA W (Proc.devRef .tc b) = W (Proc.devRef .tc b) :=
  StableHlo.after_of_writes_sub opsA W (StableHlo.forall_writes_sub_of_map rfl) h
theorem keepB (W : Valuation τ sig (Elt F)) (b : Ref sig .tc) (h : b ∉ [main_v3, main_c_0, main_call1_v0, main_v4, main_v5, main_v6]) :
    StableHlo.after opsB W (Proc.devRef .tc b) = W (Proc.devRef .tc b) :=
  StableHlo.after_of_writes_sub opsB W (StableHlo.forall_writes_sub_of_map rfl) h
theorem keepC (W : Valuation τ sig (Elt F)) (b : Ref sig .tc)
    (h : b ∉ [main_v8, main_v9, main_v10, main_v11, main_v12, main_v13, main_v14, main_v15, main_v16, main_v17, main_v18]) :
    StableHlo.after opsC W (Proc.devRef .tc b) = W (Proc.devRef .tc b) :=
  StableHlo.after_of_writes_sub opsC W (StableHlo.forall_writes_sub_of_map rfl) h
theorem keepD (W : Valuation τ sig (Elt F)) (b : Ref sig .tc) (h : b ∉ [main_v20]) :
    StableHlo.after opsD W (Proc.devRef .tc b) = W (Proc.devRef .tc b) :=
  StableHlo.after_of_writes_sub opsD W (StableHlo.forall_writes_sub_of_map rfl) h

/-- Every buffer the program writes outside its kernels' own memory. -/
abbrev written : List (Ref sig .tc) :=
  [main_v0, main_c, main_call0_v0, main_v1, main_v2, main_v3, main_c_0, main_call1_v0, main_v4, main_v5, main_v6, main_v7, main_v8, main_v9, main_v10, main_v11, main_v12, main_v13, main_v14, main_v15, main_v16, main_v17, main_v18, main_v19, main_v20]

/-- An array the program does not write, before the SparseCore call. -/
theorem WA_arg (d : Dev nD) (b : Ref sig .tc) (h : b ∉ written) : WA m d (Proc.devRef .tc b) = m (d, Proc.devRef .tc b) := by
  simp only [List.mem_cons, List.not_mem_nil, or_false, not_or] at h
  exact keepA _ b (by simp [h])
/-- An array the program does not write, at the first TensorCore call. -/
theorem WB_arg (d : Dev nD) (b : Ref sig .tc) (h : b ∉ written) : WB m d (Proc.devRef .tc b) = m (d, Proc.devRef .tc b) := by
  have e := WA_arg m d b h
  simp only [List.mem_cons, List.not_mem_nil, or_false, not_or] at h
  refine (keepB _ b (by simp [h])).trans ((upd_ne _ _ ?_).trans e); simp [h]
/-- An array the program does not write, at the second TensorCore call. -/
theorem WC_arg (d : Dev nD) (b : Ref sig .tc) (h : b ∉ written) : WC m d (Proc.devRef .tc b) = m (d, Proc.devRef .tc b) := by
  have e := WB_arg m d b h
  simp only [List.mem_cons, List.not_mem_nil, or_false, not_or] at h
  refine (keepC _ b (by simp [h])).trans ((upd_ne _ _ ?_).trans e); simp [h]
/-- An array the program does not write, at the end. -/
theorem WD_arg (d : Dev nD) (b : Ref sig .tc) (h : b ∉ written) : WD m d (Proc.devRef .tc b) = m (d, Proc.devRef .tc b) := by
  have e := WC_arg m d b h
  simp only [List.mem_cons, List.not_mem_nil, or_false, not_or] at h
  refine (keepD _ b (by simp [h])).trans ((upd_ne _ _ ?_).trans e); simp [h]

/-- The row numbers the gather reads are the argument's, in rows of 128. -/
theorem ids_eq (d : Dev nD) : ids m d = shapeCast S128x128 (m (d, Proc.devRef (τ := τ) .tc main_arg1)) shapeCasts_S16384_S128x128 := by
  unfold ids WA opsA
  simp
  rfl

/-- Row numbers below 1500 are what the gather asks for. -/
theorem preOK (h : ∀ (d : Dev nD) (i : S16384.Idx), (show BitVec 32 from m (d, Proc.devRef (τ := τ) .tc main_arg1) i).toNat < 1500) :
    PreOK (F := F) (ids m) := fun d j => by
  rw [ids_eq]; exact h d _

/-- The result's contents at the end. -/
abbrev resultAt (d : Dev nD) : Buf (Elt F) ((d.tc : Thread nD τ).loc main_v20) := WD m d (Proc.devRef .tc main_v20)

/-- The program ends with the result at `resultAt`, every argument as it was, and every semaphore at zero. -/
theorem run (ρ : Dev nD → PrngReg) [∀ e, Nonempty (Elt F e)]
    (h : ∀ (d : Dev nD) (i : S16384.Idx), (show BitVec 32 from m (d, Proc.devRef (τ := τ) .tc main_arg1) i).toNat < 1500) :
    θ_run (Cert.KernelIdeal.defs (F := F)) (Cert.KernelIdeal.threads (F := F)) ⟨m, fun _ => 0, ρ⟩ (fun r =>
      (∀ c : Dev nD, r.2.mem ((c.tc : Thread nD τ).loc main_v20) = resultAt m c
        ∧ ∀ b : Ref sig .tc, b ∉ written → Proc.devRef (τ := τ) .tc b ∈ Pipeline.ucRefs τ sig →
            r.2.mem ((c.tc : Thread nD τ).loc b) = m ((c.tc : Thread nD τ).loc b)) ∧ r.2.sem = fun _ => 0) :=
  (θ_run _ _ _).mono (fun r hr => ⟨fun c => ⟨hr.1 c (Proc.devRef (τ := τ) .tc main_v20) (by decide), fun b hb hu => (hr.1 c _ hu).trans (WD_arg m c b hb)⟩, hr.2⟩)
    (IdealRun.run_main m ρ (preOK m h))

/-- Of such a final memory: the nineteen arguments as they were. -/
theorem args {m' : (ℓ : Loc nD τ sig) → Buf (Elt F) ℓ} (c : Dev nD)
    (h : ∀ b : Ref sig .tc, b ∉ written → Proc.devRef (τ := τ) .tc b ∈ Pipeline.ucRefs τ sig →
      m' ((c.tc : Thread nD τ).loc b) = m ((c.tc : Thread nD τ).loc b)) :
    m' ((c.tc : Thread nD τ).loc main_arg0) = m ((c.tc : Thread nD τ).loc main_arg0)
      ∧ m' ((c.tc : Thread nD τ).loc main_arg1) = m ((c.tc : Thread nD τ).loc main_arg1)
      ∧ m' ((c.tc : Thread nD τ).loc main_arg2) = m ((c.tc : Thread nD τ).loc main_arg2)
      ∧ m' ((c.tc : Thread nD τ).loc main_arg3) = m ((c.tc : Thread nD τ).loc main_arg3)
      ∧ m' ((c.tc : Thread nD τ).loc main_arg4) = m ((c.tc : Thread nD τ).loc main_arg4)
      ∧ m' ((c.tc : Thread nD τ).loc main_arg5) = m ((c.tc : Thread nD τ).loc main_arg5)
      ∧ m' ((c.tc : Thread nD τ).loc main_arg6) = m ((c.tc : Thread nD τ).loc main_arg6)
      ∧ m' ((c.tc : Thread nD τ).loc main_arg7) = m ((c.tc : Thread nD τ).loc main_arg7)
      ∧ m' ((c.tc : Thread nD τ).loc main_arg8) = m ((c.tc : Thread nD τ).loc main_arg8)
      ∧ m' ((c.tc : Thread nD τ).loc main_arg9) = m ((c.tc : Thread nD τ).loc main_arg9)
      ∧ m' ((c.tc : Thread nD τ).loc main_arg10) = m ((c.tc : Thread nD τ).loc main_arg10)
      ∧ m' ((c.tc : Thread nD τ).loc main_arg11) = m ((c.tc : Thread nD τ).loc main_arg11)
      ∧ m' ((c.tc : Thread nD τ).loc main_arg12) = m ((c.tc : Thread nD τ).loc main_arg12)
      ∧ m' ((c.tc : Thread nD τ).loc main_arg13) = m ((c.tc : Thread nD τ).loc main_arg13)
      ∧ m' ((c.tc : Thread nD τ).loc main_arg14) = m ((c.tc : Thread nD τ).loc main_arg14)
      ∧ m' ((c.tc : Thread nD τ).loc main_arg15) = m ((c.tc : Thread nD τ).loc main_arg15)
      ∧ m' ((c.tc : Thread nD τ).loc main_arg16) = m ((c.tc : Thread nD τ).loc main_arg16)
      ∧ m' ((c.tc : Thread nD τ).loc main_arg17) = m ((c.tc : Thread nD τ).loc main_arg17)
      ∧ m' ((c.tc : Thread nD τ).loc main_arg18) = m ((c.tc : Thread nD τ).loc main_arg18) :=
  ⟨h main_arg0 (by decide) (by decide), h main_arg1 (by decide) (by decide), h main_arg2 (by decide) (by decide), h main_arg3 (by decide) (by decide), h main_arg4 (by decide) (by decide), h main_arg5 (by decide) (by decide), h main_arg6 (by decide) (by decide), h main_arg7 (by decide) (by decide), h main_arg8 (by decide) (by decide), h main_arg9 (by decide) (by decide), h main_arg10 (by decide) (by decide), h main_arg11 (by decide) (by decide), h main_arg12 (by decide) (by decide), h main_arg13 (by decide) (by decide), h main_arg14 (by decide) (by decide), h main_arg15 (by decide) (by decide), h main_arg16 (by decide) (by decide), h main_arg17 (by decide) (by decide), h main_arg18 (by decide) (by decide)⟩

end Cert.Proof.IdealEnd

end
-- ==== Proof.RefFrame.lean ====
/-
  The reference ends with every semaphore at zero.
-/
module

public import proofs.«01_k».proof.Proof.Gen.ReferenceIdeal.Run
public import Idealize.ShloMosaic.Lib.Quiescent

@[expose] public section

noncomputable section

namespace Cert.Proof.RefFrame

open Cert.ReferenceIdeal Cert.ReferenceIdeal.Gen
open Idealize.ShloMosaic Idealize.ShloMosaic.TcCoe Idealize.SL.Sem

variable {F : FTy → Type} [FloatOps F]

/-- The reference has no semaphore, so every counter reads zero where it ends. -/
theorem quiet {s Q} (h : θ_run (defs (F := F)) (onTc (τ := τ) (main (F := F))) s Q) :
    θ_run (defs (F := F)) (onTc (τ := τ) (main (F := F))) s (fun r => Q r ∧ r.2.sem = fun _ => 0) :=
  (θ_run (defs (F := F)) _ _).mono (fun r h => ⟨h, sem_eq_zero_of_no_sems (by decide) r.2⟩) h

end Cert.Proof.RefFrame

end
-- ==== Proof.Network.lean ====
/-
  The network of the problem, row by row over the extended reals, with the batch normalisation left open; the two ways
  of writing the normalisation; and that they agree where the arrays they read are real.
-/
module

public import Idealize.ShloMosaic.PureOps.Ideal.Laws
public import Mathlib.Data.EReal.Inv

@[expose] public section

noncomputable section

namespace Cert.Proof.Network

open Idealize.ShloMosaic

/-- The number of rows. -/
abbrev N : ℕ := 16384

/-- A rectified affine layer. -/
def layer {n p : ℕ} (w : Fin n → Fin p → EReal) (b : Fin p → EReal) (v : Fin n → EReal) (k : Fin p) : EReal :=
  max (∑ i, v i * w i k + b k) 0

/-- The layer that reads the previous one beside the embedding row. -/
def layer2 {n q p : ℕ} (w : Fin n → Fin p → EReal) (u : Fin q → Fin p → EReal) (b : Fin p → EReal) (v : Fin n → EReal) (e : Fin q → EReal)
    (k : Fin p) : EReal :=
  max (((∑ i, v i * w i k) + ∑ i, e i * u i k) + b k) 0

/-- The printed small number under the square root. -/
abbrev eps : EReal := Ideal.ofBits .f32 0x3727C5AC#32
/-- The printed number of rows. -/
abbrev rows : EReal := Ideal.ofBits .f32 0x46800000#32
/-- The printed reciprocal of the number of rows. -/
abbrev perRow : EReal := Ideal.ofBits .f32 0x38800000#32

/-- A batch mean. -/
def mean (a : Fin N → EReal) : EReal := Ideal.div (∑ r, a r) rows

/-- Normalisation as the problem states it: centred, divided by the deviation, scaled and shifted. -/
def norm (a : Fin N → EReal) (g be : EReal) (r : Fin N) : EReal :=
  Ideal.div (a r - mean a) (Ideal.sqrt (Ideal.div (∑ r, (a r - mean a) * (a r - mean a)) rows + eps)) * g + be

/-- The scale of the normalisation from a sum and a sum of squares. -/
def scaleOf (s q g : EReal) : EReal := g * Ideal.rsqrt (q * perRow - (s * perRow) * (s * perRow) + eps)

/-- Normalisation as one multiplication and one addition, from a sum and a sum of squares. -/
def normOf (s q g be v : EReal) : EReal := v * scaleOf s q g + (be - (s * perRow) * scaleOf s q g)

/-- Normalisation by the batch's own sum and sum of squares. -/
def norm' (a : Fin N → EReal) (g be : EReal) (r : Fin N) : EReal := normOf (∑ r, a r) (∑ r, a r * a r) g be (a r)

/-- The network, row `r`, for a given batch normalisation. -/
def net (bn : (Fin N → EReal) → EReal → EReal → Fin N → EReal) (x : Fin N → Fin 8 → EReal) (emb : Fin N → Fin 64 → EReal)
    (W1 : Fin 8 → Fin 128 → EReal) (b1 g1 be1 : Fin 128 → EReal) (W2 : Fin 128 → Fin 64 → EReal) (b2 : Fin 64 → EReal)
    (W3a W3b : Fin 64 → Fin 128 → EReal) (b3 g2 be2 : Fin 128 → EReal) (W4 : Fin 128 → Fin 64 → EReal) (b4 : Fin 64 → EReal)
    (W5 : Fin 64 → Fin 32 → EReal) (b5 : Fin 32 → EReal) (W6 : Fin 32 → EReal) (b6 : EReal) (r : Fin N) : EReal :=
  let a1 : Fin N → Fin 128 → EReal := fun r => layer W1 b1 (x r)
  let n1 : Fin N → Fin 128 → EReal := fun r k => bn (fun r => a1 r k) (g1 k) (be1 k) r
  let a3 : Fin N → Fin 128 → EReal := fun r => layer2 W3a W3b b3 (layer W2 b2 (n1 r)) (emb r)
  let n2 : Fin 128 → EReal := fun k => bn (fun r => a3 r k) (g2 k) (be2 k) r
  Ideal.logistic (∑ i, layer W5 b5 (layer W4 b4 n2) i * W6 i + b6)

/-- A real number among the extended reals. -/
def IsReal (v : EReal) : Prop := ∃ t : ℝ, v = (t : EReal)

theorem IsReal.add {u v : EReal} : IsReal u → IsReal v → IsReal (u + v) := by rintro ⟨a, rfl⟩ ⟨b, rfl⟩; exact ⟨a + b, by norm_cast⟩
theorem IsReal.sub {u v : EReal} : IsReal u → IsReal v → IsReal (u - v) := by rintro ⟨a, rfl⟩ ⟨b, rfl⟩; exact ⟨a - b, by norm_cast⟩
theorem IsReal.mul {u v : EReal} : IsReal u → IsReal v → IsReal (u * v) := by rintro ⟨a, rfl⟩ ⟨b, rfl⟩; exact ⟨a * b, by norm_cast⟩
theorem IsReal.relu {u : EReal} : IsReal u → IsReal (max u 0) := by
  rintro ⟨a, rfl⟩; exact ⟨max a 0, (EReal.coe_strictMono.monotone.map_max (a := a) (b := 0)).symm⟩

/-- A sum of real numbers. -/
theorem coe_sum {ι : Type} (s : Finset ι) (f : ι → ℝ) : (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

theorem IsReal.sum {ι : Type} [Fintype ι] {f : ι → EReal} (h : ∀ i, IsReal (f i)) : IsReal (∑ i, f i) := by
  choose g hg using h
  exact ⟨∑ i, g i, by rw [← coe_sum]; exact Finset.sum_congr rfl fun i _ => hg i⟩

theorem IsReal.layer {n p : ℕ} {w : Fin n → Fin p → EReal} {b : Fin p → EReal} {v : Fin n → EReal} (hw : ∀ i k, IsReal (w i k))
    (hb : ∀ k, IsReal (b k)) (hv : ∀ i, IsReal (v i)) (k : Fin p) : IsReal (layer w b v k) :=
  ((IsReal.sum fun i => (hv i).mul (hw i k)).add (hb k)).relu

theorem IsReal.layer2 {n q p : ℕ} {w : Fin n → Fin p → EReal} {u : Fin q → Fin p → EReal} {b : Fin p → EReal} {v : Fin n → EReal}
    {e : Fin q → EReal} (hw : ∀ i k, IsReal (w i k)) (hu : ∀ i k, IsReal (u i k)) (hb : ∀ k, IsReal (b k)) (hv : ∀ i, IsReal (v i))
    (he : ∀ i, IsReal (e i)) (k : Fin p) : IsReal (layer2 w u b v e k) :=
  (((IsReal.sum fun i => (hv i).mul (hw i k)).add (IsReal.sum fun i => (he i).mul (hu i k))).add (hb k)).relu

/-! ### The constants -/

theorem rows_eq : rows = ((16384 : ℝ) : EReal) := by
  simp [rows, Ideal.ofBits, Ideal.ieee]; norm_cast; norm_num
theorem perRow_eq : perRow = ((1 / 16384 : ℝ) : EReal) := by
  simp [perRow, Ideal.ofBits, Ideal.ieee]; norm_cast; norm_num
theorem eps_eq : ∃ e : ℝ, 0 < e ∧ eps = (e : EReal) := by
  refine ⟨(2 ^ 23 + 2606508) * 2 ^ (-40 : ℤ), by positivity, ?_⟩
  simp [eps, Ideal.ofBits, Ideal.ieee]; norm_cast

/-! ### The normalisations agree -/

/-- A quotient of real numbers. -/
theorem div_coe (a b : ℝ) (hb : b ≠ 0) : Ideal.div (a : EReal) (b : EReal) = ((a / b : ℝ) : EReal) := by
  rw [Ideal.div, if_neg (by exact_mod_cast hb), div_eq_mul_inv, EReal.coe_mul, EReal.coe_inv]

/-- The mean of the squares less the square of the mean is the mean of the squared differences from it. -/
theorem variance (f : Fin N → ℝ) :
    (∑ r, f r * f r) * (1 / 16384) - ((∑ r, f r) * (1 / 16384)) * ((∑ r, f r) * (1 / 16384))
      = (∑ r, (f r - (∑ r, f r) / 16384) * (f r - (∑ r, f r) / 16384)) / 16384 := by
  set S := ∑ r, f r with hS
  have e : ∀ r, (f r - S / 16384) * (f r - S / 16384) = f r * f r - f r * (2 * (S / 16384)) + (S / 16384) * (S / 16384) := fun r => by ring
  rw [Finset.sum_congr rfl fun r _ => e r, Finset.sum_add_distrib, Finset.sum_sub_distrib, ← Finset.sum_mul, ← hS, Finset.sum_const]
  simp only [Finset.card_univ, Fintype.card_fin, nsmul_eq_mul]
  push_cast
  ring

/-- The two normalisations agree on a real batch with a real scale. -/
theorem norm_eq {a : Fin N → EReal} {g be : EReal} (ha : ∀ r, IsReal (a r)) (hg : IsReal g) (r : Fin N) : norm' a g be r = norm a g be r := by
  choose f hf using ha
  obtain ⟨γ, rfl⟩ := hg
  obtain ⟨e, he, hee⟩ := eps_eq
  obtain rfl : a = fun r => ((f r : ℝ) : EReal) := funext hf
  have hm : mean (fun r => ((f r : ℝ) : EReal)) = (((∑ r, f r) / 16384 : ℝ) : EReal) := by
    rw [mean, rows_eq, coe_sum, div_coe _ _ (by norm_num)]
  have hv : (0 : ℝ) ≤ (∑ r, (f r - (∑ r, f r) / 16384) * (f r - (∑ r, f r) / 16384)) / 16384 :=
    div_nonneg (Finset.sum_nonneg fun r _ => mul_self_nonneg _) (by norm_num)
  have hpos := add_pos_of_nonneg_of_pos hv he
  simp only [norm', normOf, scaleOf, norm, hm]
  rw [perRow_eq, rows_eq, hee, coe_sum]
  simp only [← EReal.coe_mul, ← EReal.coe_sub]
  rw [coe_sum, coe_sum, div_coe _ _ (by norm_num)]
  simp only [← EReal.coe_mul, ← EReal.coe_sub, ← EReal.coe_add]
  rw [variance]
  set v := (∑ r, (f r - (∑ r, f r) / 16384) * (f r - (∑ r, f r) / 16384)) / 16384 + e with hvd
  have h1 : Ideal.rsqrt ((v : ℝ) : EReal) = (((Real.sqrt v)⁻¹ : ℝ) : EReal) := by
    show (if v < 0 then (⊥ : EReal) else if v = 0 then ⊤ else (((Real.sqrt v)⁻¹ : ℝ) : EReal)) = _
    rw [if_neg (not_lt.2 hpos.le), if_neg hpos.ne']
  have h2 : Ideal.sqrt ((v : ℝ) : EReal) = ((Real.sqrt v : ℝ) : EReal) := by
    show (if v < 0 then (⊥ : EReal) else ((Real.sqrt v : ℝ) : EReal)) = _
    rw [if_neg (not_lt.2 hpos.le)]
  rw [h1, h2, div_coe _ _ (Real.sqrt_pos.2 hpos).ne']
  simp only [← EReal.coe_mul]
  rw [sub_eq_add_neg, ← EReal.coe_neg, add_comm be, ← add_assoc, ← EReal.coe_add]
  refine congrArg (fun t : ℝ => (t : EReal) + be) ?_
  clear_value v
  ring

/-- The normalisation of a real batch with a real scale and shift is real. -/
theorem IsReal.norm {a : Fin N → EReal} {g be : EReal} (ha : ∀ r, IsReal (a r)) (hg : IsReal g) (hbe : IsReal be) (r : Fin N) :
    IsReal (norm a g be r) := by
  choose f hf using ha
  obtain ⟨e, he, hee⟩ := eps_eq
  obtain rfl : a = fun r => ((f r : ℝ) : EReal) := funext hf
  have hm : mean (fun r => ((f r : ℝ) : EReal)) = (((∑ r, f r) / 16384 : ℝ) : EReal) := by
    rw [mean, rows_eq, coe_sum, div_coe _ _ (by norm_num)]
  have hv : (0 : ℝ) ≤ (∑ r, (f r - (∑ r, f r) / 16384) * (f r - (∑ r, f r) / 16384)) / 16384 :=
    div_nonneg (Finset.sum_nonneg fun r _ => mul_self_nonneg _) (by norm_num)
  have hpos := add_pos_of_nonneg_of_pos hv he
  simp only [Network.norm, hm]
  rw [rows_eq, hee]
  simp only [← EReal.coe_mul, ← EReal.coe_sub]
  rw [coe_sum, div_coe _ _ (by norm_num), ← EReal.coe_add]
  set v := (∑ r, (f r - (∑ r, f r) / 16384) * (f r - (∑ r, f r) / 16384)) / 16384 + e with hvd
  have h2 : Ideal.sqrt ((v : ℝ) : EReal) = ((Real.sqrt v : ℝ) : EReal) := by
    show (if v < 0 then (⊥ : EReal) else ((Real.sqrt v : ℝ) : EReal)) = _
    rw [if_neg (not_lt.2 hpos.le)]
  rw [h2, div_coe _ _ (Real.sqrt_pos.2 hpos).ne']
  exact (IsReal.mul ⟨_, rfl⟩ hg).add hbe

/-- The network does not depend on how the normalisation is written, where what the two batches are computed from is real. -/
theorem net_eq {x : Fin N → Fin 8 → EReal} {emb : Fin N → Fin 64 → EReal} {W1 : Fin 8 → Fin 128 → EReal} {b1 g1 be1 : Fin 128 → EReal}
    {W2 : Fin 128 → Fin 64 → EReal} {b2 : Fin 64 → EReal} {W3a W3b : Fin 64 → Fin 128 → EReal} {b3 g2 : Fin 128 → EReal}
    (hx : ∀ r i, IsReal (x r i)) (hemb : ∀ r i, IsReal (emb r i)) (hW1 : ∀ i k, IsReal (W1 i k)) (hb1 : ∀ k, IsReal (b1 k))
    (hg1 : ∀ k, IsReal (g1 k)) (hbe1 : ∀ k, IsReal (be1 k)) (hW2 : ∀ i k, IsReal (W2 i k)) (hb2 : ∀ k, IsReal (b2 k))
    (hW3a : ∀ i k, IsReal (W3a i k)) (hW3b : ∀ i k, IsReal (W3b i k)) (hb3 : ∀ k, IsReal (b3 k)) (hg2 : ∀ k, IsReal (g2 k))
    (be2 W4 b4 W5 b5 W6 b6 r) :
    net norm' x emb W1 b1 g1 be1 W2 b2 W3a W3b b3 g2 be2 W4 b4 W5 b5 W6 b6 r
      = net norm x emb W1 b1 g1 be1 W2 b2 W3a W3b b3 g2 be2 W4 b4 W5 b5 W6 b6 r := by
  have h1 : ∀ r k, norm' (fun r => layer W1 b1 (x r) k) (g1 k) (be1 k) r = norm (fun r => layer W1 b1 (x r) k) (g1 k) (be1 k) r :=
    fun r k => norm_eq (fun r => IsReal.layer hW1 hb1 (hx r) k) (hg1 k) r
  have r1 : ∀ r k, IsReal (norm (fun r => layer W1 b1 (x r) k) (g1 k) (be1 k) r) :=
    fun r k => IsReal.norm (fun r => IsReal.layer hW1 hb1 (hx r) k) (hg1 k) (hbe1 k) r
  simp only [net, h1]
  have h2 : ∀ k, norm' (fun r => layer2 W3a W3b b3 (layer W2 b2 fun k => norm (fun r => layer W1 b1 (x r) k) (g1 k) (be1 k) r) (emb r) k) (g2 k) (be2 k) r
      = norm (fun r => layer2 W3a W3b b3 (layer W2 b2 fun k => norm (fun r => layer W1 b1 (x r) k) (g1 k) (be1 k) r) (emb r) k) (g2 k) (be2 k) r :=
    fun k => norm_eq (fun r => IsReal.layer2 hW3a hW3b hb3 (fun j => IsReal.layer hW2 hb2 (r1 r) j) (hemb r) k) (hg2 k) r
  simp only [h2]

end Cert.Proof.Network

end
-- ==== Proof.RefParts.lean ====
/-
  The reference's result as a composition of its parts, each read at an index.
-/
module

public import proofs.«01_k».proof.Proof.Gen.ReferenceIdeal.Run
public import proofs.«01_k».proof.Proof.Network
public import Idealize.ShloMosaic.Lib.Pointwise
public import Idealize.ShloMosaic.Lib.Pointwise.IndexBridge
public import Idealize.ShloMosaic.Lib.Routing.Ops
public import Idealize.ShloMosaic.Lib.ReduceAll
public import Idealize.ShloMosaic.Lib.WordCmp

@[expose] public section

noncomputable section

namespace Cert.Proof.RefParts

open Cert.ReferenceIdeal Cert.ReferenceIdeal.Gen
open Idealize.ShloMosaic Idealize.ShloMosaic.TcCoe

/-- The row numbers in one column, a negative one counted from the end. -/
def column (ids : IVec S16384 32) : IVec S16384x1 32 :=
  broadcastInDim S16384x1 ![0] bcast_S16384_S16384x1_0
    (select (cmpi .slt ids (broadcastInDim S16384 ![] bcast_S_S16384 (constantI S_ 32 0#32)))
      (addi ids (broadcastInDim S16384 ![] bcast_S_S16384 (constantI S_ 32 1500#32))) ids)

/-- Whether a row number names a row of the table. -/
def inside (i : IVec S16384x1 32) : IVec S16384 1 :=
  Host.reduce IntOp.andi
    (andi (cmpi .sge i (broadcastInDim S16384x1 ![] bcast_S_S16384x1 (constantI S_ 32 0#32)))
      (cmpi .sle i (broadcastInDim S16384x1 ![0, 1] bcast_S1x1_S16384x1_0_1 (broadcastInDim S1x1 ![1] bcast_S1_S1x1_1 (constantI S1 32 1499#32)))))
    (constantI S_ 1 1#1) reducesTo_S16384x1_S16384_d1 h_S_

/-- The embedding rows. -/
def take (table : FVec Ideal S1500x64 .f32) (ids : IVec S16384 32) : FVec Ideal S16384x64 .f32 :=
  select (broadcastInDim S16384x64 ![0] bcast_S16384_S16384x64_0 (inside (column ids)))
    (Host.gather gather_S1500x64_S16384x1_S16384x64_1_0_n_n_0_1_164 table (column ids))
    (broadcastInDim S16384x64 ![] bcast_S_S16384x64 (constant S_ .f32 0x7FC00000#32))

/-- The first layer. -/
def dense1 (x : FVec Ideal S16384x8 .f32) (w : FVec Ideal S8x128 .f32) (b : FVec Ideal S128 .f32) : FVec Ideal S16384x128 .f32 :=
  maximumf (addf (Host.dotGeneral dot_S16384x8_S8x128_S16384x128_1_0_0_1_n_n none x w)
      (broadcastInDim S16384x128 ![0, 1] bcast_S1x128_S16384x128_0_1 (broadcastInDim S1x128 ![1] bcast_S128_S1x128_1 b)))
    (broadcastInDim S16384x128 ![] bcast_S_S16384x128 (constant S_ .f32 0x00000000#32))

/-- The batch mean. -/
def mean (a : FVec Ideal S16384x128 .f32) : FVec Ideal S1x128 .f32 :=
  Host.divf (broadcastInDim S1x128 ![1] bcast_S128_S1x128_1 (Host.reduceAdd a (constant S_ .f32 0x00000000#32) reducesTo_S16384x128_S128_d0 h_S_))
    (broadcastInDim S1x128 ![] bcast_S_S1x128 (constant S_ .f32 0x46800000#32))

/-- The batch less its mean. -/
def centred (a : FVec Ideal S16384x128 .f32) : FVec Ideal S16384x128 .f32 :=
  subf a (broadcastInDim S16384x128 ![0, 1] bcast_S1x128_S16384x128_0_1 (mean a))

/-- The number the variance divides by. -/
def count : FVec Ideal S_ .f32 := subf (constant S_ .f32 0x46800000#32) (sitofp .f32 (constantI S_ 32 0#32))

/-- The batch variance. -/
def variance (a : FVec Ideal S16384x128 .f32) : FVec Ideal S1x128 .f32 :=
  select (broadcastInDim S1x128 ![] bcast_S_S1x128 (cmpf .ogt count (constant S_ .f32 0x00000000#32)))
    (Host.divf (broadcastInDim S1x128 ![1] bcast_S128_S1x128_1
        (Host.reduceAdd (mulf (centred a) (centred a)) (constant S_ .f32 0x00000000#32) reducesTo_S16384x128_S128_d0 h_S_))
      (broadcastInDim S1x128 ![] bcast_S_S1x128 count))
    (broadcastInDim S1x128 ![] bcast_S_S1x128 (constant S_ .f32 0x7FC00000#32))

/-- The batch normalisation. -/
def norm (a : FVec Ideal S16384x128 .f32) (g be : FVec Ideal S128 .f32) : FVec Ideal S16384x128 .f32 :=
  addf (mulf (Host.divf (centred a)
      (broadcastInDim S16384x128 ![0, 1] bcast_S1x128_S16384x128_0_1
        (Host.sqrt (addf (variance a) (broadcastInDim S1x128 ![] bcast_S_S1x128 (constant S_ .f32 0x3727C5AC#32))))))
      (broadcastInDim S16384x128 ![0, 1] bcast_S1x128_S16384x128_0_1 (broadcastInDim S1x128 ![1] bcast_S128_S1x128_1 g)))
    (broadcastInDim S16384x128 ![0, 1] bcast_S1x128_S16384x128_0_1 (broadcastInDim S1x128 ![1] bcast_S128_S1x128_1 be))

/-- The second and fourth layer. -/
def dense2 (x : FVec Ideal S16384x128 .f32) (w : FVec Ideal S128x64 .f32) (b : FVec Ideal S64 .f32) : FVec Ideal S16384x64 .f32 :=
  maximumf (addf (Host.dotGeneral dot_S16384x128_S128x64_S16384x64_1_0_0_1_n_n none x w)
      (broadcastInDim S16384x64 ![0, 1] bcast_S1x64_S16384x64_0_1 (broadcastInDim S1x64 ![1] bcast_S64_S1x64_1 b)))
    (broadcastInDim S16384x64 ![] bcast_S_S16384x64 (constant S_ .f32 0x00000000#32))

/-- The third layer, on the second one's result beside the embedding. -/
def dense3 (x e : FVec Ideal S16384x64 .f32) (w : FVec Ideal S128x128 .f32) (b : FVec Ideal S128 .f32) : FVec Ideal S16384x128 .f32 :=
  maximumf (addf (Host.dotGeneral dot_S16384x128_S128x128_S16384x128_1_0_0_1_n_n none
        (concatenate S16384x128 1 [⟨S16384x64, x⟩, ⟨S16384x64, e⟩] concatenates_S16384x64_S16384x64_S16384x128_d1) w)
      (broadcastInDim S16384x128 ![0, 1] bcast_S1x128_S16384x128_0_1 (broadcastInDim S1x128 ![1] bcast_S128_S1x128_1 b)))
    (broadcastInDim S16384x128 ![] bcast_S_S16384x128 (constant S_ .f32 0x00000000#32))

/-- The fifth layer. -/
def dense5 (x : FVec Ideal S16384x64 .f32) (w : FVec Ideal S64x32 .f32) (b : FVec Ideal S32 .f32) : FVec Ideal S16384x32 .f32 :=
  maximumf (addf (Host.dotGeneral dot_S16384x64_S64x32_S16384x32_1_0_0_1_n_n none x w)
      (broadcastInDim S16384x32 ![0, 1] bcast_S1x32_S16384x32_0_1 (broadcastInDim S1x32 ![1] bcast_S32_S1x32_1 b)))
    (broadcastInDim S16384x32 ![] bcast_S_S16384x32 (constant S_ .f32 0x00000000#32))

/-- The last layer and the logistic function. -/
def last (x : FVec Ideal S16384x32 .f32) (w : FVec Ideal S32x1 .f32) (b : FVec Ideal S1 .f32) : FVec Ideal S16384x1 .f32 :=
  Host.divf (broadcastInDim S16384x1 ![] bcast_S_S16384x1 (constant S_ .f32 0x3F800000#32))
    (addf (broadcastInDim S16384x1 ![] bcast_S_S16384x1 (constant S_ .f32 0x3F800000#32))
      (Host.exp (Host.negf (addf (Host.dotGeneral dot_S16384x32_S32x1_S16384x1_1_0_0_1_n_n none x w)
        (broadcastInDim S16384x1 ![0, 1] bcast_S1x1_S16384x1_0_1 (broadcastInDim S1x1 ![1] bcast_S1_S1x1_1 b))))))

/-- The reference's result is the composition of the parts. -/
theorem result_eq (m : (ℓ : Loc nD τ sig) → Buf (Elt Ideal) ℓ) (c : Dev nD) :
    Cert.ReferenceIdeal.Value.res_main_v72 m c
      = last (dense5 (dense2 (norm (dense3 (dense2 (norm (dense1 (m (c.tc.loc main_arg0)) (m (c.tc.loc main_arg3)) (m (c.tc.loc main_arg4)))
            (m (c.tc.loc main_arg5)) (m (c.tc.loc main_arg6))) (m (c.tc.loc main_arg7)) (m (c.tc.loc main_arg8)))
          (take (m (c.tc.loc main_arg2)) (m (c.tc.loc main_arg1))) (m (c.tc.loc main_arg9)) (m (c.tc.loc main_arg10)))
          (m (c.tc.loc main_arg11)) (m (c.tc.loc main_arg12))) (m (c.tc.loc main_arg13)) (m (c.tc.loc main_arg14)))
          (m (c.tc.loc main_arg15)) (m (c.tc.loc main_arg16))) (m (c.tc.loc main_arg17)) (m (c.tc.loc main_arg18)) := by
  unfold Cert.ReferenceIdeal.Value.res_main_v72
  rfl

/-! ### The parts at an index -/

/-- A row number in range is its own column entry. -/
theorem column_apply (ids : IVec S16384 32) (r : Fin 16384) (h : (ids (ix1 r)).toNat < 1500) : column ids (ix2 r 0) = ids (ix1 r) := by
  pointwise [column]
  rw [WordCmp.cmpi_slt_zero, decide_eq_false (by omega)]
  rfl

/-- A row number in range is inside. -/
theorem inside_apply (i : IVec S16384x1 32) (r : Fin 16384) (h : (i (ix2 r 0)).toNat < 1500) : inside i (ix1 r) = 1#1 := by
  pointwise [inside]
  have e : (Finset.univ : Finset (Fin 1)) = {0} := by decide
  rw [e, Finset.fold_singleton, WordCmp.cmpi_sge_zero,
    WordCmp.cmpi_sle_of_lt (y := 1499#32) (lt_trans h (by decide)) (by decide), decide_eq_true (show (i (ix2 r 0)).toNat < 2 ^ (32 - 1) by omega),
    decide_eq_true (show (i (ix2 r 0)).toNat ≤ (1499#32).toNat by simp; omega)]
  rfl

/-- The embedding row of a row number in range. -/
theorem take_apply (table : FVec Ideal S1500x64 .f32) (ids : IVec S16384 32) (r : Fin 16384) (j : Fin 64) (h : (ids (ix1 r)).toNat < 1500) :
    take table ids (ix2 r j) = table (ix2 ⟨(ids (ix1 r)).toNat, h⟩ j) := by
  have hi : inside (column ids) (ix1 r) = 1#1 := inside_apply _ r (by rw [column_apply ids r h]; exact h)
  have hg : Host.gather gather_S1500x64_S16384x1_S16384x64_1_0_n_n_0_1_164 table (column ids) (ix2 r j) = table (ix2 ⟨(ids (ix1 r)).toNat, h⟩ j) := by
    rw [ix2_eq_valueIdx, ix2_eq_valueIdx]
    refine Routing.gather_row _ rfl rfl rfl rfl rfl table (column ids) r j ⟨_, h⟩ ?_ (by decide)
    rw [← ix2_eq_valueIdx, column_apply ids r h]
    simp
  pointwise [take]
  rw [hi, hg]
  rfl

theorem dense1_apply (x w b) (r : Fin 16384) (k : Fin 128) :
    dense1 x w b (ix2 r k) = Network.layer (fun i k => w (ix2 i k)) (fun k => b (ix1 k)) (fun i => x (ix2 r i)) k := by
  pointwise [dense1, Network.layer]
theorem dense2_apply (x w b) (r : Fin 16384) (k : Fin 64) :
    dense2 x w b (ix2 r k) = Network.layer (fun i k => w (ix2 i k)) (fun k => b (ix1 k)) (fun i => x (ix2 r i)) k := by
  pointwise [dense2, Network.layer]
theorem dense5_apply (x w b) (r : Fin 16384) (k : Fin 32) :
    dense5 x w b (ix2 r k) = Network.layer (fun i k => w (ix2 i k)) (fun k => b (ix1 k)) (fun i => x (ix2 r i)) k := by
  pointwise [dense5, Network.layer]
theorem dense3_apply (x e w b) (r : Fin 16384) (k : Fin 128) :
    dense3 x e w b (ix2 r k) = Network.layer2 (fun (i : Fin 64) k => w (ix2 ⟨i.val, by omega⟩ k)) (fun (i : Fin 64) k => w (ix2 ⟨64 + i.val, by omega⟩ k))
      (fun k => b (ix1 k)) (fun i => x (ix2 r i)) (fun i => e (ix2 r i)) k := by
  pointwise [dense3, Network.layer2]
theorem last_apply (x w b) (r : Fin 16384) :
    last x w b (ix2 r 0) = Ideal.logistic (∑ i : Fin 32, x (ix2 r i) * w (ix2 i 0) + b (ix1 0)) := by
  pointwise [last, Ideal.logistic]
theorem mean_apply (a) (k : Fin 128) : mean a (ix2 0 k) = Network.mean fun r => a (ix2 r k) := by
  pointwise [mean, Network.mean]
theorem centred_apply (a) (r : Fin 16384) (k : Fin 128) : centred a (ix2 r k) = a (ix2 r k) - Network.mean fun r => a (ix2 r k) := by
  pointwise [centred, mean_apply]
theorem variance_apply (a) (k : Fin 128) :
    variance a (ix2 0 k) = Ideal.div (∑ r, (a (ix2 r k) - Network.mean fun r => a (ix2 r k)) * (a (ix2 r k) - Network.mean fun r => a (ix2 r k))) Network.rows := by
  pointwise [variance, centred_apply, count]
  have h0 : (FloatOps.sitofp (F := Ideal) .f32 0#32 : EReal) = 0 := by
    show (((0#32 : BitVec 32).toInt : ℝ) : EReal) = 0; simp
  have h1 : (0 : EReal) < Network.rows := by rw [Network.rows_eq]; exact_mod_cast (by norm_num : (0 : ℝ) < 16384)
  rw [h0, sub_zero]
  exact if_pos h1
theorem norm_apply (a g be) (r : Fin 16384) (k : Fin 128) :
    norm a g be (ix2 r k) = Network.norm (fun r => a (ix2 r k)) (g (ix1 k)) (be (ix1 k)) r := by
  pointwise [norm, centred_apply, variance_apply, Network.norm]

end Cert.Proof.RefParts

end
-- ==== Proof.NetworkArgs.lean ====
/-
  The network read off the nineteen argument arrays, and its independence of how the normalisation is written.
-/
module

public import proofs.«01_k».proof.Proof.Network
public import Idealize.ShloMosaic.Lib.Pointwise

@[expose] public section

noncomputable section

namespace Cert.Proof.Network

open Idealize.ShloMosaic

/-- A matrix over the extended reals. -/
abbrev Mat (n p : ℕ) : Type := (⟨2, ![n, p]⟩ : Shape).Idx → EReal
/-- A vector over the extended reals. -/
abbrev Arr (n : ℕ) : Type := (⟨1, ![n]⟩ : Shape).Idx → EReal

/-- The table's row for a row's number. -/
def embRow (table : Mat 1500 64) (ids : (⟨1, ![16384]⟩ : Shape).Idx → BitVec 32) (r : Fin N) (j : Fin 64) : EReal :=
  if h : (ids (ix1 r)).toNat < 1500 then table (ix2 ⟨_, h⟩ j) else 0

theorem embRow_of_lt {table : Mat 1500 64} {ids : (⟨1, ![16384]⟩ : Shape).Idx → BitVec 32} {r : Fin N} (h : (ids (ix1 r)).toNat < 1500) (j : Fin 64) :
    embRow table ids r j = table (ix2 ⟨_, h⟩ j) := dif_pos h

/-- The network's row `r`, of the arguments. -/
def ofArgs (bn : (Fin N → EReal) → EReal → EReal → Fin N → EReal) (x : Mat 16384 8) (ids : (⟨1, ![16384]⟩ : Shape).Idx → BitVec 32) (table : Mat 1500 64)
    (W1 : Mat 8 128) (b1 g1 be1 : Arr 128) (W2 : Mat 128 64) (b2 : Arr 64) (W3 : Mat 128 128) (b3 g2 be2 : Arr 128) (W4 : Mat 128 64) (b4 : Arr 64)
    (W5 : Mat 64 32) (b5 : Arr 32) (W6 : Mat 32 1) (b6 : Arr 1) (r : Fin N) : EReal :=
  net bn (fun r i => x (ix2 r i)) (embRow table ids) (fun i k => W1 (ix2 i k)) (fun k => b1 (ix1 k)) (fun k => g1 (ix1 k)) (fun k => be1 (ix1 k))
    (fun i k => W2 (ix2 i k)) (fun k => b2 (ix1 k)) (fun i k => W3 (ix2 ⟨i.val, by omega⟩ k)) (fun i k => W3 (ix2 ⟨64 + i.val, by omega⟩ k))
    (fun k => b3 (ix1 k)) (fun k => g2 (ix1 k)) (fun k => be2 (ix1 k)) (fun i k => W4 (ix2 i k)) (fun k => b4 (ix1 k)) (fun i k => W5 (ix2 i k))
    (fun k => b5 (ix1 k)) (fun i => W6 (ix2 i 0)) (b6 (ix1 0)) r

/-- With real arrays before the second normalisation the two ways of writing it give one network. -/
theorem ofArgs_eq {x : Mat 16384 8} {ids : (⟨1, ![16384]⟩ : Shape).Idx → BitVec 32} {table : Mat 1500 64}
    {W1 : Mat 8 128} {b1 g1 be1 : Arr 128} {W2 : Mat 128 64} {b2 : Arr 64} {W3 : Mat 128 128} {b3 g2 : Arr 128}
    (hx : ∀ i, IsReal (x i)) (ht : ∀ i, IsReal (table i)) (hW1 : ∀ i, IsReal (W1 i)) (hb1 : ∀ i, IsReal (b1 i)) (hg1 : ∀ i, IsReal (g1 i))
    (hbe1 : ∀ i, IsReal (be1 i)) (hW2 : ∀ i, IsReal (W2 i)) (hb2 : ∀ i, IsReal (b2 i)) (hW3 : ∀ i, IsReal (W3 i)) (hb3 : ∀ i, IsReal (b3 i))
    (hg2 : ∀ i, IsReal (g2 i)) (be2 : Arr 128) (W4 : Mat 128 64) (b4 : Arr 64) (W5 : Mat 64 32) (b5 : Arr 32) (W6 : Mat 32 1) (b6 : Arr 1) (r : Fin N) :
    ofArgs norm' x ids table W1 b1 g1 be1 W2 b2 W3 b3 g2 be2 W4 b4 W5 b5 W6 b6 r
      = ofArgs norm x ids table W1 b1 g1 be1 W2 b2 W3 b3 g2 be2 W4 b4 W5 b5 W6 b6 r :=
  net_eq (fun _ _ => hx _) (fun r j => by
      unfold embRow; split
      · exact ht _
      · exact ⟨0, rfl⟩) (fun _ _ => hW1 _) (fun _ => hb1 _) (fun _ => hg1 _) (fun _ => hbe1 _)
    (fun _ _ => hW2 _) (fun _ => hb2 _) (fun _ _ => hW3 _) (fun _ _ => hW3 _) (fun _ => hb3 _) (fun _ => hg2 _) _ _ _ _ _ _ _ _

end Cert.Proof.Network

end
-- ==== Proof.RefNet.lean ====
/-
  The reference's result is the network of its arguments.
-/
module

public import proofs.«01_k».proof.Proof.RefParts
public import proofs.«01_k».proof.Proof.NetworkArgs

@[expose] public section

noncomputable section

namespace Cert.Proof.RefParts

open Cert.ReferenceIdeal Cert.ReferenceIdeal.Gen
open Idealize.ShloMosaic Idealize.ShloMosaic.TcCoe

/-- With row numbers in range, the reference's result in row `r` is the network's. -/
theorem result_net (m : (ℓ : Loc nD τ sig) → Buf (Elt Ideal) ℓ) (c : Dev nD)
    (h : ∀ i : S16384.Idx, (show BitVec 32 from m (c.tc.loc main_arg1) i).toNat < 1500) (r : Fin 16384) :
    Cert.ReferenceIdeal.Value.res_main_v72 m c (ix2 r 0)
      = Network.ofArgs Network.norm (m (c.tc.loc main_arg0)) (m (c.tc.loc main_arg1)) (m (c.tc.loc main_arg2)) (m (c.tc.loc main_arg3))
          (m (c.tc.loc main_arg4)) (m (c.tc.loc main_arg5)) (m (c.tc.loc main_arg6)) (m (c.tc.loc main_arg7)) (m (c.tc.loc main_arg8))
          (m (c.tc.loc main_arg9)) (m (c.tc.loc main_arg10)) (m (c.tc.loc main_arg11)) (m (c.tc.loc main_arg12)) (m (c.tc.loc main_arg13))
          (m (c.tc.loc main_arg14)) (m (c.tc.loc main_arg15)) (m (c.tc.loc main_arg16)) (m (c.tc.loc main_arg17)) (m (c.tc.loc main_arg18)) r := by
  have he : ∀ r j, take (m (c.tc.loc main_arg2)) (m (c.tc.loc main_arg1)) (ix2 r j) = Network.embRow (m (c.tc.loc main_arg2)) (m (c.tc.loc main_arg1)) r j :=
    fun r j => (take_apply _ _ r j (h _)).trans (Network.embRow_of_lt (h _) j).symm
  rw [result_eq, last_apply]
  simp only [dense5_apply, dense2_apply, norm_apply, dense3_apply, dense1_apply, he]
  rfl

end Cert.Proof.RefParts

end
-- ==== Proof.IdealBlocks.lean ====
/-
  What each window of the TensorCore kernels holds: the whole array, or the rows of one half of the batch.
-/
module

public import proofs.«01_k».proof.Proof.IdealMlp
public import Idealize.ShloMosaic.Lib.Pointwise

@[expose] public section

noncomputable section

namespace Cert.Proof.IdealBlocks

open Cert.KernelIdeal Cert.KernelIdeal.Gen
open Idealize.ShloMosaic Idealize.ShloMosaic.TcCoe

/-- A block at offset zero. -/
theorem at_zero {k : ℕ} (n p : ℕ) (h : k = 0) : k * n + 1 * p = p := by subst h; omega

variable (V : (c : Dev nD) → (b : Ref sig .tc) → Buf (Elt Ideal) ((c : Thread nD τ).loc b)) (c : Dev nD)

/-! ## The windows that hold a whole array -/

theorem wb_eq (t : Fin cfg1.N) : IdealStats.wb V c t = V c main_arg3 :=
  funext fun y => congrArg (V c main_arg3) (funext fun a => Fin.ext (match a with
    | ⟨0, _⟩ => at_zero (k := win1_1.index t 0) 8 (y 0) rfl
    | ⟨1, _⟩ => at_zero (k := win1_1.index t 1) 128 (y 1) rfl))
theorem bb_eq (t : Fin cfg1.N) : IdealStats.bb V c t = V c main_v6 :=
  funext fun y => congrArg (V c main_v6) (funext fun a => Fin.ext (match a with
    | ⟨0, _⟩ => at_zero (k := win1_2.index t 0) 1 (y 0) rfl
    | ⟨1, _⟩ => at_zero (k := win1_2.index t 1) 128 (y 1) rfl))
theorem i2_eq (t : Fin cfg2.N) : IdealMlp.i2 V c t = V c main_v7 :=
  funext fun y => congrArg (V c main_v7) (funext fun a => Fin.ext (match a with
    | ⟨0, _⟩ => at_zero (k := win2_2.index t 0) 2 (y 0) rfl
    | ⟨1, _⟩ => at_zero (k := win2_2.index t 1) 128 (y 1) rfl))
theorem i3_eq (t : Fin cfg2.N) : IdealMlp.i3 V c t = V c main_arg3 :=
  funext fun y => congrArg (V c main_arg3) (funext fun a => Fin.ext (match a with
    | ⟨0, _⟩ => at_zero (k := win2_3.index t 0) 8 (y 0) rfl
    | ⟨1, _⟩ => at_zero (k := win2_3.index t 1) 128 (y 1) rfl))
theorem i4_eq (t : Fin cfg2.N) : IdealMlp.i4 V c t = V c main_v8 :=
  funext fun y => congrArg (V c main_v8) (funext fun a => Fin.ext (match a with
    | ⟨0, _⟩ => at_zero (k := win2_4.index t 0) 1 (y 0) rfl
    | ⟨1, _⟩ => at_zero (k := win2_4.index t 1) 128 (y 1) rfl))
theorem i5_eq (t : Fin cfg2.N) : IdealMlp.i5 V c t = V c main_v9 :=
  funext fun y => congrArg (V c main_v9) (funext fun a => Fin.ext (match a with
    | ⟨0, _⟩ => at_zero (k := win2_5.index t 0) 1 (y 0) rfl
    | ⟨1, _⟩ => at_zero (k := win2_5.index t 1) 128 (y 1) rfl))
theorem i6_eq (t : Fin cfg2.N) : IdealMlp.i6 V c t = V c main_v10 :=
  funext fun y => congrArg (V c main_v10) (funext fun a => Fin.ext (match a with
    | ⟨0, _⟩ => at_zero (k := win2_6.index t 0) 1 (y 0) rfl
    | ⟨1, _⟩ => at_zero (k := win2_6.index t 1) 128 (y 1) rfl))
theorem i7_eq (t : Fin cfg2.N) : IdealMlp.i7 V c t = V c main_arg7 :=
  funext fun y => congrArg (V c main_arg7) (funext fun a => Fin.ext (match a with
    | ⟨0, _⟩ => at_zero (k := win2_7.index t 0) 128 (y 0) rfl
    | ⟨1, _⟩ => at_zero (k := win2_7.index t 1) 64 (y 1) rfl))
theorem i8_eq (t : Fin cfg2.N) : IdealMlp.i8 V c t = V c main_v11 :=
  funext fun y => congrArg (V c main_v11) (funext fun a => Fin.ext (match a with
    | ⟨0, _⟩ => at_zero (k := win2_8.index t 0) 1 (y 0) rfl
    | ⟨1, _⟩ => at_zero (k := win2_8.index t 1) 64 (y 1) rfl))
theorem i9_eq (t : Fin cfg2.N) : IdealMlp.i9 V c t = V c main_v12 :=
  funext fun y => congrArg (V c main_v12) (funext fun a => Fin.ext (match a with
    | ⟨0, _⟩ => at_zero (k := win2_9.index t 0) 64 (y 0) rfl
    | ⟨1, _⟩ => at_zero (k := win2_9.index t 1) 128 (y 1) rfl))
theorem i10_eq (t : Fin cfg2.N) : IdealMlp.i10 V c t = V c main_v4 :=
  funext fun y => congrArg (V c main_v4) (funext fun a => Fin.ext (match a with
    | ⟨0, _⟩ => at_zero (k := win2_10.index t 0) 128 (y 0) rfl
    | ⟨1, _⟩ => at_zero (k := win2_10.index t 1) 128 (y 1) rfl))
theorem i11_eq (t : Fin cfg2.N) : IdealMlp.i11 V c t = V c main_v13 :=
  funext fun y => congrArg (V c main_v13) (funext fun a => Fin.ext (match a with
    | ⟨0, _⟩ => at_zero (k := win2_11.index t 0) 1 (y 0) rfl
    | ⟨1, _⟩ => at_zero (k := win2_11.index t 1) 128 (y 1) rfl))
theorem i12_eq (t : Fin cfg2.N) : IdealMlp.i12 V c t = V c main_v14 :=
  funext fun y => congrArg (V c main_v14) (funext fun a => Fin.ext (match a with
    | ⟨0, _⟩ => at_zero (k := win2_12.index t 0) 1 (y 0) rfl
    | ⟨1, _⟩ => at_zero (k := win2_12.index t 1) 128 (y 1) rfl))
theorem i13_eq (t : Fin cfg2.N) : IdealMlp.i13 V c t = V c main_v15 :=
  funext fun y => congrArg (V c main_v15) (funext fun a => Fin.ext (match a with
    | ⟨0, _⟩ => at_zero (k := win2_13.index t 0) 1 (y 0) rfl
    | ⟨1, _⟩ => at_zero (k := win2_13.index t 1) 128 (y 1) rfl))
theorem i14_eq (t : Fin cfg2.N) : IdealMlp.i14 V c t = V c main_arg13 :=
  funext fun y => congrArg (V c main_arg13) (funext fun a => Fin.ext (match a with
    | ⟨0, _⟩ => at_zero (k := win2_14.index t 0) 128 (y 0) rfl
    | ⟨1, _⟩ => at_zero (k := win2_14.index t 1) 64 (y 1) rfl))
theorem i15_eq (t : Fin cfg2.N) : IdealMlp.i15 V c t = V c main_v16 :=
  funext fun y => congrArg (V c main_v16) (funext fun a => Fin.ext (match a with
    | ⟨0, _⟩ => at_zero (k := win2_15.index t 0) 1 (y 0) rfl
    | ⟨1, _⟩ => at_zero (k := win2_15.index t 1) 64 (y 1) rfl))
theorem i16_eq (t : Fin cfg2.N) : IdealMlp.i16 V c t = V c main_arg15 :=
  funext fun y => congrArg (V c main_arg15) (funext fun a => Fin.ext (match a with
    | ⟨0, _⟩ => at_zero (k := win2_16.index t 0) 64 (y 0) rfl
    | ⟨1, _⟩ => at_zero (k := win2_16.index t 1) 32 (y 1) rfl))
theorem i17_eq (t : Fin cfg2.N) : IdealMlp.i17 V c t = V c main_v17 :=
  funext fun y => congrArg (V c main_v17) (funext fun a => Fin.ext (match a with
    | ⟨0, _⟩ => at_zero (k := win2_17.index t 0) 1 (y 0) rfl
    | ⟨1, _⟩ => at_zero (k := win2_17.index t 1) 32 (y 1) rfl))
theorem i18_eq (t : Fin cfg2.N) : IdealMlp.i18 V c t = V c main_arg17 :=
  funext fun y => congrArg (V c main_arg17) (funext fun a => Fin.ext (match a with
    | ⟨0, _⟩ => at_zero (k := win2_18.index t 0) 32 (y 0) rfl
    | ⟨1, _⟩ => at_zero (k := win2_18.index t 1) 1 (y 1) rfl))
theorem i19_eq (t : Fin cfg2.N) : IdealMlp.i19 V c t = V c main_v18 :=
  funext fun y => congrArg (V c main_v18) (funext fun a => Fin.ext (match a with
    | ⟨0, _⟩ => at_zero (k := win2_19.index t 0) 1 (y 0) rfl
    | ⟨1, _⟩ => at_zero (k := win2_19.index t 1) 1 (y 1) rfl))

/-! ## The windows that hold the rows of one half -/

/-- Row `p` of half `h`. -/
def half (h : Fin 2) (p : Fin 8192) : Fin 16384 := ⟨8192 * h.val + p.val, by omega⟩

theorem half_inj {h h' : Fin 2} {p p' : Fin 8192} (e : half h p = half h' p') : h = h' ∧ p = p' := by
  have := congrArg Fin.val e
  simp only [half] at this
  exact ⟨Fin.ext (by omega), Fin.ext (by omega)⟩

/-- Every row lies in one of the halves. -/
theorem half_surj (r : Fin 16384) : ∃ h p, half h p = r := by
  refine ⟨⟨r.val / 8192, by omega⟩, ⟨r.val % 8192, by omega⟩, Fin.ext ?_⟩
  simp only [half]
  omega

/-- A sum over the batch is the sum over its halves. -/
theorem sum_half (f : Fin 16384 → EReal) : ∑ p, f (half 0 p) + ∑ p, f (half 1 p) = ∑ r, f r := by
  have h := Fin.sum_univ_add (a := 8192) (b := 8192) (f := f)
  rw [h]
  refine congrArg₂ (· + ·) (Finset.sum_congr rfl fun p _ => congrArg f (Fin.ext ?_)) (Finset.sum_congr rfl fun p _ => congrArg f (Fin.ext ?_))
  · simp [half, Nat.add_comm]
  · simp [half, Nat.add_comm]

/-- A block at its own offset. -/
theorem at_block {k h : ℕ} (n p : ℕ) (e : k = h) : k * n + 1 * p = n * h + p := by subst e; ring

theorem xb_of (t : Fin cfg1.N) (h : Fin 2) (e : win1_0.index t 1 = h.val) (e0 : win1_0.index t 0 = 0) (i : Fin 8) (p : Fin 8192) :
    IdealStats.xb V c t (ix2 i p) = V c main_v5 (ix2 i (half h p)) :=
  congrArg (V c main_v5) (funext fun a => Fin.ext (match a with
    | ⟨0, _⟩ => at_zero (k := win1_0.index t 0) 8 i e0
    | ⟨1, _⟩ => at_block (k := win1_0.index t 1) 8192 p e))
theorem i0_of (t : Fin cfg2.N) (h : Fin 2) (e : win2_0.index t 1 = h.val) (e0 : win2_0.index t 0 = 0) (i : Fin 8) (p : Fin 8192) :
    IdealMlp.i0 V c t (ix2 i p) = V c main_v5 (ix2 i (half h p)) :=
  congrArg (V c main_v5) (funext fun a => Fin.ext (match a with
    | ⟨0, _⟩ => at_zero (k := win2_0.index t 0) 8 i e0
    | ⟨1, _⟩ => at_block (k := win2_0.index t 1) 8192 p e))
theorem i1_of (t : Fin cfg2.N) (h : Fin 2) (e : win2_1.index t 0 = h.val) (e0 : win2_1.index t 1 = 0) (p : Fin 8192) (j : Fin 128) :
    IdealMlp.i1 V c t (ix2 p j) = V c main_v2 (ix2 (half h p) j) :=
  congrArg (V c main_v2) (funext fun a => Fin.ext (match a with
    | ⟨0, _⟩ => at_block (k := win2_1.index t 0) 8192 p e
    | ⟨1, _⟩ => at_zero (k := win2_1.index t 1) 128 j e0))

/-- The two blocks of the transposed features in the first kernel. -/
theorem xb_0 (i : Fin 8) (p : Fin 8192) : IdealStats.xb V c t1_0 (ix2 i p) = V c main_v5 (ix2 i (half 0 p)) := xb_of V c _ _ (by decide +kernel) (by decide +kernel) i p
theorem xb_1 (i : Fin 8) (p : Fin 8192) : IdealStats.xb V c t1_1 (ix2 i p) = V c main_v5 (ix2 i (half 1 p)) := xb_of V c _ _ (by decide +kernel) (by decide +kernel) i p
/-- The two blocks of the transposed features in the second kernel. -/
theorem i0_0 (i : Fin 8) (p : Fin 8192) : IdealMlp.i0 V c t2_0 (ix2 i p) = V c main_v5 (ix2 i (half 0 p)) := i0_of V c _ _ (by decide +kernel) (by decide +kernel) i p
theorem i0_1 (i : Fin 8) (p : Fin 8192) : IdealMlp.i0 V c t2_1 (ix2 i p) = V c main_v5 (ix2 i (half 1 p)) := i0_of V c _ _ (by decide +kernel) (by decide +kernel) i p
/-- The two blocks of the embedding rows. -/
theorem i1_0 (p : Fin 8192) (j : Fin 128) : IdealMlp.i1 V c t2_0 (ix2 p j) = V c main_v2 (ix2 (half 0 p) j) := i1_of V c _ _ (by decide +kernel) (by decide +kernel) p j
theorem i1_1 (p : Fin 8192) (j : Fin 128) : IdealMlp.i1 V c t2_1 (ix2 p j) = V c main_v2 (ix2 (half 1 p) j) := i1_of V c _ _ (by decide +kernel) (by decide +kernel) p j

end Cert.Proof.IdealBlocks

end
-- ==== Proof.IdealParts.lean ====
/-
  The kernel's stored expressions over the extended reals, each read at an index.
-/
module

public import proofs.«01_k».proof.Proof.Gen.KernelIdeal.Skeleton
public import proofs.«01_k».proof.Proof.Network
public import Idealize.ShloMosaic.Lib.Pointwise
public import Idealize.ShloMosaic.Lib.Pointwise.IndexBridge

@[expose] public section

noncomputable section

namespace Cert.Proof.IdealParts

open Cert.KernelIdeal Cert.KernelIdeal.Gen
open Idealize.ShloMosaic Idealize.ShloMosaic.TcCoe

/-- The sums start at zero. -/
theorem zero1 (k : Fin 128) : k1_pay1 (F := Ideal) (ix2 0 k) = (0 : EReal) := by pointwise [k1_pay1]
theorem zero2 (k : Fin 128) : k1_pay2 (F := Ideal) (ix2 0 k) = (0 : EReal) := by pointwise [k1_pay2]
theorem zero4 (k : Fin 128) : k2_pay4 (F := Ideal) (ix2 0 k) = (0 : EReal) := by pointwise [k2_pay4]
theorem zero5 (k : Fin 128) : k2_pay5 (F := Ideal) (ix2 0 k) = (0 : EReal) := by pointwise [k2_pay5]

/-- The first layer of a block of transposed features. -/
theorem first (x : Vec Ideal S8x8192 .f32) (w : Vec Ideal S8x128 .f32) (b : Vec Ideal S1x128 .f32) (p : Fin 8192) (k : Fin 128) :
    k1_pay3 (F := Ideal) x w b (ix2 p k) = Network.layer (fun i k => w (ix2 i k)) (fun k => b (ix2 0 k)) (fun i => x (ix2 i p)) k := by
  pointwise [k1_pay3, Network.layer]

/-- Its column sums, added to what was there. -/
theorem firstSum (x : Vec Ideal S8x8192 .f32) (w : Vec Ideal S8x128 .f32) (b a : Vec Ideal S1x128 .f32) (k : Fin 128) :
    k1_pay4 (F := Ideal) x w b a (ix2 0 k) = (a (ix2 0 k) : EReal) + ∑ p : Fin 8192, k1_pay3 (F := Ideal) x w b (ix2 p k) := by
  unfold k1_pay4
  generalize k1_pay3 (F := Ideal) x w b = y
  pointwise []

/-- The column sums of its squares, added to what was there. -/
theorem firstSq (x : Vec Ideal S8x8192 .f32) (w : Vec Ideal S8x128 .f32) (b a : Vec Ideal S1x128 .f32) (k : Fin 128) :
    k1_pay5 (F := Ideal) x w b a (ix2 0 k)
      = (a (ix2 0 k) : EReal) + ∑ p : Fin 8192, k1_pay3 (F := Ideal) x w b (ix2 p k) * k1_pay3 (F := Ideal) x w b (ix2 p k) := by
  unfold k1_pay5
  generalize k1_pay3 (F := Ideal) x w b = y
  pointwise []

/-- The first layer of a block, normalised by given sums. -/
theorem firstNorm (s q g be b : Vec Ideal S1x128 .f32) (x : Vec Ideal S8x8192 .f32) (w : Vec Ideal S8x128 .f32) (p : Fin 8192) (k : Fin 128) :
    k2_pay6 (F := Ideal) s q g be x w b (ix2 p k)
      = Network.normOf (s (ix2 0 k)) (q (ix2 0 k)) (g (ix2 0 k)) (be (ix2 0 k))
          (Network.layer (fun i k => w (ix2 i k)) (fun k => b (ix2 0 k)) (fun i => x (ix2 i p)) k) := by
  pointwise [k2_pay6, Network.layer, Network.normOf, Network.scaleOf]

/-- The second and third layer of a block, with its embedding rows. -/
theorem third (v : FVec Ideal S8192x128 .f32) (w2 : Vec Ideal S128x64 .f32) (b2 : Vec Ideal S1x64 .f32) (w3 : Vec Ideal S64x128 .f32)
    (e : Vec Ideal S8192x128 .f32) (u : Vec Ideal S128x128 .f32) (b3 : Vec Ideal S1x128 .f32) (p : Fin 8192) (k : Fin 128) :
    k2_pay7 (F := Ideal) v w2 b2 w3 e u b3 (ix2 p k)
      = Network.layer2 (fun i k => w3 (ix2 i k)) (fun i k => u (ix2 i k)) (fun k => b3 (ix2 0 k))
          (Network.layer (fun i k => w2 (ix2 i k)) (fun k => b2 (ix2 0 k)) (fun i => v (ix2 p i))) (fun i => e (ix2 p i)) k := by
  pointwise [k2_pay7, Network.layer, Network.layer2]

/-- The same, as it is kept. -/
theorem thirdKept (v : FVec Ideal S8192x128 .f32) (w2 : Vec Ideal S128x64 .f32) (b2 : Vec Ideal S1x64 .f32) (w3 : Vec Ideal S64x128 .f32)
    (e : Vec Ideal S8192x128 .f32) (u : Vec Ideal S128x128 .f32) (b3 : Vec Ideal S1x128 .f32) (p : Fin 8192) (k : Fin 128) :
    k2_pay8 (F := Ideal) v w2 b2 w3 e u b3 (ix2 p k) = k2_pay7 (F := Ideal) v w2 b2 w3 e u b3 (ix2 p k) := by
  unfold k2_pay8
  generalize k2_pay7 (F := Ideal) v w2 b2 w3 e u b3 = y
  pointwise []

/-- Its column sums, added to what was there. -/
theorem thirdSum (v : FVec Ideal S8192x128 .f32) (w2 : Vec Ideal S128x64 .f32) (b2 : Vec Ideal S1x64 .f32) (w3 : Vec Ideal S64x128 .f32)
    (e : Vec Ideal S8192x128 .f32) (u : Vec Ideal S128x128 .f32) (b3 a : Vec Ideal S1x128 .f32) (k : Fin 128) :
    k2_pay1 (k2_pay9 (F := Ideal) v w2 b2 w3 e u b3 a) (ix2 0 k)
      = (a (ix2 0 k) : EReal) + ∑ p : Fin 8192, k2_pay7 (F := Ideal) v w2 b2 w3 e u b3 (ix2 p k) := by
  unfold k2_pay9 k2_pay1
  generalize k2_pay7 (F := Ideal) v w2 b2 w3 e u b3 = y
  pointwise []

/-- The column sums of a block's squares, added to what was there. -/
theorem thirdSq (y : FVec Ideal S8192x128 .f32) (a : Vec Ideal S1x128 .f32) (k : Fin 128) :
    k2_pay2 (F := Ideal) y a (ix2 0 k) = (a (ix2 0 k) : EReal) + ∑ p : Fin 8192, y (ix2 p k) * y (ix2 p k) := by
  pointwise [k2_pay2]

/-- The normalised block through the fourth layer, times the fifth weight. -/
theorem fifth (s q g be : Vec Ideal S1x128 .f32) (y : Vec Ideal S8192x128 .f32) (w4 : Vec Ideal S128x64 .f32) (b4 : Vec Ideal S1x64 .f32)
    (w5 : Vec Ideal S64x32 .f32) (p : Fin 8192) (k : Fin 32) :
    k2_pay10 (F := Ideal) s q g be y w4 b4 w5 (ix2 p k)
      = ∑ i : Fin 64, Network.layer (fun i k => w4 (ix2 i k)) (fun k => b4 (ix2 0 k))
          (fun k => Network.normOf (s (ix2 0 k)) (q (ix2 0 k)) (g (ix2 0 k)) (be (ix2 0 k)) (y (ix2 p k))) i * w5 (ix2 i k) := by
  pointwise [k2_pay10, Network.layer, Network.normOf, Network.scaleOf]

/-- The rest of the fifth layer, the last weight and the logistic curve. -/
theorem last (z : FVec Ideal S8192x32 .f32) (b5 : Vec Ideal S1x32 .f32) (w6 : Vec Ideal S32x1 .f32) (b6 : Vec Ideal S1x1 .f32) (p : Fin 8192) :
    k2_pay3 (F := Ideal) z b5 w6 b6 (ix2 0 p)
      = Ideal.logistic (∑ i : Fin 32, w6 (ix2 i 0) * max (z (ix2 p i) + b5 (ix2 0 i)) 0 + b6 (ix2 0 0)) := by
  pointwise [k2_pay3, Ideal.logistic]

end Cert.Proof.IdealParts

end
-- ==== Proof.IdealNet.lean ====
/-
  What the TensorCore kernels leave, as the network of the arrays they are entered with.
-/
module

public import proofs.«01_k».proof.Proof.IdealBlocks
public import proofs.«01_k».proof.Proof.IdealParts

@[expose] public section

noncomputable section

namespace Cert.Proof.IdealNet

open Cert.KernelIdeal Cert.KernelIdeal.Gen
open Idealize.ShloMosaic Idealize.ShloMosaic.TcCoe
open Cert.Proof.IdealBlocks (half half_surj sum_half)
open Cert.Proof.IdealStatsRun (rows2 ld_rows2_0 ld_rows2_1)

variable (V : (c : Dev nD) → (b : Ref sig .tc) → Buf (Elt Ideal) ((c : Thread nD τ).loc b)) (c : Dev nD)

/-! ## The first kernel: sums of the first layer -/

/-- The first layer of row `r`, with the bias in array `b`. -/
def layerOne (x : Vec Ideal S8x16384 .f32) (w : Vec Ideal S8x128 .f32) (b : Vec Ideal S1x128 .f32) (r : Fin 16384) (k : Fin 128) : EReal :=
  Network.layer (fun i k => w (ix2 i k)) (fun k => b (ix2 0 k)) (fun i => x (ix2 i r)) k

theorem first_0 (p : Fin 8192) (k : Fin 128) :
    k1_pay3 (F := Ideal) (IdealStats.xb V c t1_0) (IdealStats.wb V c t1_0) (IdealStats.bb V c t1_0) (ix2 p k)
      = layerOne (V c main_v5) (V c main_arg3) (V c main_v6) (half 0 p) k := by
  rw [IdealBlocks.wb_eq, IdealBlocks.bb_eq, IdealParts.first]
  unfold layerOne
  refine congrArg (Network.layer _ _ · k) (funext fun i => IdealBlocks.xb_0 V c i p)
theorem first_1 (p : Fin 8192) (k : Fin 128) :
    k1_pay3 (F := Ideal) (IdealStats.xb V c t1_1) (IdealStats.wb V c t1_1) (IdealStats.bb V c t1_1) (ix2 p k)
      = layerOne (V c main_v5) (V c main_arg3) (V c main_v6) (half 1 p) k := by
  rw [IdealBlocks.wb_eq, IdealBlocks.bb_eq, IdealParts.first]
  unfold layerOne
  refine congrArg (Network.layer _ _ · k) (funext fun i => IdealBlocks.xb_1 V c i p)

/-- The first accumulated row is the batch's sum of the first layer. -/
theorem stats_sum (k : Fin 128) :
    IdealStats.sumB V c (ix2 0 k) = ∑ r, layerOne (V c main_v5) (V c main_arg3) (V c main_v6) r k := by
  unfold IdealStats.sumB IdealStats.sumA
  rw [IdealParts.firstSum, IdealParts.firstSum, IdealParts.zero1, zero_add,
    Finset.sum_congr rfl fun p _ => first_0 V c p k, Finset.sum_congr rfl fun p _ => first_1 V c p k]
  exact sum_half fun r => layerOne (V c main_v5) (V c main_arg3) (V c main_v6) r k

/-- The second accumulated row is the batch's sum of its squares. -/
theorem stats_sq (k : Fin 128) :
    IdealStats.sqB V c (ix2 0 k)
      = ∑ r, layerOne (V c main_v5) (V c main_arg3) (V c main_v6) r k * layerOne (V c main_v5) (V c main_arg3) (V c main_v6) r k := by
  unfold IdealStats.sqB IdealStats.sqA
  rw [IdealParts.firstSq, IdealParts.firstSq, IdealParts.zero2, zero_add,
    Finset.sum_congr rfl fun p _ => congrArg₂ (· * ·) (first_0 V c p k) (first_0 V c p k),
    Finset.sum_congr rfl fun p _ => congrArg₂ (· * ·) (first_1 V c p k) (first_1 V c p k)]
  exact sum_half fun r => layerOne (V c main_v5) (V c main_arg3) (V c main_v6) r k * layerOne (V c main_v5) (V c main_arg3) (V c main_v6) r k

/-! ## The second kernel -/

/-- The first layer of row `r`, normalised by the accumulated rows `s` and `q`. -/
def normOne (s q : Vec Ideal S1x128 .f32) (r : Fin 16384) (k : Fin 128) : EReal :=
  Network.normOf (s (ix2 0 k)) (q (ix2 0 k)) (V c main_v9 (ix2 0 k)) (V c main_v10 (ix2 0 k))
    (layerOne (V c main_v5) (V c main_arg3) (V c main_v8) r k)

/-- The third layer of row `r`. -/
def layerThree (s q : Vec Ideal S1x128 .f32) (r : Fin 16384) (k : Fin 128) : EReal :=
  Network.layer2 (fun i k => V c main_v12 (ix2 i k)) (fun i k => V c main_v4 (ix2 i k)) (fun k => V c main_v13 (ix2 0 k))
    (Network.layer (fun i k => V c main_arg7 (ix2 i k)) (fun k => V c main_v11 (ix2 0 k)) (normOne V c s q r)) (fun i => V c main_v2 (ix2 r i)) k

/-- The result's row `r`. -/
def resultOf (s q : Vec Ideal S1x128 .f32) (r : Fin 16384) : EReal :=
  Ideal.logistic (∑ i, Network.layer (fun i k => V c main_arg15 (ix2 i k)) (fun k => V c main_v17 (ix2 0 k))
      (Network.layer (fun i k => V c main_arg13 (ix2 i k)) (fun k => V c main_v16 (ix2 0 k))
        (fun k => Network.norm' (fun r => layerThree V c s q r k) (V c main_v14 (ix2 0 k)) (V c main_v15 (ix2 0 k)) r)) i
      * V c main_arg17 (ix2 i 0) + V c main_v18 (ix2 0 0))

variable {s q : Vec Ideal S1x128 .f32} (hst : V c main_v7 = rows2 s q)
include hst

theorem act_of (t : Fin cfg2.N) (h : Fin 2) (e : ∀ i p, IdealMlp.i0 V c t (ix2 i p) = V c main_v5 (ix2 i (half h p))) (p : Fin 8192) (k : Fin 128) :
    IdealMlpRun.act (IdealMlp.i0 V c t) (IdealMlp.i2 V c t) (IdealMlp.i3 V c t) (IdealMlp.i4 V c t) (IdealMlp.i5 V c t) (IdealMlp.i6 V c t) (ix2 p k)
      = normOne V c s q (half h p) k := by
  rw [IdealBlocks.i2_eq, IdealBlocks.i3_eq, IdealBlocks.i4_eq, IdealBlocks.i5_eq, IdealBlocks.i6_eq, hst]
  unfold IdealMlpRun.act
  rw [ld_rows2_0, ld_rows2_1, IdealParts.firstNorm]
  unfold normOne layerOne
  refine congrArg (fun v => Network.normOf _ _ _ _ (Network.layer _ _ v k)) (funext fun i => e i p)

theorem third_of (t : Fin cfg2.N) (h : Fin 2) (e : ∀ i p, IdealMlp.i0 V c t (ix2 i p) = V c main_v5 (ix2 i (half h p)))
    (e1 : ∀ p j, IdealMlp.i1 V c t (ix2 p j) = V c main_v2 (ix2 (half h p) j)) (p : Fin 8192) (k : Fin 128) :
    k2_pay7 (F := Ideal) (IdealMlpRun.act (IdealMlp.i0 V c t) (IdealMlp.i2 V c t) (IdealMlp.i3 V c t) (IdealMlp.i4 V c t) (IdealMlp.i5 V c t) (IdealMlp.i6 V c t))
        (IdealMlp.i7 V c t) (IdealMlp.i8 V c t) (IdealMlp.i9 V c t) (IdealMlp.i1 V c t) (IdealMlp.i10 V c t) (IdealMlp.i11 V c t) (ix2 p k)
      = layerThree V c s q (half h p) k := by
  rw [IdealParts.third, IdealBlocks.i7_eq, IdealBlocks.i8_eq, IdealBlocks.i9_eq, IdealBlocks.i10_eq, IdealBlocks.i11_eq]
  unfold layerThree
  exact congrArg₂ (fun v w => Network.layer2 _ _ _ (Network.layer _ _ v) w k) (funext fun i => act_of V c hst t h e p i) (funext fun i => e1 p i)

theorem third_0 (p : Fin 8192) (k : Fin 128) :
    k2_pay7 (F := Ideal) (IdealMlpRun.act (IdealMlp.i0 V c t2_0) (IdealMlp.i2 V c t2_0) (IdealMlp.i3 V c t2_0) (IdealMlp.i4 V c t2_0) (IdealMlp.i5 V c t2_0) (IdealMlp.i6 V c t2_0))
        (IdealMlp.i7 V c t2_0) (IdealMlp.i8 V c t2_0) (IdealMlp.i9 V c t2_0) (IdealMlp.i1 V c t2_0) (IdealMlp.i10 V c t2_0) (IdealMlp.i11 V c t2_0) (ix2 p k)
      = layerThree V c s q (half 0 p) k :=
  third_of V c hst t2_0 0 (IdealBlocks.i0_0 V c) (IdealBlocks.i1_0 V c) p k
theorem third_1 (p : Fin 8192) (k : Fin 128) :
    k2_pay7 (F := Ideal) (IdealMlpRun.act (IdealMlp.i0 V c t2_1) (IdealMlp.i2 V c t2_1) (IdealMlp.i3 V c t2_1) (IdealMlp.i4 V c t2_1) (IdealMlp.i5 V c t2_1) (IdealMlp.i6 V c t2_1))
        (IdealMlp.i7 V c t2_1) (IdealMlp.i8 V c t2_1) (IdealMlp.i9 V c t2_1) (IdealMlp.i1 V c t2_1) (IdealMlp.i10 V c t2_1) (IdealMlp.i11 V c t2_1) (ix2 p k)
      = layerThree V c s q (half 1 p) k :=
  third_of V c hst t2_1 1 (IdealBlocks.i0_1 V c) (IdealBlocks.i1_1 V c) p k

/-- The first accumulated row is the batch's sum of the third layer. -/
theorem mlp_sum (k : Fin 128) : IdealMlp.sumB V c (ix2 0 k) = ∑ r, layerThree V c s q r k := by
  unfold IdealMlp.sumB IdealMlp.sumA IdealMlp.addS
  rw [IdealParts.thirdSum, IdealParts.thirdSum, IdealParts.zero4, zero_add,
    Finset.sum_congr rfl fun p _ => third_0 V c hst p k, Finset.sum_congr rfl fun p _ => third_1 V c hst p k]
  exact sum_half fun r => layerThree V c s q r k

/-- The second accumulated row is the batch's sum of its squares. -/
theorem mlp_sq (k : Fin 128) : IdealMlp.sqB V c (ix2 0 k) = ∑ r, layerThree V c s q r k * layerThree V c s q r k := by
  unfold IdealMlp.sqB IdealMlp.sqA IdealMlp.addQ
  rw [IdealParts.thirdSq, IdealParts.thirdSq, IdealParts.zero5, zero_add,
    Finset.sum_congr rfl fun p _ => congrArg₂ (· * ·) (third_0 V c hst p k) (third_0 V c hst p k),
    Finset.sum_congr rfl fun p _ => congrArg₂ (· * ·) (third_1 V c hst p k) (third_1 V c hst p k)]
  exact sum_half fun r => layerThree V c s q r k * layerThree V c s q r k

theorem out_of (t : Fin cfg2.N) (h : Fin 2) (A : Vec Ideal S8192x128 .f32) (e : ∀ p k, A (ix2 p k) = layerThree V c s q (half h p) k) (p : Fin 8192) :
    IdealMlp.outAt V c t A (ix2 0 p) = resultOf V c s q (half h p) := by
  have hs := mlp_sum V c hst
  have hq := mlp_sq V c hst
  unfold IdealMlp.outAt
  generalize IdealMlp.sumB V c = S at hs ⊢
  generalize IdealMlp.sqB V c = Q at hq ⊢
  rw [IdealBlocks.i12_eq, IdealBlocks.i13_eq, IdealBlocks.i14_eq, IdealBlocks.i15_eq, IdealBlocks.i16_eq, IdealBlocks.i17_eq, IdealBlocks.i18_eq,
    IdealBlocks.i19_eq, IdealParts.last]
  unfold resultOf
  refine congrArg (fun v => Ideal.logistic (v + V c main_v18 (ix2 0 0))) (Finset.sum_congr rfl fun i _ => ?_)
  rw [IdealParts.fifth, mul_comm]
  refine congrArg (fun v => Network.layer (fun i k => V c main_arg15 (ix2 i k)) (fun k => V c main_v17 (ix2 0 k))
    (Network.layer (fun i k => V c main_arg13 (ix2 i k)) (fun k => V c main_v16 (ix2 0 k)) v) i * V c main_arg17 (ix2 i 0)) (funext fun k => ?_)
  unfold Network.norm'
  rw [hs, hq, e]

/-- What the second kernel leaves, a row at a time. -/
theorem result_apply (r : Fin 16384) : IdealMlp.result V c (ix2 0 r) = resultOf V c s q r := by
  have h0 : ∀ p k, IdealMlp.blkAt V c t2_0 (ix2 p k) = layerThree V c s q (half 0 p) k := fun p k =>
    (IdealParts.thirdKept _ _ _ _ _ _ _ p k).trans (third_0 V c hst p k)
  have h1 : ∀ p k, IdealMlp.blkAt V c t2_1 (ix2 p k) = layerThree V c s q (half 1 p) k := fun p k =>
    (IdealParts.thirdKept _ _ _ _ _ _ _ p k).trans (third_1 V c hst p k)
  unfold IdealMlp.result IdealMlp.joined
  by_cases hr : r.val < 8192
  · rw [dif_pos (show ((ix2 (0 : Fin 1) r : S1x16384.Idx) 1 : ℕ) < 8192 from hr)]
    have e : half 0 ⟨r.val, hr⟩ = r := Fin.ext (by simp [half])
    have := out_of V c hst t2_2 0 _ h0 ⟨r.val, hr⟩
    rw [e] at this
    refine Eq.trans (congrArg _ (funext fun a => ?_)) this
    match a with
    | ⟨0, _⟩ => rfl
    | ⟨1, _⟩ => rfl
  · rw [dif_neg (show ¬ ((ix2 (0 : Fin 1) r : S1x16384.Idx) 1 : ℕ) < 8192 from hr)]
    have e : half 1 ⟨r.val - 8192, by omega⟩ = r := Fin.ext (by simp [half]; omega)
    have := out_of V c hst t2_3 1 _ h1 ⟨r.val - 8192, by omega⟩
    rw [e] at this
    refine Eq.trans (congrArg _ (funext fun a => ?_)) this
    match a with
    | ⟨0, _⟩ => rfl
    | ⟨1, _⟩ => rfl

end Cert.Proof.IdealNet

end
-- ==== Proof.IdealArrays.lean ====
/-
  The arrays the kernel's calls are entered with, as entries of the arguments.
-/
module

public import proofs.«01_k».proof.Proof.IdealEnd
public import Idealize.ShloMosaic.Lib.Pointwise
public import Idealize.ShloMosaic.Lib.Pointwise.IndexBridge

@[expose] public section

noncomputable section

namespace Cert.Proof.IdealArrays

open Cert.KernelIdeal Cert.KernelIdeal.Gen
open Idealize.ShloMosaic Idealize.ShloMosaic.TcCoe
open Cert.Proof.IdealHost Cert.Proof.IdealEnd

variable (m : (ℓ : Loc nD τ sig) → Buf (Elt Ideal) ℓ) (d : Dev nD)

/-- An argument after the first TensorCore call. -/
theorem WB'_arg (b : Ref sig .tc) (h : b ∉ written) : WB' m d (Proc.devRef .tc b) = m (d, Proc.devRef .tc b) := by
  refine (upd_ne _ _ ?_).trans (WB_arg m d b h)
  simp only [List.mem_cons, List.not_mem_nil, or_false, not_or] at h
  simp [h]

/-! ## Before the second TensorCore call -/

theorem v8_apply (k : Fin 128) : WC m d (Proc.devRef .tc main_v8) (ix2 0 k) = m (d, Proc.devRef (τ := τ) .tc main_arg4) (ix1 k) := by
  have e : WC m d (Proc.devRef .tc main_v8) = shapeCast S1x128 (m (d, Proc.devRef (τ := τ) .tc main_arg4)) shapeCasts_S128_S1x128 := by
    rw [← WB'_arg m d main_arg4 (by decide)]
    unfold WC opsC
    simp
    rfl
  rw [e]
  pointwise []

theorem v9_apply (k : Fin 128) : WC m d (Proc.devRef .tc main_v9) (ix2 0 k) = m (d, Proc.devRef (τ := τ) .tc main_arg5) (ix1 k) := by
  have e : WC m d (Proc.devRef .tc main_v9) = shapeCast S1x128 (m (d, Proc.devRef (τ := τ) .tc main_arg5)) shapeCasts_S128_S1x128 := by
    rw [← WB'_arg m d main_arg5 (by decide)]
    unfold WC opsC
    simp
    rfl
  rw [e]
  pointwise []

theorem v10_apply (k : Fin 128) : WC m d (Proc.devRef .tc main_v10) (ix2 0 k) = m (d, Proc.devRef (τ := τ) .tc main_arg6) (ix1 k) := by
  have e : WC m d (Proc.devRef .tc main_v10) = shapeCast S1x128 (m (d, Proc.devRef (τ := τ) .tc main_arg6)) shapeCasts_S128_S1x128 := by
    rw [← WB'_arg m d main_arg6 (by decide)]
    unfold WC opsC
    simp
    rfl
  rw [e]
  pointwise []

theorem v11_apply (k : Fin 64) : WC m d (Proc.devRef .tc main_v11) (ix2 0 k) = m (d, Proc.devRef (τ := τ) .tc main_arg8) (ix1 k) := by
  have e : WC m d (Proc.devRef .tc main_v11) = shapeCast S1x64 (m (d, Proc.devRef (τ := τ) .tc main_arg8)) shapeCasts_S64_S1x64 := by
    rw [← WB'_arg m d main_arg8 (by decide)]
    unfold WC opsC
    simp
    rfl
  rw [e]
  pointwise []

theorem v13_apply (k : Fin 128) : WC m d (Proc.devRef .tc main_v13) (ix2 0 k) = m (d, Proc.devRef (τ := τ) .tc main_arg10) (ix1 k) := by
  have e : WC m d (Proc.devRef .tc main_v13) = shapeCast S1x128 (m (d, Proc.devRef (τ := τ) .tc main_arg10)) shapeCasts_S128_S1x128 := by
    rw [← WB'_arg m d main_arg10 (by decide)]
    unfold WC opsC
    simp
    rfl
  rw [e]
  pointwise []

theorem v14_apply (k : Fin 128) : WC m d (Proc.devRef .tc main_v14) (ix2 0 k) = m (d, Proc.devRef (τ := τ) .tc main_arg11) (ix1 k) := by
  have e : WC m d (Proc.devRef .tc main_v14) = shapeCast S1x128 (m (d, Proc.devRef (τ := τ) .tc main_arg11)) shapeCasts_S128_S1x128 := by
    rw [← WB'_arg m d main_arg11 (by decide)]
    unfold WC opsC
    simp
    rfl
  rw [e]
  pointwise []

theorem v15_apply (k : Fin 128) : WC m d (Proc.devRef .tc main_v15) (ix2 0 k) = m (d, Proc.devRef (τ := τ) .tc main_arg12) (ix1 k) := by
  have e : WC m d (Proc.devRef .tc main_v15) = shapeCast S1x128 (m (d, Proc.devRef (τ := τ) .tc main_arg12)) shapeCasts_S128_S1x128 := by
    rw [← WB'_arg m d main_arg12 (by decide)]
    unfold WC opsC
    simp
    rfl
  rw [e]
  pointwise []

theorem v16_apply (k : Fin 64) : WC m d (Proc.devRef .tc main_v16) (ix2 0 k) = m (d, Proc.devRef (τ := τ) .tc main_arg14) (ix1 k) := by
  have e : WC m d (Proc.devRef .tc main_v16) = shapeCast S1x64 (m (d, Proc.devRef (τ := τ) .tc main_arg14)) shapeCasts_S64_S1x64 := by
    rw [← WB'_arg m d main_arg14 (by decide)]
    unfold WC opsC
    simp
    rfl
  rw [e]
  pointwise []

theorem v17_apply (k : Fin 32) : WC m d (Proc.devRef .tc main_v17) (ix2 0 k) = m (d, Proc.devRef (τ := τ) .tc main_arg16) (ix1 k) := by
  have e : WC m d (Proc.devRef .tc main_v17) = shapeCast S1x32 (m (d, Proc.devRef (τ := τ) .tc main_arg16)) shapeCasts_S32_S1x32 := by
    rw [← WB'_arg m d main_arg16 (by decide)]
    unfold WC opsC
    simp
    rfl
  rw [e]
  pointwise []

theorem v18_apply (k : Fin 1) : WC m d (Proc.devRef .tc main_v18) (ix2 0 k) = m (d, Proc.devRef (τ := τ) .tc main_arg18) (ix1 k) := by
  have e : WC m d (Proc.devRef .tc main_v18) = shapeCast S1x1 (m (d, Proc.devRef (τ := τ) .tc main_arg18)) shapeCasts_S1_S1x1 := by
    rw [← WB'_arg m d main_arg18 (by decide)]
    unfold WC opsC
    simp
    rfl
  rw [e]
  pointwise []
  rw [Fin.fin_one_eq_zero k]

/-- The upper half of the third weight. -/
theorem v12_apply (i : Fin 64) (k : Fin 128) :
    WC m d (Proc.devRef .tc main_v12) (ix2 i k) = m (d, Proc.devRef (τ := τ) .tc main_arg9) (ix2 (⟨i.val, by omega⟩ : Fin 128) k) := by
  have e : WC m d (Proc.devRef .tc main_v12) = extractStridedSlice S64x128 ![0, 0] (m (d, Proc.devRef (τ := τ) .tc main_arg9)) slices_S128x128_S64x128_0_0 := by
    rw [← WB'_arg m d main_arg9 (by decide)]
    unfold WC opsC
    simp
    rfl
  rw [e]
  pointwise []

/-- The first kernel's two rows. -/
theorem v7_eq : WC m d (Proc.devRef .tc main_v7)
    = IdealStatsRun.rows2 (IdealStats.sumB (tcv (WB m)) d) (IdealStats.sqB (tcv (WB m)) d) :=
  (keepC _ main_v7 (by decide)).trans (upd_self _ _ _)

/-! ## Before the first TensorCore call -/

/-- The features, transposed. -/
theorem WB_v5_apply (i : Fin 8) (r : Fin 16384) :
    WB m d (Proc.devRef .tc main_v5) (ix2 i r) = m (d, Proc.devRef (τ := τ) .tc main_arg0) (ix2 r i) := by
  have e : WB m d (Proc.devRef .tc main_v5) = transpose S8x16384 [1, 0] (m (d, Proc.devRef (τ := τ) .tc main_arg0)) transposes_S16384x8_S8x16384_1_0 := by
    rw [← WA_arg m d main_arg0 (by decide)]
    unfold WB opsB
    simp
    rfl
  rw [e]
  pointwise []

theorem WB_v6_apply (k : Fin 128) : WB m d (Proc.devRef .tc main_v6) (ix2 0 k) = m (d, Proc.devRef (τ := τ) .tc main_arg4) (ix1 k) := by
  have e : WB m d (Proc.devRef .tc main_v6) = shapeCast S1x128 (m (d, Proc.devRef (τ := τ) .tc main_arg4)) shapeCasts_S128_S1x128 := by
    rw [← WA_arg m d main_arg4 (by decide)]
    unfold WB opsB
    simp
    rfl
  rw [e]
  pointwise []

/-- The padding value. -/
theorem pad_zero : (FloatOps.sitofp (F := Ideal) .f32 0#32 : EReal) = 0 := by
  show (((0#32 : BitVec 32).toInt : ℝ) : EReal) = 0; simp

theorem WB_v4_eq : WB m d (Proc.devRef .tc main_v4)
    = pad S128x128 ![0, 0] ![64, 0] ![0, 0]
        (extractStridedSlice S64x128 ![64, 0] (m (d, Proc.devRef (τ := τ) .tc main_arg9)) slices_S128x128_S64x128_64_0)
        (sitofp (F := Ideal) .f32 (constantI S_ 32 0#32)) pads_S64x128_S128x128_0640_000 h_S_ := by
  rw [← WA_arg m d main_arg9 (by decide)]
  unfold WB opsB
  simp
  rfl

/-- The lower half of the third weight, and zeros below it. -/
theorem WB_v4_top (i : Fin 64) (k : Fin 128) :
    WB m d (Proc.devRef .tc main_v4) (ix2 (⟨i.val, by omega⟩ : Fin 128) k) = m (d, Proc.devRef (τ := τ) .tc main_arg9) (ix2 (⟨64 + i.val, by omega⟩ : Fin 128) k) := by
  rw [WB_v4_eq]
  pointwise []
theorem WB_v4_bottom (i : Fin 64) (k : Fin 128) :
    WB m d (Proc.devRef .tc main_v4) (ix2 (⟨64 + i.val, by omega⟩ : Fin 128) k) = (0 : EReal) := by
  rw [WB_v4_eq]
  pointwise []
  exact pad_zero

/-! ## What these are at the second TensorCore call -/

theorem WC_v5 : WC m d (Proc.devRef .tc main_v5) = WB m d (Proc.devRef .tc main_v5) :=
  (keepC _ main_v5 (by decide)).trans (upd_ne _ _ (by decide))
theorem WC_v4 : WC m d (Proc.devRef .tc main_v4) = WB m d (Proc.devRef .tc main_v4) :=
  (keepC _ main_v4 (by decide)).trans (upd_ne _ _ (by decide))

/-- The gathered rows. -/
theorem v2_eq : WC m d (Proc.devRef .tc main_v2) = IdealTile.out (tab m) (ids m) d :=
  (keepC _ main_v2 (by decide)).trans ((upd_ne _ _ (by decide)).trans ((keepB _ main_v2 (by decide)).trans (upd_self _ _ _)))

theorem tab_eq : tab m d = pad S1500x128 ![0, 0] ![0, 64] ![0, 0] (m (d, Proc.devRef (τ := τ) .tc main_arg2))
    (sitofp (F := Ideal) .f32 (constantI S_ 32 0#32)) pads_S1500x64_S1500x128_000_0640 h_S_ := by
  unfold tab WA opsA
  simp
  rfl

/-- The left half of a table padded on the right. -/
theorem pad_left (x : FVec Ideal S1500x64 .f32) (v : FVec Ideal S_ .f32) (n : Fin 1500) (j : Fin 64) :
    pad S1500x128 ![0, 0] ![0, 64] ![0, 0] x v pads_S1500x64_S1500x128_000_0640 h_S_ (ix2 n (⟨j.val, by omega⟩ : Fin 128)) = x (ix2 n j) := by
  pointwise []

/-- The padded table's left half is the table. -/
theorem tab_left (n : Fin 1500) (j : Fin 64) : tab m d (ix2 n (⟨j.val, by omega⟩ : Fin 128)) = m (d, Proc.devRef (τ := τ) .tc main_arg2) (ix2 n j) := by
  rw [tab_eq]
  exact pad_left _ _ n j

theorem ids_apply (r : Fin 16384) (a : Fin 128) (b : Fin 128) (h : r.val = 128 * a.val + b.val) :
    ids m d (ix2 a b) = m (d, Proc.devRef (τ := τ) .tc main_arg1) (ix1 r) := by
  rw [ids_eq]
  pointwise []
  exact congrArg _ (congrArg ix1 (Fin.ext (by simp [h, Nat.mul_comm])))

/-- The left half of a gathered row is the table's row. -/
theorem v2_apply (r : Fin 16384) (j : Fin 64) (h : (m (d, Proc.devRef (τ := τ) .tc main_arg1) (ix1 r) : BitVec 32).toNat < 1500) :
    WC m d (Proc.devRef .tc main_v2) (ix2 r (⟨j.val, by omega⟩ : Fin 128))
      = m (d, Proc.devRef (τ := τ) .tc main_arg2) (ix2 (⟨(m (d, Proc.devRef (τ := τ) .tc main_arg1) (ix1 r) : BitVec 32).toNat, h⟩ : Fin 1500) j) := by
  rw [v2_eq]
  refine Eq.trans ?_ (tab_left m d _ j)
  have hi := ids_apply m d r ⟨r.val / 128, by omega⟩ ⟨r.val % 128, by omega⟩ (by simp; omega)
  refine congrArg (tab m d) (funext fun a => Fin.ext ?_)
  match a with
  | ⟨0, _⟩ =>
    refine Eq.trans (congrArg (fun w : BitVec 32 => w.toNat % 1500) (Eq.trans (congrArg (ids m d) (funext fun a => ?_)) hi)) (Nat.mod_eq_of_lt h)
    match a with
    | ⟨0, _⟩ => rfl
    | ⟨1, _⟩ => rfl
  | ⟨1, _⟩ => rfl

/-- The result's column is the second kernel's row. -/
theorem resultAt_apply (r : Fin 16384) : resultAt m d (ix2 r 0) = IdealMlp.result (tcv (WC m)) d (ix2 0 r) := by
  have e : resultAt m d = shapeCast S16384x1 (WC' m d (Proc.devRef .tc main_v19)) shapeCasts_S1x16384_S16384x1 := by
    unfold resultAt WD opsD
    simp
    rfl
  rw [e, show WC' m d (Proc.devRef .tc main_v19) = IdealMlp.result (tcv (WC m)) d from upd_self _ _ _]
  generalize IdealMlp.result (tcv (WC m)) d = x
  pointwise []

end Cert.Proof.IdealArrays

end
-- ==== Proof.IdealResult.lean ====
/-
  The kernel's result as the network of its arguments.
-/
module

public import proofs.«01_k».proof.Proof.IdealNet
public import proofs.«01_k».proof.Proof.IdealArrays
public import proofs.«01_k».proof.Proof.NetworkArgs

@[expose] public section

noncomputable section

namespace Cert.Proof.IdealResult

open Cert.KernelIdeal Cert.KernelIdeal.Gen
open Idealize.ShloMosaic Idealize.ShloMosaic.TcCoe
open Cert.Proof.IdealHost Cert.Proof.IdealEnd Cert.Proof.IdealArrays

/-- A layer over two inputs whose second weight ends in rows of zeros does not see the end of the second input. -/
theorem layer2_pad {n p : ℕ} (w : Fin n → Fin p → EReal) {u : Fin 128 → Fin p → EReal} {u' : Fin 64 → Fin p → EReal} (b : Fin p → EReal)
    (v : Fin n → EReal) {e : Fin 128 → EReal} {e' : Fin 64 → EReal} (k : Fin p) (hu : ∀ i : Fin 64, u ⟨i.val, by omega⟩ k = u' i k)
    (hz : ∀ i : Fin 64, u ⟨64 + i.val, by omega⟩ k = 0) (he : ∀ i : Fin 64, e ⟨i.val, by omega⟩ = e' i) :
    Network.layer2 w u b v e k = Network.layer2 w u' b v e' k := by
  have h : ∑ i, e i * u i k = ∑ i, e' i * u' i k := by
    rw [Fin.sum_univ_add (a := 64) (b := 64) (f := fun i => e i * u i k),
      Finset.sum_eq_zero (f := fun i : Fin 64 => e (Fin.natAdd 64 i) * u (Fin.natAdd 64 i) k) (fun i _ => by
        rw [show u (Fin.natAdd 64 i) k = 0 from hz i, mul_zero]), add_zero]
    exact Finset.sum_congr rfl fun i _ => congrArg₂ (· * ·) (he i) (hu i)
  unfold Network.layer2
  rw [h]

variable (m : (ℓ : Loc nD τ sig) → Buf (Elt Ideal) ℓ) (d : Dev nD)

/-- An argument by its number, as the network takes it. -/
abbrev arg (b : Ref sig .tc) : b.ty.Contents (Elt Ideal) := m (d, Proc.devRef (τ := τ) .tc b)

/-- The first layer of a row, of the arguments. -/
def one (r : Fin 16384) : Fin 128 → EReal :=
  Network.layer (fun i k => arg m d main_arg3 (ix2 i k)) (fun k => arg m d main_arg4 (ix1 k)) (fun i => arg m d main_arg0 (ix2 r i))

theorem one_B (r : Fin 16384) (k : Fin 128) :
    IdealNet.layerOne (tcv (WB m) d main_v5) (tcv (WB m) d main_arg3) (tcv (WB m) d main_v6) r k = one m d r k := by
  unfold IdealNet.layerOne one
  rw [show tcv (WB m) d main_arg3 = arg m d main_arg3 from WB_arg m d main_arg3 (by decide)]
  exact congrArg₂ (fun b v => Network.layer _ b v k) (funext fun k => WB_v6_apply m d k) (funext fun i => WB_v5_apply m d i r)

theorem one_C (r : Fin 16384) (k : Fin 128) :
    IdealNet.layerOne (tcv (WC m) d main_v5) (tcv (WC m) d main_arg3) (tcv (WC m) d main_v8) r k = one m d r k := by
  unfold IdealNet.layerOne one
  rw [show tcv (WC m) d main_arg3 = arg m d main_arg3 from WC_arg m d main_arg3 (by decide),
    show tcv (WC m) d main_v5 = WB m d (Proc.devRef .tc main_v5) from WC_v5 m d]
  exact congrArg₂ (fun b v => Network.layer _ b v k) (funext fun k => v8_apply m d k) (funext fun i => WB_v5_apply m d i r)

/-- The first layer of a row, normalised. -/
theorem norm_C (r : Fin 16384) (k : Fin 128) :
    IdealNet.normOne (tcv (WC m)) d (IdealStats.sumB (tcv (WB m)) d) (IdealStats.sqB (tcv (WB m)) d) r k
      = Network.norm' (fun r => one m d r k) (arg m d main_arg5 (ix1 k)) (arg m d main_arg6 (ix1 k)) r := by
  unfold IdealNet.normOne Network.norm'
  rw [IdealNet.stats_sum, IdealNet.stats_sq, one_C, Finset.sum_congr rfl fun r _ => one_B m d r k,
    Finset.sum_congr rfl fun r _ => congrArg₂ (· * ·) (one_B m d r k) (one_B m d r k)]
  exact congrArg₂ (fun g be => Network.normOf _ _ g be _) (v9_apply m d k) (v10_apply m d k)

/-- The third layer of a row, of the arguments. -/
def three (r : Fin 16384) : Fin 128 → EReal :=
  Network.layer2 (fun (i : Fin 64) k => arg m d main_arg9 (ix2 (⟨i.val, by omega⟩ : Fin 128) k))
    (fun (i : Fin 64) k => arg m d main_arg9 (ix2 (⟨64 + i.val, by omega⟩ : Fin 128) k)) (fun k => arg m d main_arg10 (ix1 k))
    (Network.layer (fun i k => arg m d main_arg7 (ix2 i k)) (fun k => arg m d main_arg8 (ix1 k))
      (fun k => Network.norm' (fun r => one m d r k) (arg m d main_arg5 (ix1 k)) (arg m d main_arg6 (ix1 k)) r))
    (Network.embRow (arg m d main_arg2) (arg m d main_arg1) r)

variable (h : ∀ i : S16384.Idx, (show BitVec 32 from m (d, Proc.devRef (τ := τ) .tc main_arg1) i).toNat < 1500)
include h

theorem three_C (r : Fin 16384) (k : Fin 128) :
    IdealNet.layerThree (tcv (WC m)) d (IdealStats.sumB (tcv (WB m)) d) (IdealStats.sqB (tcv (WB m)) d) r k = three m d r k := by
  unfold IdealNet.layerThree three
  rw [show tcv (WC m) d main_arg7 = arg m d main_arg7 from WC_arg m d main_arg7 (by decide),
    show tcv (WC m) d main_v4 = WB m d (Proc.devRef .tc main_v4) from WC_v4 m d,
    show (fun (i : Fin 64) (k : Fin 128) => tcv (WC m) d main_v12 (ix2 i k)) = _ from funext fun i => funext fun k => v12_apply m d i k,
    show (fun (k : Fin 128) => tcv (WC m) d main_v13 (ix2 0 k)) = _ from funext fun k => v13_apply m d k,
    show (fun (k : Fin 64) => tcv (WC m) d main_v11 (ix2 0 k)) = _ from funext fun k => v11_apply m d k,
    show IdealNet.normOne (tcv (WC m)) d (IdealStats.sumB (tcv (WB m)) d) (IdealStats.sqB (tcv (WB m)) d) r = _ from funext fun k => norm_C m d r k]
  exact layer2_pad _ _ _ k (fun i => WB_v4_top m d i k) (fun i => WB_v4_bottom m d i k)
    (fun i => (v2_apply m d r i (h (ix1 r))).trans (Network.embRow_of_lt (h (ix1 r)) i).symm)

/-- The result's row `r` is the network's. -/
theorem result_net (r : Fin 16384) : resultAt m d (ix2 r 0)
    = Network.ofArgs Network.norm' (arg m d main_arg0) (arg m d main_arg1) (arg m d main_arg2) (arg m d main_arg3) (arg m d main_arg4) (arg m d main_arg5)
        (arg m d main_arg6) (arg m d main_arg7) (arg m d main_arg8) (arg m d main_arg9) (arg m d main_arg10) (arg m d main_arg11) (arg m d main_arg12)
        (arg m d main_arg13) (arg m d main_arg14) (arg m d main_arg15) (arg m d main_arg16) (arg m d main_arg17) (arg m d main_arg18) r := by
  rw [resultAt_apply, IdealNet.result_apply (tcv (WC m)) d (v7_eq m d)]
  unfold IdealNet.resultOf
  rw [show tcv (WC m) d main_arg15 = arg m d main_arg15 from WC_arg m d main_arg15 (by decide),
    show tcv (WC m) d main_arg13 = arg m d main_arg13 from WC_arg m d main_arg13 (by decide),
    show tcv (WC m) d main_arg17 = arg m d main_arg17 from WC_arg m d main_arg17 (by decide),
    show (fun (k : Fin 32) => tcv (WC m) d main_v17 (ix2 0 k)) = _ from funext fun k => v17_apply m d k,
    show (fun (k : Fin 64) => tcv (WC m) d main_v16 (ix2 0 k)) = _ from funext fun k => v16_apply m d k,
    show tcv (WC m) d main_v18 (ix2 0 0) = _ from v18_apply m d 0,
    show (fun k : Fin 128 => Network.norm' (fun r => IdealNet.layerThree (tcv (WC m)) d (IdealStats.sumB (tcv (WB m)) d) (IdealStats.sqB (tcv (WB m)) d) r k)
        (tcv (WC m) d main_v14 (ix2 0 k)) (tcv (WC m) d main_v15 (ix2 0 k)) r)
      = fun k => Network.norm' (fun r => three m d r k) (arg m d main_arg11 (ix1 k)) (arg m d main_arg12 (ix1 k)) r from funext fun k => by
        rw [show (fun r => IdealNet.layerThree (tcv (WC m)) d (IdealStats.sumB (tcv (WB m)) d) (IdealStats.sqB (tcv (WB m)) d) r k) = fun r => three m d r k
          from funext fun r => three_C m d h r k]
        exact congrArg₂ (fun g be => Network.norm' _ g be r) (v14_apply m d k) (v15_apply m d k)]
  rfl

end Cert.Proof.IdealResult

end
-- ==== Proof.Finite.lean ====
/-
  What the precondition of the value claim says: every row number is below 1500, and every entry of the arrays that
  the two normalisations are computed from is a real number.
-/
module

public import proofs.«01_k».proof.Pre_ids_in_range_and_finite
public import proofs.«01_k».proof.Proof.Gen.Pre_ids_in_range_and_finite
public import proofs.«01_k».proof.Proof.InRange
public import proofs.«01_k».proof.Proof.Network
public import Idealize.ShloMosaic.Lib.ReduceAll
public import Idealize.ShloMosaic.Lib.Affine

@[expose] public section

namespace Cert.Proof.Finite

open Idealize.ShloMosaic
open Cert.Proof.Network (IsReal)

/-- A value whose magnitude is below plus infinity is real. -/
theorem value (x : EReal) (h : Ideal.cmp .olt (max x (-x)) (Ideal.ofBits .f32 0x7F800000#32) = 1#1) : IsReal x := by
  have htop : Ideal.ofBits .f32 0x7F800000#32 = ⊤ := by simp [Ideal.ofBits, Ideal.ieee]
  rw [htop] at h
  unfold Ideal.cmp at h
  induction x with
  | bot => simp at h
  | top => simp at h
  | coe t => exact ⟨t, rfl⟩

/-- Where the conjunction over all elements of "magnitude below plus infinity" is 1, every element is real. -/
theorem all {s t u : Shape} {axes : List (Fin s.rank)} [Subsingleton t.Idx] (x b : FVec Ideal s .f32)
    (hb : ∀ i, b i = Ideal.ofBits .f32 0x7F800000#32) (init : IVec u 1) (h : s.ReducesTo axes t) (hu : 0 < u.numel) (j : t.Idx)
    (e : Host.reduce IntOp.andi (cmpf .olt (Host.absf x) b) init h hu j = 1#1) (i : s.Idx) : IsReal (x i) := by
  have h1 := Host.reduce_andi_all _ init h hu j e i
  refine value (x i) ?_
  rw [← hb i]; exact h1

/-- A conjunction that is 1 has both its parts 1. -/
theorem both {s : Shape} {a b : IVec s 1} {j : s.Idx} (e : andi a b j = 1#1) : a j = 1#1 ∧ b j = 1#1 := IntOp.andi_eq_one.mp e

/-- The precondition of the value claim. -/
theorem of_pre [Cert.Pre_ids_in_range_and_finite.Facts] (a0 a1 a2 a3 a4 a5 a6 a7 a8 a9 a10 a11 a12 a13 a14 a15 a16 a17 a18)
    (h : Cert.Pre_ids_in_range_and_finite.fn (F := Ideal) a0 a1 a2 a3 a4 a5 a6 a7 a8 a9 a10 a11 a12 a13 a14 a15 a16 a17 a18 = fun _ => 1#1) :
    (∀ i, (a1 i).toNat < 1500) ∧ (∀ i, IsReal (a0 i)) ∧ (∀ i, IsReal (a2 i)) ∧ (∀ i, IsReal (a3 i)) ∧ (∀ i, IsReal (a4 i)) ∧ (∀ i, IsReal (a5 i))
      ∧ (∀ i, IsReal (a6 i)) ∧ (∀ i, IsReal (a7 i)) ∧ (∀ i, IsReal (a8 i)) ∧ (∀ i, IsReal (a9 i)) ∧ (∀ i, IsReal (a10 i)) ∧ (∀ i, IsReal (a11 i)) := by
  unfold Cert.Pre_ids_in_range_and_finite.fn Cert.Pre_ids_in_range_and_finite.fn_part1 Cert.Pre_ids_in_range_and_finite.fn_part2
    Cert.Pre_ids_in_range_and_finite.fn_part3 at h
  have e := congrFun h (fun k => k.elim0)
  haveI : Subsingleton Cert.Pre_ids_in_range_and_finite.S_.Idx := ⟨fun x y => funext fun k => k.elim0⟩
  obtain ⟨e, e11⟩ := both e
  obtain ⟨e, e10⟩ := both e
  obtain ⟨e, e9⟩ := both e
  obtain ⟨e, e8⟩ := both e
  obtain ⟨e, e7⟩ := both e
  obtain ⟨e, e6⟩ := both e
  obtain ⟨e, e5⟩ := both e
  obtain ⟨e, e4⟩ := both e
  obtain ⟨e, e3⟩ := both e
  obtain ⟨e, e2⟩ := both e
  obtain ⟨e, e0⟩ := both e
  exact ⟨InRange.all a1 _ _ (fun _ => rfl) (fun _ => rfl) _ _ _ _ e, all a0 _ (fun _ => rfl) _ _ _ _ e0, all a2 _ (fun _ => rfl) _ _ _ _ e2,
    all a3 _ (fun _ => rfl) _ _ _ _ e3, all a4 _ (fun _ => rfl) _ _ _ _ e4, all a5 _ (fun _ => rfl) _ _ _ _ e5, all a6 _ (fun _ => rfl) _ _ _ _ e6,
    all a7 _ (fun _ => rfl) _ _ _ _ e7, all a8 _ (fun _ => rfl) _ _ _ _ e8, all a9 _ (fun _ => rfl) _ _ _ _ e9, all a10 _ (fun _ => rfl) _ _ _ _ e10,
    all a11 _ (fun _ => rfl) _ _ _ _ e11⟩

end Cert.Proof.Finite
-- ==== Proof.lean ====
/-
  The certificate: the two kernels and the reference end with their arguments unchanged and every semaphore at zero,
  rewriting changed nothing, and over the extended reals the kernel's result is the reference's.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.Pre_ids_in_range
public import proofs.«01_k».proof.Proof.Gen.Pre_ids_in_range_and_finite
public import proofs.«01_k».proof.Proof.Gen.ReferenceIdeal.Run
public import proofs.«01_k».proof.Proof.InRange
public import proofs.«01_k».proof.Proof.KernelEnd
public import proofs.«01_k».proof.Proof.IdealEnd
public import proofs.«01_k».proof.Proof.RefFrame
public import proofs.«01_k».proof.Proof.RefNet
public import proofs.«01_k».proof.Proof.IdealResult
public import proofs.«01_k».proof.Proof.Finite
public import Idealize.ShloMosaic.Adequacy
public import Idealize.ShloMosaic.Init

@[expose] public section

noncomputable section

namespace Cert.Proof

open Idealize.ShloMosaic Idealize.SL.Sem

instance : ∀ e, Nonempty (Elt Bits e) := fun e => by cases e <;> exact ⟨0⟩
instance : ∀ e, Nonempty (Elt Ideal e) := fun e => by cases e <;> exact ⟨0⟩

/-- The kernel as printed ends with its arguments as they were and every semaphore at zero. -/
theorem frame_kernel : Cert.quiescent_Kernel := fun m ρ hpre =>
  (θ_run _ _ _).mono (fun r hr => ⟨fun c => KernelEnd.args m c (hr.1 c).2, hr.2⟩)
    (KernelEnd.run (F := Bits) m ρ fun d i => InRange.of_pre (F := Bits) _ _ _ _ _ _ _ _ _ _ _ _ _ _ _ _ _ _ _ (hpre d) i)

/-- The same of the kernel over the extended reals. -/
theorem frame_ideal : Cert.quiescent_KernelIdeal := fun m ρ hpre =>
  (θ_run _ _ _).mono (fun r hr => ⟨fun c => IdealEnd.args m c (hr.1 c).2, hr.2⟩)
    (IdealEnd.run (F := Ideal) m ρ fun d i => InRange.of_pre (F := Ideal) _ _ _ _ _ _ _ _ _ _ _ _ _ _ _ _ _ _ _ (hpre d) i)

/-- The reference ends with its arguments as they were and every semaphore at zero. -/
theorem frame_reference : Cert.quiescent_ReferenceIdeal := fun m ρ _ =>
  (θ_run _ _ _).mono (fun _ hr => ⟨fun c => (hr.1 c).2, hr.2⟩) (RefFrame.quiet (Cert.ReferenceIdeal.Value.run (F := Ideal) m ρ))

/-- The kernel over the extended reals, where its values are also finite. -/
theorem frame_ideal_finite : Cert.quiescent_KernelIdeal_pre_ids_in_range_and_finite := fun m ρ hpre =>
  (θ_run _ _ _).mono (fun r hr => ⟨fun c => IdealEnd.args m c (hr.1 c).2, hr.2⟩)
    (IdealEnd.run (F := Ideal) m ρ fun d i => (Finite.of_pre _ _ _ _ _ _ _ _ _ _ _ _ _ _ _ _ _ _ _ (hpre d)).1 i)

/-- The reference, where its values are finite. -/
theorem frame_reference_finite : Cert.quiescent_ReferenceIdeal_pre_ids_in_range_and_finite := fun m ρ _ =>
  (θ_run _ _ _).mono (fun _ hr => ⟨fun c => (hr.1 c).2, hr.2⟩) (RefFrame.quiet (Cert.ReferenceIdeal.Value.run (F := Ideal) m ρ))

/-- On the same arguments the reference's result is the kernel's. -/
theorem same (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (hpre : Cert.Pre_ids_in_range_and_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) = fun _ => 1#1)
    (hargs : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) :
    (Cert.ReferenceIdeal.Value.res_main_v72 m' c : Cert.ReferenceIdeal.S16384x1.Idx → EReal) = IdealEnd.resultAt m c := by
  obtain ⟨h1, h0, h2, h3, h4, h5, h6, h7, h8, h9, h10, h11⟩ := Finite.of_pre _ _ _ _ _ _ _ _ _ _ _ _ _ _ _ _ _ _ _ hpre
  obtain ⟨e0, e1, e2, e3, e4, e5, e6, e7, e8, e9, e10, e11, e12, e13, e14, e15, e16, e17, e18⟩ := hargs
  funext y
  obtain ⟨r, z, rfl⟩ : ∃ (r : Fin 16384) (z : Fin 1), y = ix2 r z := ⟨y 0, y 1, eq_ix2 y⟩
  obtain rfl : z = 0 := Fin.fin_one_eq_zero z
  refine (RefParts.result_net m' c (fun i => ?_) r).trans (Eq.trans ?_ (IdealResult.result_net m c h1 r).symm)
  · have := h1 i
    rw [← e1] at this
    exact this
  rw [e0, e1, e2, e3, e4, e5, e6, e7, e8, e9, e10, e11, e12, e13, e14, e15, e16, e17, e18]
  exact (Network.ofArgs_eq h0 h2 h3 h4 h5 h6 h7 h8 h9 h10 h11 _ _ _ _ _ _ _ r).symm

/-- The kernel and the reference end with one result, and each with its arguments as they were. -/
theorem algebraic : Cert.algebraic_KernelIdeal_ReferenceIdeal_pre_ids_in_range_and_finite := fun m g m' g' hpre hargs =>
  ⟨fun c => IdealEnd.resultAt m c,
    (θ_run _ _ _).mono (fun r hr c => ⟨(hr.1 c).1, IdealEnd.args m c (hr.1 c).2⟩)
      (IdealEnd.run (F := Ideal) m g fun d i => (Finite.of_pre _ _ _ _ _ _ _ _ _ _ _ _ _ _ _ _ _ _ _ (hpre d)).1 i),
    (θ_run _ _ _).mono (fun r hr c => ⟨(hr c).1.trans (same m m' c (hpre c) (hargs c)), (hr c).2⟩) (Cert.ReferenceIdeal.Value.run (F := Ideal) m' g')⟩

/-- Everything the certificate claims. -/
theorem claim : Cert.Claim :=
  ⟨Cert.Kernel.Gen.facts, Cert.KernelIdeal.Gen.facts, Cert.ReferenceIdeal.Gen.facts, Cert.Pre_ids_in_range.Gen.facts, Cert.Pre_ids_in_range_and_finite.Gen.facts,
    frame_kernel, frame_ideal, frame_ideal_finite, frame_reference, frame_reference_finite, trivial, algebraic⟩

end Cert.Proof

end
